-- ==== Defs.lean ====
def Pre_Attn1 (m : (ℓ : Loc Cert.Attn1.nD Cert.Attn1.τ Cert.Attn1.sig) → Buf (Elt Bits) ℓ) : Prop :=
  True

def Pre_Attn1Ideal (m : (ℓ : Loc Cert.Attn1Ideal.nD Cert.Attn1Ideal.τ Cert.Attn1Ideal.sig) → Buf (Elt Ideal) ℓ) : Prop :=
  True

def Pre_Attn1Ideal_qkv_finite [hPre_qkv_finite : Cert.Pre_qkv_finite.Facts] (m : (ℓ : Loc Cert.Attn1Ideal.nD Cert.Attn1Ideal.τ Cert.Attn1Ideal.sig) → Buf (Elt Ideal) ℓ) : Prop :=
  ∀ c : Dev Cert.Attn1Ideal.nD,
    (Cert.Pre_qkv_finite.fn (F := Ideal) (m ((c.tc : Thread Cert.Attn1Ideal.nD Cert.Attn1Ideal.τ).loc Cert.Attn1Ideal.main_arg0))) = (fun _ => 1#1)

def Pre_AttnRef1Ideal (m : (ℓ : Loc Cert.AttnRef1Ideal.nD Cert.AttnRef1Ideal.τ Cert.AttnRef1Ideal.sig) → Buf (Elt Ideal) ℓ) : Prop :=
  True

def Pre_AttnRef1Ideal_qkv_finite [hPre_qkv_finite : Cert.Pre_qkv_finite.Facts] (m : (ℓ : Loc Cert.AttnRef1Ideal.nD Cert.AttnRef1Ideal.τ Cert.AttnRef1Ideal.sig) → Buf (Elt Ideal) ℓ) : Prop :=
  ∀ c : Dev Cert.AttnRef1Ideal.nD,
    (Cert.Pre_qkv_finite.fn (F := Ideal) (m ((c.tc : Thread Cert.AttnRef1Ideal.nD Cert.AttnRef1Ideal.τ).loc Cert.AttnRef1Ideal.main_arg0))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_proj_finite [hPre_proj_finite : Cert.Pre_proj_finite.Facts] (m : (ℓ : Loc Cert.ProjIdeal.nD Cert.ProjIdeal.τ Cert.ProjIdeal.sig) → Buf (Elt Ideal) ℓ) : Prop :=
  ∀ c : Dev Cert.ProjIdeal.nD,
    (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))).1 = (fun _ => 1#1)
    ∧ (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))).2.1 = (fun _ => 1#1)
    ∧ (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))).2.2 = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_proj_finite [hPre_proj_finite : Cert.Pre_proj_finite.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))).1 = (fun _ => 1#1)
    ∧ (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))).2.1 = (fun _ => 1#1)
    ∧ (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))).2.2 = (fun _ => 1#1)

def Pre_OutB (m : (ℓ : Loc Cert.OutB.nD Cert.OutB.τ Cert.OutB.sig) → Buf (Elt Bits) ℓ) : Prop :=
  True

def Pre_OutBIdeal (m : (ℓ : Loc Cert.OutBIdeal.nD Cert.OutBIdeal.τ Cert.OutBIdeal.sig) → Buf (Elt Ideal) ℓ) : Prop :=
  True

def Pre_OutBRefIdeal (m : (ℓ : Loc Cert.OutBRefIdeal.nD Cert.OutBRefIdeal.τ Cert.OutBRefIdeal.sig) → Buf (Elt Ideal) ℓ) : Prop :=
  True

def Pre_OutA (m : (ℓ : Loc Cert.OutA.nD Cert.OutA.τ Cert.OutA.sig) → Buf (Elt Bits) ℓ) : Prop :=
  True

def Pre_OutAIdeal (m : (ℓ : Loc Cert.OutAIdeal.nD Cert.OutAIdeal.τ Cert.OutAIdeal.sig) → Buf (Elt Ideal) ℓ) : Prop :=
  True

def Pre_OutARefIdeal (m : (ℓ : Loc Cert.OutARefIdeal.nD Cert.OutARefIdeal.τ Cert.OutARefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBIdeal_proj_b_finite [hPre_proj_b_finite : Cert.Pre_proj_b_finite.Facts] (m : (ℓ : Loc Cert.ProjBIdeal.nD Cert.ProjBIdeal.τ Cert.ProjBIdeal.sig) → Buf (Elt Ideal) ℓ) : Prop :=
  ∀ c : Dev Cert.ProjBIdeal.nD,
    (Cert.Pre_proj_b_finite.fn (F := Ideal) (m ((c.tc : Thread Cert.ProjBIdeal.nD Cert.ProjBIdeal.τ).loc Cert.ProjBIdeal.main_arg0)) (m ((c.tc : Thread Cert.ProjBIdeal.nD Cert.ProjBIdeal.τ).loc Cert.ProjBIdeal.main_arg1)) (m ((c.tc : Thread Cert.ProjBIdeal.nD Cert.ProjBIdeal.τ).loc Cert.ProjBIdeal.main_arg2)) (m ((c.tc : Thread Cert.ProjBIdeal.nD Cert.ProjBIdeal.τ).loc Cert.ProjBIdeal.main_arg3))).1 = (fun _ => 1#1)
    ∧ (Cert.Pre_proj_b_finite.fn (F := Ideal) (m ((c.tc : Thread Cert.ProjBIdeal.nD Cert.ProjBIdeal.τ).loc Cert.ProjBIdeal.main_arg0)) (m ((c.tc : Thread Cert.ProjBIdeal.nD Cert.ProjBIdeal.τ).loc Cert.ProjBIdeal.main_arg1)) (m ((c.tc : Thread Cert.ProjBIdeal.nD Cert.ProjBIdeal.τ).loc Cert.ProjBIdeal.main_arg2)) (m ((c.tc : Thread Cert.ProjBIdeal.nD Cert.ProjBIdeal.τ).loc Cert.ProjBIdeal.main_arg3))).2.1 = (fun _ => 1#1)
    ∧ (Cert.Pre_proj_b_finite.fn (F := Ideal) (m ((c.tc : Thread Cert.ProjBIdeal.nD Cert.ProjBIdeal.τ).loc Cert.ProjBIdeal.main_arg0)) (m ((c.tc : Thread Cert.ProjBIdeal.nD Cert.ProjBIdeal.τ).loc Cert.ProjBIdeal.main_arg1)) (m ((c.tc : Thread Cert.ProjBIdeal.nD Cert.ProjBIdeal.τ).loc Cert.ProjBIdeal.main_arg2)) (m ((c.tc : Thread Cert.ProjBIdeal.nD Cert.ProjBIdeal.τ).loc Cert.ProjBIdeal.main_arg3))).2.2 = (fun _ => 1#1)

def Pre_ProjBRefIdeal (m : (ℓ : Loc Cert.ProjBRefIdeal.nD Cert.ProjBRefIdeal.τ Cert.ProjBRefIdeal.sig) → Buf (Elt Ideal) ℓ) : Prop :=
  True

def Pre_ProjBRefIdeal_proj_b_finite [hPre_proj_b_finite : Cert.Pre_proj_b_finite.Facts] (m : (ℓ : Loc Cert.ProjBRefIdeal.nD Cert.ProjBRefIdeal.τ Cert.ProjBRefIdeal.sig) → Buf (Elt Ideal) ℓ) : Prop :=
  ∀ c : Dev Cert.ProjBRefIdeal.nD,
    (Cert.Pre_proj_b_finite.fn (F := Ideal) (m ((c.tc : Thread Cert.ProjBRefIdeal.nD Cert.ProjBRefIdeal.τ).loc Cert.ProjBRefIdeal.main_arg0)) (m ((c.tc : Thread Cert.ProjBRefIdeal.nD Cert.ProjBRefIdeal.τ).loc Cert.ProjBRefIdeal.main_arg1)) (m ((c.tc : Thread Cert.ProjBRefIdeal.nD Cert.ProjBRefIdeal.τ).loc Cert.ProjBRefIdeal.main_arg2)) (m ((c.tc : Thread Cert.ProjBRefIdeal.nD Cert.ProjBRefIdeal.τ).loc Cert.ProjBRefIdeal.main_arg3))).1 = (fun _ => 1#1)
    ∧ (Cert.Pre_proj_b_finite.fn (F := Ideal) (m ((c.tc : Thread Cert.ProjBRefIdeal.nD Cert.ProjBRefIdeal.τ).loc Cert.ProjBRefIdeal.main_arg0)) (m ((c.tc : Thread Cert.ProjBRefIdeal.nD Cert.ProjBRefIdeal.τ).loc Cert.ProjBRefIdeal.main_arg1)) (m ((c.tc : Thread Cert.ProjBRefIdeal.nD Cert.ProjBRefIdeal.τ).loc Cert.ProjBRefIdeal.main_arg2)) (m ((c.tc : Thread Cert.ProjBRefIdeal.nD Cert.ProjBRefIdeal.τ).loc Cert.ProjBRefIdeal.main_arg3))).2.1 = (fun _ => 1#1)
    ∧ (Cert.Pre_proj_b_finite.fn (F := Ideal) (m ((c.tc : Thread Cert.ProjBRefIdeal.nD Cert.ProjBRefIdeal.τ).loc Cert.ProjBRefIdeal.main_arg0)) (m ((c.tc : Thread Cert.ProjBRefIdeal.nD Cert.ProjBRefIdeal.τ).loc Cert.ProjBRefIdeal.main_arg1)) (m ((c.tc : Thread Cert.ProjBRefIdeal.nD Cert.ProjBRefIdeal.τ).loc Cert.ProjBRefIdeal.main_arg2)) (m ((c.tc : Thread Cert.ProjBRefIdeal.nD Cert.ProjBRefIdeal.τ).loc Cert.ProjBRefIdeal.main_arg3))).2.2 = (fun _ => 1#1)

def Pre_ProjKv (m : (ℓ : Loc Cert.ProjKv.nD Cert.ProjKv.τ Cert.ProjKv.sig) → Buf (Elt Bits) ℓ) : Prop :=
  True

def Pre_ProjKvIdeal (m : (ℓ : Loc Cert.ProjKvIdeal.nD Cert.ProjKvIdeal.τ Cert.ProjKvIdeal.sig) → Buf (Elt Ideal) ℓ) : Prop :=
  True

def Pre_ProjKvIdeal_proj_kv_finite [hPre_proj_kv_finite : Cert.Pre_proj_kv_finite.Facts] (m : (ℓ : Loc Cert.ProjKvIdeal.nD Cert.ProjKvIdeal.τ Cert.ProjKvIdeal.sig) → Buf (Elt Ideal) ℓ) : Prop :=
  ∀ c : Dev Cert.ProjKvIdeal.nD,
    (Cert.Pre_proj_kv_finite.fn (F := Ideal) (m ((c.tc : Thread Cert.ProjKvIdeal.nD Cert.ProjKvIdeal.τ).loc Cert.ProjKvIdeal.main_arg0)) (m ((c.tc : Thread Cert.ProjKvIdeal.nD Cert.ProjKvIdeal.τ).loc Cert.ProjKvIdeal.main_arg1)) (m ((c.tc : Thread Cert.ProjKvIdeal.nD Cert.ProjKvIdeal.τ).loc Cert.ProjKvIdeal.main_arg2)) (m ((c.tc : Thread Cert.ProjKvIdeal.nD Cert.ProjKvIdeal.τ).loc Cert.ProjKvIdeal.main_arg3))).1 = (fun _ => 1#1)
    ∧ (Cert.Pre_proj_kv_finite.fn (F := Ideal) (m ((c.tc : Thread Cert.ProjKvIdeal.nD Cert.ProjKvIdeal.τ).loc Cert.ProjKvIdeal.main_arg0)) (m ((c.tc : Thread Cert.ProjKvIdeal.nD Cert.ProjKvIdeal.τ).loc Cert.ProjKvIdeal.main_arg1)) (m ((c.tc : Thread Cert.ProjKvIdeal.nD Cert.ProjKvIdeal.τ).loc Cert.ProjKvIdeal.main_arg2)) (m ((c.tc : Thread Cert.ProjKvIdeal.nD Cert.ProjKvIdeal.τ).loc Cert.ProjKvIdeal.main_arg3))).2.1 = (fun _ => 1#1)
    ∧ (Cert.Pre_proj_kv_finite.fn (F := Ideal) (m ((c.tc : Thread Cert.ProjKvIdeal.nD Cert.ProjKvIdeal.τ).loc Cert.ProjKvIdeal.main_arg0)) (m ((c.tc : Thread Cert.ProjKvIdeal.nD Cert.ProjKvIdeal.τ).loc Cert.ProjKvIdeal.main_arg1)) (m ((c.tc : Thread Cert.ProjKvIdeal.nD Cert.ProjKvIdeal.τ).loc Cert.ProjKvIdeal.main_arg2)) (m ((c.tc : Thread Cert.ProjKvIdeal.nD Cert.ProjKvIdeal.τ).loc Cert.ProjKvIdeal.main_arg3))).2.2 = (fun _ => 1#1)

def Pre_ProjKvRefIdeal (m : (ℓ : Loc Cert.ProjKvRefIdeal.nD Cert.ProjKvRefIdeal.τ Cert.ProjKvRefIdeal.sig) → Buf (Elt Ideal) ℓ) : Prop :=
  True

def Pre_ProjKvRefIdeal_proj_kv_finite [hPre_proj_kv_finite : Cert.Pre_proj_kv_finite.Facts] (m : (ℓ : Loc Cert.ProjKvRefIdeal.nD Cert.ProjKvRefIdeal.τ Cert.ProjKvRefIdeal.sig) → Buf (Elt Ideal) ℓ) : Prop :=
  ∀ c : Dev Cert.ProjKvRefIdeal.nD,
    (Cert.Pre_proj_kv_finite.fn (F := Ideal) (m ((c.tc : Thread Cert.ProjKvRefIdeal.nD Cert.ProjKvRefIdeal.τ).loc Cert.ProjKvRefIdeal.main_arg0)) (m ((c.tc : Thread Cert.ProjKvRefIdeal.nD Cert.ProjKvRefIdeal.τ).loc Cert.ProjKvRefIdeal.main_arg1)) (m ((c.tc : Thread Cert.ProjKvRefIdeal.nD Cert.ProjKvRefIdeal.τ).loc Cert.ProjKvRefIdeal.main_arg2)) (m ((c.tc : Thread Cert.ProjKvRefIdeal.nD Cert.ProjKvRefIdeal.τ).loc Cert.ProjKvRefIdeal.main_arg3))).1 = (fun _ => 1#1)
    ∧ (Cert.Pre_proj_kv_finite.fn (F := Ideal) (m ((c.tc : Thread Cert.ProjKvRefIdeal.nD Cert.ProjKvRefIdeal.τ).loc Cert.ProjKvRefIdeal.main_arg0)) (m ((c.tc : Thread Cert.ProjKvRefIdeal.nD Cert.ProjKvRefIdeal.τ).loc Cert.ProjKvRefIdeal.main_arg1)) (m ((c.tc : Thread Cert.ProjKvRefIdeal.nD Cert.ProjKvRefIdeal.τ).loc Cert.ProjKvRefIdeal.main_arg2)) (m ((c.tc : Thread Cert.ProjKvRefIdeal.nD Cert.ProjKvRefIdeal.τ).loc Cert.ProjKvRefIdeal.main_arg3))).2.1 = (fun _ => 1#1)
    ∧ (Cert.Pre_proj_kv_finite.fn (F := Ideal) (m ((c.tc : Thread Cert.ProjKvRefIdeal.nD Cert.ProjKvRefIdeal.τ).loc Cert.ProjKvRefIdeal.main_arg0)) (m ((c.tc : Thread Cert.ProjKvRefIdeal.nD Cert.ProjKvRefIdeal.τ).loc Cert.ProjKvRefIdeal.main_arg1)) (m ((c.tc : Thread Cert.ProjKvRefIdeal.nD Cert.ProjKvRefIdeal.τ).loc Cert.ProjKvRefIdeal.main_arg2)) (m ((c.tc : Thread Cert.ProjKvRefIdeal.nD Cert.ProjKvRefIdeal.τ).loc Cert.ProjKvRefIdeal.main_arg3))).2.2 = (fun _ => 1#1)

def quiescent_Attn1 [hAttn1 : Cert.Attn1.Facts] : Prop :=
  ∀ (m : (ℓ : Loc Cert.Attn1.nD Cert.Attn1.τ Cert.Attn1.sig) → Buf (Elt Bits) ℓ) (g : Dev Cert.Attn1.nD → PrngReg), Pre_Attn1 m →
    θ_run (Cert.Attn1.defs (F := Bits)) (onTc (τ := Cert.Attn1.τ) (Cert.Attn1.main (F := Bits))) ⟨m, fun _ => 0, g⟩ (fun r => (∀ c : Dev Cert.Attn1.nD,
      r.2.mem ((c.tc : Thread Cert.Attn1.nD Cert.Attn1.τ).loc Cert.Attn1.main_arg0) = m ((c.tc : Thread Cert.Attn1.nD Cert.Attn1.τ).loc Cert.Attn1.main_arg0))
      ∧ r.2.sem = fun _ => 0)

def quiescent_Attn1Ideal [hAttn1Ideal : Cert.Attn1Ideal.Facts] : Prop :=
  ∀ (m : (ℓ : Loc Cert.Attn1Ideal.nD Cert.Attn1Ideal.τ Cert.Attn1Ideal.sig) → Buf (Elt Ideal) ℓ) (g : Dev Cert.Attn1Ideal.nD → PrngReg), Pre_Attn1Ideal m →
    θ_run (Cert.Attn1Ideal.defs (F := Ideal)) (onTc (τ := Cert.Attn1Ideal.τ) (Cert.Attn1Ideal.main (F := Ideal))) ⟨m, fun _ => 0, g⟩ (fun r => (∀ c : Dev Cert.Attn1Ideal.nD,
      r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0))
      ∧ r.2.sem = fun _ => 0)

def quiescent_Attn1Ideal_pre_qkv_finite [hAttn1Ideal : Cert.Attn1Ideal.Facts] [hPre_qkv_finite : Cert.Pre_qkv_finite.Facts] : Prop :=
  ∀ (m : (ℓ : Loc Cert.Attn1Ideal.nD Cert.Attn1Ideal.τ Cert.Attn1Ideal.sig) → Buf (Elt Ideal) ℓ) (g : Dev Cert.Attn1Ideal.nD → PrngReg), Pre_Attn1Ideal_qkv_finite m →
    θ_run (Cert.Attn1Ideal.defs (F := Ideal)) (onTc (τ := Cert.Attn1Ideal.τ) (Cert.Attn1Ideal.main (F := Ideal))) ⟨m, fun _ => 0, g⟩ (fun r => (∀ c : Dev Cert.Attn1Ideal.nD,
      r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0))
      ∧ r.2.sem = fun _ => 0)

def quiescent_AttnRef1Ideal [hAttnRef1Ideal : Cert.AttnRef1Ideal.Facts] : Prop :=
  ∀ (m : (ℓ : Loc Cert.AttnRef1Ideal.nD Cert.AttnRef1Ideal.τ Cert.AttnRef1Ideal.sig) → Buf (Elt Ideal) ℓ) (g : Dev Cert.AttnRef1Ideal.nD → PrngReg), Pre_AttnRef1Ideal m →
    θ_run (Cert.AttnRef1Ideal.defs (F := Ideal)) (onTc (τ := Cert.AttnRef1Ideal.τ) (Cert.AttnRef1Ideal.main (F := Ideal))) ⟨m, fun _ => 0, g⟩ (fun r => (∀ c : Dev Cert.AttnRef1Ideal.nD,
      r.2.mem ((c.tc : Thread Cert.AttnRef1Ideal.nD Cert.AttnRef1Ideal.τ).loc Cert.AttnRef1Ideal.main_arg0) = m ((c.tc : Thread Cert.AttnRef1Ideal.nD Cert.AttnRef1Ideal.τ).loc Cert.AttnRef1Ideal.main_arg0))
      ∧ r.2.sem = fun _ => 0)

def quiescent_AttnRef1Ideal_pre_qkv_finite [hAttnRef1Ideal : Cert.AttnRef1Ideal.Facts] [hPre_qkv_finite : Cert.Pre_qkv_finite.Facts] : Prop :=
  ∀ (m : (ℓ : Loc Cert.AttnRef1Ideal.nD Cert.AttnRef1Ideal.τ Cert.AttnRef1Ideal.sig) → Buf (Elt Ideal) ℓ) (g : Dev Cert.AttnRef1Ideal.nD → PrngReg), Pre_AttnRef1Ideal_qkv_finite m →
    θ_run (Cert.AttnRef1Ideal.defs (F := Ideal)) (onTc (τ := Cert.AttnRef1Ideal.τ) (Cert.AttnRef1Ideal.main (F := Ideal))) ⟨m, fun _ => 0, g⟩ (fun r => (∀ c : Dev Cert.AttnRef1Ideal.nD,
      r.2.mem ((c.tc : Thread Cert.AttnRef1Ideal.nD Cert.AttnRef1Ideal.τ).loc Cert.AttnRef1Ideal.main_arg0) = m ((c.tc : Thread Cert.AttnRef1Ideal.nD Cert.AttnRef1Ideal.τ).loc Cert.AttnRef1Ideal.main_arg0))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjIdeal_pre_proj_finite [hProjIdeal : Cert.ProjIdeal.Facts] [hPre_proj_finite : Cert.Pre_proj_finite.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_proj_finite m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_ProjRefIdeal_pre_proj_finite [hProjRefIdeal : Cert.ProjRefIdeal.Facts] [hPre_proj_finite : Cert.Pre_proj_finite.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_proj_finite m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_OutB [hOutB : Cert.OutB.Facts] : Prop :=
  ∀ (m : (ℓ : Loc Cert.OutB.nD Cert.OutB.τ Cert.OutB.sig) → Buf (Elt Bits) ℓ) (g : Dev Cert.OutB.nD → PrngReg), Pre_OutB m →
    θ_run (Cert.OutB.defs (F := Bits)) (onTc (τ := Cert.OutB.τ) (Cert.OutB.main (F := Bits))) ⟨m, fun _ => 0, g⟩ (fun r => (∀ c : Dev Cert.OutB.nD,
      r.2.mem ((c.tc : Thread Cert.OutB.nD Cert.OutB.τ).loc Cert.OutB.main_arg0) = m ((c.tc : Thread Cert.OutB.nD Cert.OutB.τ).loc Cert.OutB.main_arg0)
      ∧ r.2.mem ((c.tc : Thread Cert.OutB.nD Cert.OutB.τ).loc Cert.OutB.main_arg1) = m ((c.tc : Thread Cert.OutB.nD Cert.OutB.τ).loc Cert.OutB.main_arg1)
      ∧ r.2.mem ((c.tc : Thread Cert.OutB.nD Cert.OutB.τ).loc Cert.OutB.main_arg2) = m ((c.tc : Thread Cert.OutB.nD Cert.OutB.τ).loc Cert.OutB.main_arg2))
      ∧ r.2.sem = fun _ => 0)

def quiescent_OutBIdeal [hOutBIdeal : Cert.OutBIdeal.Facts] : Prop :=
  ∀ (m : (ℓ : Loc Cert.OutBIdeal.nD Cert.OutBIdeal.τ Cert.OutBIdeal.sig) → Buf (Elt Ideal) ℓ) (g : Dev Cert.OutBIdeal.nD → PrngReg), Pre_OutBIdeal m →
    θ_run (Cert.OutBIdeal.defs (F := Ideal)) (onTc (τ := Cert.OutBIdeal.τ) (Cert.OutBIdeal.main (F := Ideal))) ⟨m, fun _ => 0, g⟩ (fun r => (∀ c : Dev Cert.OutBIdeal.nD,
      r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
      ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
      ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2))
      ∧ r.2.sem = fun _ => 0)

def quiescent_OutBRefIdeal [hOutBRefIdeal : Cert.OutBRefIdeal.Facts] : Prop :=
  ∀ (m : (ℓ : Loc Cert.OutBRefIdeal.nD Cert.OutBRefIdeal.τ Cert.OutBRefIdeal.sig) → Buf (Elt Ideal) ℓ) (g : Dev Cert.OutBRefIdeal.nD → PrngReg), Pre_OutBRefIdeal m →
    θ_run (Cert.OutBRefIdeal.defs (F := Ideal)) (onTc (τ := Cert.OutBRefIdeal.τ) (Cert.OutBRefIdeal.main (F := Ideal))) ⟨m, fun _ => 0, g⟩ (fun r => (∀ c : Dev Cert.OutBRefIdeal.nD,
      r.2.mem ((c.tc : Thread Cert.OutBRefIdeal.nD Cert.OutBRefIdeal.τ).loc Cert.OutBRefIdeal.main_arg0) = m ((c.tc : Thread Cert.OutBRefIdeal.nD Cert.OutBRefIdeal.τ).loc Cert.OutBRefIdeal.main_arg0)
      ∧ r.2.mem ((c.tc : Thread Cert.OutBRefIdeal.nD Cert.OutBRefIdeal.τ).loc Cert.OutBRefIdeal.main_arg1) = m ((c.tc : Thread Cert.OutBRefIdeal.nD Cert.OutBRefIdeal.τ).loc Cert.OutBRefIdeal.main_arg1)
      ∧ r.2.mem ((c.tc : Thread Cert.OutBRefIdeal.nD Cert.OutBRefIdeal.τ).loc Cert.OutBRefIdeal.main_arg2) = m ((c.tc : Thread Cert.OutBRefIdeal.nD Cert.OutBRefIdeal.τ).loc Cert.OutBRefIdeal.main_arg2))
      ∧ r.2.sem = fun _ => 0)

def quiescent_OutA [hOutA : Cert.OutA.Facts] : Prop :=
  ∀ (m : (ℓ : Loc Cert.OutA.nD Cert.OutA.τ Cert.OutA.sig) → Buf (Elt Bits) ℓ) (g : Dev Cert.OutA.nD → PrngReg), Pre_OutA m →
    θ_run (Cert.OutA.defs (F := Bits)) (onTc (τ := Cert.OutA.τ) (Cert.OutA.main (F := Bits))) ⟨m, fun _ => 0, g⟩ (fun r => (∀ c : Dev Cert.OutA.nD,
      r.2.mem ((c.tc : Thread Cert.OutA.nD Cert.OutA.τ).loc Cert.OutA.main_arg0) = m ((c.tc : Thread Cert.OutA.nD Cert.OutA.τ).loc Cert.OutA.main_arg0)
      ∧ r.2.mem ((c.tc : Thread Cert.OutA.nD Cert.OutA.τ).loc Cert.OutA.main_arg1) = m ((c.tc : Thread Cert.OutA.nD Cert.OutA.τ).loc Cert.OutA.main_arg1)
      ∧ r.2.mem ((c.tc : Thread Cert.OutA.nD Cert.OutA.τ).loc Cert.OutA.main_arg2) = m ((c.tc : Thread Cert.OutA.nD Cert.OutA.τ).loc Cert.OutA.main_arg2)
      ∧ r.2.mem ((c.tc : Thread Cert.OutA.nD Cert.OutA.τ).loc Cert.OutA.main_arg3) = m ((c.tc : Thread Cert.OutA.nD Cert.OutA.τ).loc Cert.OutA.main_arg3)
      ∧ r.2.mem ((c.tc : Thread Cert.OutA.nD Cert.OutA.τ).loc Cert.OutA.main_arg4) = m ((c.tc : Thread Cert.OutA.nD Cert.OutA.τ).loc Cert.OutA.main_arg4)
      ∧ r.2.mem ((c.tc : Thread Cert.OutA.nD Cert.OutA.τ).loc Cert.OutA.main_arg5) = m ((c.tc : Thread Cert.OutA.nD Cert.OutA.τ).loc Cert.OutA.main_arg5)
      ∧ r.2.mem ((c.tc : Thread Cert.OutA.nD Cert.OutA.τ).loc Cert.OutA.main_arg6) = m ((c.tc : Thread Cert.OutA.nD Cert.OutA.τ).loc Cert.OutA.main_arg6)
      ∧ r.2.mem ((c.tc : Thread Cert.OutA.nD Cert.OutA.τ).loc Cert.OutA.main_arg7) = m ((c.tc : Thread Cert.OutA.nD Cert.OutA.τ).loc Cert.OutA.main_arg7))
      ∧ r.2.sem = fun _ => 0)

def quiescent_OutAIdeal [hOutAIdeal : Cert.OutAIdeal.Facts] : Prop :=
  ∀ (m : (ℓ : Loc Cert.OutAIdeal.nD Cert.OutAIdeal.τ Cert.OutAIdeal.sig) → Buf (Elt Ideal) ℓ) (g : Dev Cert.OutAIdeal.nD → PrngReg), Pre_OutAIdeal m →
    θ_run (Cert.OutAIdeal.defs (F := Ideal)) (onTc (τ := Cert.OutAIdeal.τ) (Cert.OutAIdeal.main (F := Ideal))) ⟨m, fun _ => 0, g⟩ (fun r => (∀ c : Dev Cert.OutAIdeal.nD,
      r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
      ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
      ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2)
      ∧ r.2.mem ((c.tc : Thread Cert.OutAIdeal.nD Cert.OutAIdeal.τ).loc Cert.OutAIdeal.main_arg3) = m ((c.tc : Thread Cert.OutAIdeal.nD Cert.OutAIdeal.τ).loc Cert.OutAIdeal.main_arg3)
      ∧ r.2.mem ((c.tc : Thread Cert.OutAIdeal.nD Cert.OutAIdeal.τ).loc Cert.OutAIdeal.main_arg4) = m ((c.tc : Thread Cert.OutAIdeal.nD Cert.OutAIdeal.τ).loc Cert.OutAIdeal.main_arg4)
      ∧ r.2.mem ((c.tc : Thread Cert.OutAIdeal.nD Cert.OutAIdeal.τ).loc Cert.OutAIdeal.main_arg5) = m ((c.tc : Thread Cert.OutAIdeal.nD Cert.OutAIdeal.τ).loc Cert.OutAIdeal.main_arg5)
      ∧ r.2.mem ((c.tc : Thread Cert.OutAIdeal.nD Cert.OutAIdeal.τ).loc Cert.OutAIdeal.main_arg6) = m ((c.tc : Thread Cert.OutAIdeal.nD Cert.OutAIdeal.τ).loc Cert.OutAIdeal.main_arg6)
      ∧ r.2.mem ((c.tc : Thread Cert.OutAIdeal.nD Cert.OutAIdeal.τ).loc Cert.OutAIdeal.main_arg7) = m ((c.tc : Thread Cert.OutAIdeal.nD Cert.OutAIdeal.τ).loc Cert.OutAIdeal.main_arg7))
      ∧ r.2.sem = fun _ => 0)

def quiescent_OutARefIdeal [hOutARefIdeal : Cert.OutARefIdeal.Facts] : Prop :=
  ∀ (m : (ℓ : Loc Cert.OutARefIdeal.nD Cert.OutARefIdeal.τ Cert.OutARefIdeal.sig) → Buf (Elt Ideal) ℓ) (g : Dev Cert.OutARefIdeal.nD → PrngReg), Pre_OutARefIdeal m →
    θ_run (Cert.OutARefIdeal.defs (F := Ideal)) (onTc (τ := Cert.OutARefIdeal.τ) (Cert.OutARefIdeal.main (F := Ideal))) ⟨m, fun _ => 0, g⟩ (fun r => (∀ c : Dev Cert.OutARefIdeal.nD,
      r.2.mem ((c.tc : Thread Cert.OutARefIdeal.nD Cert.OutARefIdeal.τ).loc Cert.OutARefIdeal.main_arg0) = m ((c.tc : Thread Cert.OutARefIdeal.nD Cert.OutARefIdeal.τ).loc Cert.OutARefIdeal.main_arg0)
      ∧ r.2.mem ((c.tc : Thread Cert.OutARefIdeal.nD Cert.OutARefIdeal.τ).loc Cert.OutARefIdeal.main_arg1) = m ((c.tc : Thread Cert.OutARefIdeal.nD Cert.OutARefIdeal.τ).loc Cert.OutARefIdeal.main_arg1)
      ∧ r.2.mem ((c.tc : Thread Cert.OutARefIdeal.nD Cert.OutARefIdeal.τ).loc Cert.OutARefIdeal.main_arg2) = m ((c.tc : Thread Cert.OutARefIdeal.nD Cert.OutARefIdeal.τ).loc Cert.OutARefIdeal.main_arg2)
      ∧ r.2.mem ((c.tc : Thread Cert.OutARefIdeal.nD Cert.OutARefIdeal.τ).loc Cert.OutARefIdeal.main_arg3) = m ((c.tc : Thread Cert.OutARefIdeal.nD Cert.OutARefIdeal.τ).loc Cert.OutARefIdeal.main_arg3)
      ∧ r.2.mem ((c.tc : Thread Cert.OutARefIdeal.nD Cert.OutARefIdeal.τ).loc Cert.OutARefIdeal.main_arg4) = m ((c.tc : Thread Cert.OutARefIdeal.nD Cert.OutARefIdeal.τ).loc Cert.OutARefIdeal.main_arg4)
      ∧ r.2.mem ((c.tc : Thread Cert.OutARefIdeal.nD Cert.OutARefIdeal.τ).loc Cert.OutARefIdeal.main_arg5) = m ((c.tc : Thread Cert.OutARefIdeal.nD Cert.OutARefIdeal.τ).loc Cert.OutARefIdeal.main_arg5)
      ∧ r.2.mem ((c.tc : Thread Cert.OutARefIdeal.nD Cert.OutARefIdeal.τ).loc Cert.OutARefIdeal.main_arg6) = m ((c.tc : Thread Cert.OutARefIdeal.nD Cert.OutARefIdeal.τ).loc Cert.OutARefIdeal.main_arg6)
      ∧ r.2.mem ((c.tc : Thread Cert.OutARefIdeal.nD Cert.OutARefIdeal.τ).loc Cert.OutARefIdeal.main_arg7) = m ((c.tc : Thread Cert.OutARefIdeal.nD Cert.OutARefIdeal.τ).loc Cert.OutARefIdeal.main_arg7))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1)
      ∧ r.2.mem ((c.tc : Thread Cert.ProjB.nD Cert.ProjB.τ).loc Cert.ProjB.main_arg2) = m ((c.tc : Thread Cert.ProjB.nD Cert.ProjB.τ).loc Cert.ProjB.main_arg2)
      ∧ r.2.mem ((c.tc : Thread Cert.ProjB.nD Cert.ProjB.τ).loc Cert.ProjB.main_arg3) = m ((c.tc : Thread Cert.ProjB.nD Cert.ProjB.τ).loc Cert.ProjB.main_arg3))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2)
      ∧ r.2.mem ((c.tc : Thread Cert.ProjBIdeal.nD Cert.ProjBIdeal.τ).loc Cert.ProjBIdeal.main_arg3) = m ((c.tc : Thread Cert.ProjBIdeal.nD Cert.ProjBIdeal.τ).loc Cert.ProjBIdeal.main_arg3))
      ∧ r.2.sem = fun _ => 0)

def quiescent_ProjBIdeal_pre_proj_b_finite [hProjBIdeal : Cert.ProjBIdeal.Facts] [hPre_proj_b_finite : Cert.Pre_proj_b_finite.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal_proj_b_finite m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2)
      ∧ r.2.mem ((c.tc : Thread Cert.ProjBIdeal.nD Cert.ProjBIdeal.τ).loc Cert.ProjBIdeal.main_arg3) = m ((c.tc : Thread Cert.ProjBIdeal.nD Cert.ProjBIdeal.τ).loc Cert.ProjBIdeal.main_arg3))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1)
      ∧ r.2.mem ((c.tc : Thread Cert.ProjBRefIdeal.nD Cert.ProjBRefIdeal.τ).loc Cert.ProjBRefIdeal.main_arg2) = m ((c.tc : Thread Cert.ProjBRefIdeal.nD Cert.ProjBRefIdeal.τ).loc Cert.ProjBRefIdeal.main_arg2)
      ∧ r.2.mem ((c.tc : Thread Cert.ProjBRefIdeal.nD Cert.ProjBRefIdeal.τ).loc Cert.ProjBRefIdeal.main_arg3) = m ((c.tc : Thread Cert.ProjBRefIdeal.nD Cert.ProjBRefIdeal.τ).loc Cert.ProjBRefIdeal.main_arg3))
      ∧ r.2.sem = fun _ => 0)

def quiescent_ProjBRefIdeal_pre_proj_b_finite [hProjBRefIdeal : Cert.ProjBRefIdeal.Facts] [hPre_proj_b_finite : Cert.Pre_proj_b_finite.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal_proj_b_finite m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1)
      ∧ r.2.mem ((c.tc : Thread Cert.ProjBRefIdeal.nD Cert.ProjBRefIdeal.τ).loc Cert.ProjBRefIdeal.main_arg2) = m ((c.tc : Thread Cert.ProjBRefIdeal.nD Cert.ProjBRefIdeal.τ).loc Cert.ProjBRefIdeal.main_arg2)
      ∧ r.2.mem ((c.tc : Thread Cert.ProjBRefIdeal.nD Cert.ProjBRefIdeal.τ).loc Cert.ProjBRefIdeal.main_arg3) = m ((c.tc : Thread Cert.ProjBRefIdeal.nD Cert.ProjBRefIdeal.τ).loc Cert.ProjBRefIdeal.main_arg3))
      ∧ r.2.sem = fun _ => 0)

def quiescent_ProjKv [hProjKv : Cert.ProjKv.Facts] : Prop :=
  ∀ (m : (ℓ : Loc Cert.ProjKv.nD Cert.ProjKv.τ Cert.ProjKv.sig) → Buf (Elt Bits) ℓ) (g : Dev Cert.ProjKv.nD → PrngReg), Pre_ProjKv m →
    θ_run (Cert.ProjKv.defs (F := Bits)) (onTc (τ := Cert.ProjKv.τ) (Cert.ProjKv.main (F := Bits))) ⟨m, fun _ => 0, g⟩ (fun r => (∀ c : Dev Cert.ProjKv.nD,
      r.2.mem ((c.tc : Thread Cert.ProjKv.nD Cert.ProjKv.τ).loc Cert.ProjKv.main_arg0) = m ((c.tc : Thread Cert.ProjKv.nD Cert.ProjKv.τ).loc Cert.ProjKv.main_arg0)
      ∧ r.2.mem ((c.tc : Thread Cert.ProjKv.nD Cert.ProjKv.τ).loc Cert.ProjKv.main_arg1) = m ((c.tc : Thread Cert.ProjKv.nD Cert.ProjKv.τ).loc Cert.ProjKv.main_arg1)
      ∧ r.2.mem ((c.tc : Thread Cert.ProjKv.nD Cert.ProjKv.τ).loc Cert.ProjKv.main_arg2) = m ((c.tc : Thread Cert.ProjKv.nD Cert.ProjKv.τ).loc Cert.ProjKv.main_arg2)
      ∧ r.2.mem ((c.tc : Thread Cert.ProjKv.nD Cert.ProjKv.τ).loc Cert.ProjKv.main_arg3) = m ((c.tc : Thread Cert.ProjKv.nD Cert.ProjKv.τ).loc Cert.ProjKv.main_arg3))
      ∧ r.2.sem = fun _ => 0)

def quiescent_ProjKvIdeal [hProjKvIdeal : Cert.ProjKvIdeal.Facts] : Prop :=
  ∀ (m : (ℓ : Loc Cert.ProjKvIdeal.nD Cert.ProjKvIdeal.τ Cert.ProjKvIdeal.sig) → Buf (Elt Ideal) ℓ) (g : Dev Cert.ProjKvIdeal.nD → PrngReg), Pre_ProjKvIdeal m →
    θ_run (Cert.ProjKvIdeal.defs (F := Ideal)) (onTc (τ := Cert.ProjKvIdeal.τ) (Cert.ProjKvIdeal.main (F := Ideal))) ⟨m, fun _ => 0, g⟩ (fun r => (∀ c : Dev Cert.ProjKvIdeal.nD,
      r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
      ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1)
      ∧ r.2.mem ((c.tc : Thread Cert.ProjKvIdeal.nD Cert.ProjKvIdeal.τ).loc Cert.ProjKvIdeal.main_arg2) = m ((c.tc : Thread Cert.ProjKvIdeal.nD Cert.ProjKvIdeal.τ).loc Cert.ProjKvIdeal.main_arg2)
      ∧ r.2.mem ((c.tc : Thread Cert.ProjKvIdeal.nD Cert.ProjKvIdeal.τ).loc Cert.ProjKvIdeal.main_arg3) = m ((c.tc : Thread Cert.ProjKvIdeal.nD Cert.ProjKvIdeal.τ).loc Cert.ProjKvIdeal.main_arg3))
      ∧ r.2.sem = fun _ => 0)

def quiescent_ProjKvIdeal_pre_proj_kv_finite [hProjKvIdeal : Cert.ProjKvIdeal.Facts] [hPre_proj_kv_finite : Cert.Pre_proj_kv_finite.Facts] : Prop :=
  ∀ (m : (ℓ : Loc Cert.ProjKvIdeal.nD Cert.ProjKvIdeal.τ Cert.ProjKvIdeal.sig) → Buf (Elt Ideal) ℓ) (g : Dev Cert.ProjKvIdeal.nD → PrngReg), Pre_ProjKvIdeal_proj_kv_finite m →
    θ_run (Cert.ProjKvIdeal.defs (F := Ideal)) (onTc (τ := Cert.ProjKvIdeal.τ) (Cert.ProjKvIdeal.main (F := Ideal))) ⟨m, fun _ => 0, g⟩ (fun r => (∀ c : Dev Cert.ProjKvIdeal.nD,
      r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
      ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1)
      ∧ r.2.mem ((c.tc : Thread Cert.ProjKvIdeal.nD Cert.ProjKvIdeal.τ).loc Cert.ProjKvIdeal.main_arg2) = m ((c.tc : Thread Cert.ProjKvIdeal.nD Cert.ProjKvIdeal.τ).loc Cert.ProjKvIdeal.main_arg2)
      ∧ r.2.mem ((c.tc : Thread Cert.ProjKvIdeal.nD Cert.ProjKvIdeal.τ).loc Cert.ProjKvIdeal.main_arg3) = m ((c.tc : Thread Cert.ProjKvIdeal.nD Cert.ProjKvIdeal.τ).loc Cert.ProjKvIdeal.main_arg3))
      ∧ r.2.sem = fun _ => 0)

def quiescent_ProjKvRefIdeal [hProjKvRefIdeal : Cert.ProjKvRefIdeal.Facts] : Prop :=
  ∀ (m : (ℓ : Loc Cert.ProjKvRefIdeal.nD Cert.ProjKvRefIdeal.τ Cert.ProjKvRefIdeal.sig) → Buf (Elt Ideal) ℓ) (g : Dev Cert.ProjKvRefIdeal.nD → PrngReg), Pre_ProjKvRefIdeal m →
    θ_run (Cert.ProjKvRefIdeal.defs (F := Ideal)) (onTc (τ := Cert.ProjKvRefIdeal.τ) (Cert.ProjKvRefIdeal.main (F := Ideal))) ⟨m, fun _ => 0, g⟩ (fun r => (∀ c : Dev Cert.ProjKvRefIdeal.nD,
      r.2.mem ((c.tc : Thread Cert.ProjKvRefIdeal.nD Cert.ProjKvRefIdeal.τ).loc Cert.ProjKvRefIdeal.main_arg0) = m ((c.tc : Thread Cert.ProjKvRefIdeal.nD Cert.ProjKvRefIdeal.τ).loc Cert.ProjKvRefIdeal.main_arg0)
      ∧ r.2.mem ((c.tc : Thread Cert.ProjKvRefIdeal.nD Cert.ProjKvRefIdeal.τ).loc Cert.ProjKvRefIdeal.main_arg1) = m ((c.tc : Thread Cert.ProjKvRefIdeal.nD Cert.ProjKvRefIdeal.τ).loc Cert.ProjKvRefIdeal.main_arg1)
      ∧ r.2.mem ((c.tc : Thread Cert.ProjKvRefIdeal.nD Cert.ProjKvRefIdeal.τ).loc Cert.ProjKvRefIdeal.main_arg2) = m ((c.tc : Thread Cert.ProjKvRefIdeal.nD Cert.ProjKvRefIdeal.τ).loc Cert.ProjKvRefIdeal.main_arg2)
      ∧ r.2.mem ((c.tc : Thread Cert.ProjKvRefIdeal.nD Cert.ProjKvRefIdeal.τ).loc Cert.ProjKvRefIdeal.main_arg3) = m ((c.tc : Thread Cert.ProjKvRefIdeal.nD Cert.ProjKvRefIdeal.τ).loc Cert.ProjKvRefIdeal.main_arg3))
      ∧ r.2.sem = fun _ => 0)

def quiescent_ProjKvRefIdeal_pre_proj_kv_finite [hProjKvRefIdeal : Cert.ProjKvRefIdeal.Facts] [hPre_proj_kv_finite : Cert.Pre_proj_kv_finite.Facts] : Prop :=
  ∀ (m : (ℓ : Loc Cert.ProjKvRefIdeal.nD Cert.ProjKvRefIdeal.τ Cert.ProjKvRefIdeal.sig) → Buf (Elt Ideal) ℓ) (g : Dev Cert.ProjKvRefIdeal.nD → PrngReg), Pre_ProjKvRefIdeal_proj_kv_finite m →
    θ_run (Cert.ProjKvRefIdeal.defs (F := Ideal)) (onTc (τ := Cert.ProjKvRefIdeal.τ) (Cert.ProjKvRefIdeal.main (F := Ideal))) ⟨m, fun _ => 0, g⟩ (fun r => (∀ c : Dev Cert.ProjKvRefIdeal.nD,
      r.2.mem ((c.tc : Thread Cert.ProjKvRefIdeal.nD Cert.ProjKvRefIdeal.τ).loc Cert.ProjKvRefIdeal.main_arg0) = m ((c.tc : Thread Cert.ProjKvRefIdeal.nD Cert.ProjKvRefIdeal.τ).loc Cert.ProjKvRefIdeal.main_arg0)
      ∧ r.2.mem ((c.tc : Thread Cert.ProjKvRefIdeal.nD Cert.ProjKvRefIdeal.τ).loc Cert.ProjKvRefIdeal.main_arg1) = m ((c.tc : Thread Cert.ProjKvRefIdeal.nD Cert.ProjKvRefIdeal.τ).loc Cert.ProjKvRefIdeal.main_arg1)
      ∧ r.2.mem ((c.tc : Thread Cert.ProjKvRefIdeal.nD Cert.ProjKvRefIdeal.τ).loc Cert.ProjKvRefIdeal.main_arg2) = m ((c.tc : Thread Cert.ProjKvRefIdeal.nD Cert.ProjKvRefIdeal.τ).loc Cert.ProjKvRefIdeal.main_arg2)
      ∧ r.2.mem ((c.tc : Thread Cert.ProjKvRefIdeal.nD Cert.ProjKvRefIdeal.τ).loc Cert.ProjKvRefIdeal.main_arg3) = m ((c.tc : Thread Cert.ProjKvRefIdeal.nD Cert.ProjKvRefIdeal.τ).loc Cert.ProjKvRefIdeal.main_arg3))
      ∧ r.2.sem = fun _ => 0)

def preserves_Attn1_Attn1Ideal : Prop :=
  IdealRules.named_const.Statement Cert.Attn1Ideal.κ "mask" .f32 0xF149F2CA#32 ⊥

def algebraic_Attn1Ideal_AttnRef1Ideal_pre_qkv_finite [hAttn1Ideal : Cert.Attn1Ideal.Facts] [hAttnRef1Ideal : Cert.AttnRef1Ideal.Facts] [hPre_qkv_finite : Cert.Pre_qkv_finite.Facts] : Prop :=
  ∀ (m : (ℓ : Loc Cert.Attn1Ideal.nD Cert.Attn1Ideal.τ Cert.Attn1Ideal.sig) → Buf (Elt Ideal) ℓ) (g : Dev Cert.Attn1Ideal.nD → PrngReg)
    (m' : (ℓ : Loc Cert.AttnRef1Ideal.nD Cert.AttnRef1Ideal.τ Cert.AttnRef1Ideal.sig) → Buf (Elt Ideal) ℓ) (g' : Dev Cert.AttnRef1Ideal.nD → PrngReg), Pre_Attn1Ideal_qkv_finite m →
    (∀ c : Dev Cert.Attn1Ideal.nD,
      m' ((c.tc : Thread Cert.AttnRef1Ideal.nD Cert.AttnRef1Ideal.τ).loc Cert.AttnRef1Ideal.main_arg0) = m ((c.tc : Thread Cert.Attn1Ideal.nD Cert.Attn1Ideal.τ).loc Cert.Attn1Ideal.main_arg0)) →
    ∃ (v0 : (c : Dev Cert.Attn1Ideal.nD) → Buf (Elt Ideal) ((c.tc : Thread Cert.Attn1Ideal.nD Cert.Attn1Ideal.τ).loc Cert.Attn1Ideal.main_v1_0)) (v1 : (c : Dev Cert.Attn1Ideal.nD) → Buf (Elt Ideal) ((c.tc : Thread Cert.Attn1Ideal.nD Cert.Attn1Ideal.τ).loc Cert.Attn1Ideal.main_v1_1)),
      θ_run (Cert.Attn1Ideal.defs (F := Ideal)) (onTc (τ := Cert.Attn1Ideal.τ) (Cert.Attn1Ideal.main (F := Ideal))) ⟨m, fun _ => 0, g⟩ (fun r => ∀ c : Dev Cert.Attn1Ideal.nD,
          r.2.mem ((c.tc : Thread Cert.Attn1Ideal.nD Cert.Attn1Ideal.τ).loc Cert.Attn1Ideal.main_v1_0) = v0 c
          ∧ r.2.mem ((c.tc : Thread Cert.Attn1Ideal.nD Cert.Attn1Ideal.τ).loc Cert.Attn1Ideal.main_v1_1) = v1 c
          ∧ r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0))
      ∧ θ_run (Cert.AttnRef1Ideal.defs (F := Ideal)) (onTc (τ := Cert.AttnRef1Ideal.τ) (Cert.AttnRef1Ideal.main (F := Ideal))) ⟨m', fun _ => 0, g'⟩ (fun r => ∀ c : Dev Cert.AttnRef1Ideal.nD,
          r.2.mem ((c.tc : Thread Cert.AttnRef1Ideal.nD Cert.AttnRef1Ideal.τ).loc Cert.AttnRef1Ideal.main_v74) = v0 c
          ∧ r.2.mem ((c.tc : Thread Cert.AttnRef1Ideal.nD Cert.AttnRef1Ideal.τ).loc Cert.AttnRef1Ideal.main_v78) = v1 c
          ∧ r.2.mem ((c.tc : Thread Cert.AttnRef1Ideal.nD Cert.AttnRef1Ideal.τ).loc Cert.AttnRef1Ideal.main_arg0) = m' ((c.tc : Thread Cert.AttnRef1Ideal.nD Cert.AttnRef1Ideal.τ).loc Cert.AttnRef1Ideal.main_arg0))

def preserves_Proj_ProjIdeal : Prop :=
  True

def algebraic_ProjIdeal_ProjRefIdeal_pre_proj_finite [hProjIdeal : Cert.ProjIdeal.Facts] [hProjRefIdeal : Cert.ProjRefIdeal.Facts] [hPre_proj_finite : Cert.Pre_proj_finite.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_proj_finite m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v45)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v45) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v116) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_OutB_OutBIdeal : Prop :=
  True

def algebraic_OutBIdeal_OutBRefIdeal [hOutBIdeal : Cert.OutBIdeal.Facts] [hOutBRefIdeal : Cert.OutBRefIdeal.Facts] : Prop :=
  ∀ (m : (ℓ : Loc Cert.OutBIdeal.nD Cert.OutBIdeal.τ Cert.OutBIdeal.sig) → Buf (Elt Ideal) ℓ) (g : Dev Cert.OutBIdeal.nD → PrngReg)
    (m' : (ℓ : Loc Cert.OutBRefIdeal.nD Cert.OutBRefIdeal.τ Cert.OutBRefIdeal.sig) → Buf (Elt Ideal) ℓ) (g' : Dev Cert.OutBRefIdeal.nD → PrngReg), Pre_OutBIdeal m →
    (∀ c : Dev Cert.OutBIdeal.nD,
      m' ((c.tc : Thread Cert.OutBRefIdeal.nD Cert.OutBRefIdeal.τ).loc Cert.OutBRefIdeal.main_arg0) = m ((c.tc : Thread Cert.OutBIdeal.nD Cert.OutBIdeal.τ).loc Cert.OutBIdeal.main_arg0)
      ∧ m' ((c.tc : Thread Cert.OutBRefIdeal.nD Cert.OutBRefIdeal.τ).loc Cert.OutBRefIdeal.main_arg1) = m ((c.tc : Thread Cert.OutBIdeal.nD Cert.OutBIdeal.τ).loc Cert.OutBIdeal.main_arg1)
      ∧ m' ((c.tc : Thread Cert.OutBRefIdeal.nD Cert.OutBRefIdeal.τ).loc Cert.OutBRefIdeal.main_arg2) = m ((c.tc : Thread Cert.OutBIdeal.nD Cert.OutBIdeal.τ).loc Cert.OutBIdeal.main_arg2)) →
    ∃ (v0 : (c : Dev Cert.OutBIdeal.nD) → Buf (Elt Ideal) ((c.tc : Thread Cert.OutBIdeal.nD Cert.OutBIdeal.τ).loc Cert.OutBIdeal.main_v1)),
      θ_run (Cert.OutBIdeal.defs (F := Ideal)) (onTc (τ := Cert.OutBIdeal.τ) (Cert.OutBIdeal.main (F := Ideal))) ⟨m, fun _ => 0, g⟩ (fun r => ∀ c : Dev Cert.OutBIdeal.nD,
          r.2.mem ((c.tc : Thread Cert.OutBIdeal.nD Cert.OutBIdeal.τ).loc Cert.OutBIdeal.main_v1) = v0 c
          ∧ r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
          ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
          ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2))
      ∧ θ_run (Cert.OutBRefIdeal.defs (F := Ideal)) (onTc (τ := Cert.OutBRefIdeal.τ) (Cert.OutBRefIdeal.main (F := Ideal))) ⟨m', fun _ => 0, g'⟩ (fun r => ∀ c : Dev Cert.OutBRefIdeal.nD,
          r.2.mem ((c.tc : Thread Cert.OutBRefIdeal.nD Cert.OutBRefIdeal.τ).loc Cert.OutBRefIdeal.main_v1) = v0 c
          ∧ r.2.mem ((c.tc : Thread Cert.OutBRefIdeal.nD Cert.OutBRefIdeal.τ).loc Cert.OutBRefIdeal.main_arg0) = m' ((c.tc : Thread Cert.OutBRefIdeal.nD Cert.OutBRefIdeal.τ).loc Cert.OutBRefIdeal.main_arg0)
          ∧ r.2.mem ((c.tc : Thread Cert.OutBRefIdeal.nD Cert.OutBRefIdeal.τ).loc Cert.OutBRefIdeal.main_arg1) = m' ((c.tc : Thread Cert.OutBRefIdeal.nD Cert.OutBRefIdeal.τ).loc Cert.OutBRefIdeal.main_arg1)
          ∧ r.2.mem ((c.tc : Thread Cert.OutBRefIdeal.nD Cert.OutBRefIdeal.τ).loc Cert.OutBRefIdeal.main_arg2) = m' ((c.tc : Thread Cert.OutBRefIdeal.nD Cert.OutBRefIdeal.τ).loc Cert.OutBRefIdeal.main_arg2))

def preserves_OutA_OutAIdeal : Prop :=
  True

def algebraic_OutAIdeal_OutARefIdeal [hOutAIdeal : Cert.OutAIdeal.Facts] [hOutARefIdeal : Cert.OutARefIdeal.Facts] : Prop :=
  ∀ (m : (ℓ : Loc Cert.OutAIdeal.nD Cert.OutAIdeal.τ Cert.OutAIdeal.sig) → Buf (Elt Ideal) ℓ) (g : Dev Cert.OutAIdeal.nD → PrngReg)
    (m' : (ℓ : Loc Cert.OutARefIdeal.nD Cert.OutARefIdeal.τ Cert.OutARefIdeal.sig) → Buf (Elt Ideal) ℓ) (g' : Dev Cert.OutARefIdeal.nD → PrngReg), Pre_OutAIdeal m →
    (∀ c : Dev Cert.OutAIdeal.nD,
      m' ((c.tc : Thread Cert.OutARefIdeal.nD Cert.OutARefIdeal.τ).loc Cert.OutARefIdeal.main_arg0) = m ((c.tc : Thread Cert.OutAIdeal.nD Cert.OutAIdeal.τ).loc Cert.OutAIdeal.main_arg0)
      ∧ m' ((c.tc : Thread Cert.OutARefIdeal.nD Cert.OutARefIdeal.τ).loc Cert.OutARefIdeal.main_arg1) = m ((c.tc : Thread Cert.OutAIdeal.nD Cert.OutAIdeal.τ).loc Cert.OutAIdeal.main_arg1)
      ∧ m' ((c.tc : Thread Cert.OutARefIdeal.nD Cert.OutARefIdeal.τ).loc Cert.OutARefIdeal.main_arg2) = m ((c.tc : Thread Cert.OutAIdeal.nD Cert.OutAIdeal.τ).loc Cert.OutAIdeal.main_arg2)
      ∧ m' ((c.tc : Thread Cert.OutARefIdeal.nD Cert.OutARefIdeal.τ).loc Cert.OutARefIdeal.main_arg3) = m ((c.tc : Thread Cert.OutAIdeal.nD Cert.OutAIdeal.τ).loc Cert.OutAIdeal.main_arg3)
      ∧ m' ((c.tc : Thread Cert.OutARefIdeal.nD Cert.OutARefIdeal.τ).loc Cert.OutARefIdeal.main_arg4) = m ((c.tc : Thread Cert.OutAIdeal.nD Cert.OutAIdeal.τ).loc Cert.OutAIdeal.main_arg4)
      ∧ m' ((c.tc : Thread Cert.OutARefIdeal.nD Cert.OutARefIdeal.τ).loc Cert.OutARefIdeal.main_arg5) = m ((c.tc : Thread Cert.OutAIdeal.nD Cert.OutAIdeal.τ).loc Cert.OutAIdeal.main_arg5)
      ∧ m' ((c.tc : Thread Cert.OutARefIdeal.nD Cert.OutARefIdeal.τ).loc Cert.OutARefIdeal.main_arg6) = m ((c.tc : Thread Cert.OutAIdeal.nD Cert.OutAIdeal.τ).loc Cert.OutAIdeal.main_arg6)
      ∧ m' ((c.tc : Thread Cert.OutARefIdeal.nD Cert.OutARefIdeal.τ).loc Cert.OutARefIdeal.main_arg7) = m ((c.tc : Thread Cert.OutAIdeal.nD Cert.OutAIdeal.τ).loc Cert.OutAIdeal.main_arg7)) →
    ∃ (v0 : (c : Dev Cert.OutAIdeal.nD) → Buf (Elt Ideal) ((c.tc : Thread Cert.OutAIdeal.nD Cert.OutAIdeal.τ).loc Cert.OutAIdeal.main_v10)),
      θ_run (Cert.OutAIdeal.defs (F := Ideal)) (onTc (τ := Cert.OutAIdeal.τ) (Cert.OutAIdeal.main (F := Ideal))) ⟨m, fun _ => 0, g⟩ (fun r => ∀ c : Dev Cert.OutAIdeal.nD,
          r.2.mem ((c.tc : Thread Cert.OutAIdeal.nD Cert.OutAIdeal.τ).loc Cert.OutAIdeal.main_v10) = v0 c
          ∧ r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
          ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
          ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2)
          ∧ r.2.mem ((c.tc : Thread Cert.OutAIdeal.nD Cert.OutAIdeal.τ).loc Cert.OutAIdeal.main_arg3) = m ((c.tc : Thread Cert.OutAIdeal.nD Cert.OutAIdeal.τ).loc Cert.OutAIdeal.main_arg3)
          ∧ r.2.mem ((c.tc : Thread Cert.OutAIdeal.nD Cert.OutAIdeal.τ).loc Cert.OutAIdeal.main_arg4) = m ((c.tc : Thread Cert.OutAIdeal.nD Cert.OutAIdeal.τ).loc Cert.OutAIdeal.main_arg4)
          ∧ r.2.mem ((c.tc : Thread Cert.OutAIdeal.nD Cert.OutAIdeal.τ).loc Cert.OutAIdeal.main_arg5) = m ((c.tc : Thread Cert.OutAIdeal.nD Cert.OutAIdeal.τ).loc Cert.OutAIdeal.main_arg5)
          ∧ r.2.mem ((c.tc : Thread Cert.OutAIdeal.nD Cert.OutAIdeal.τ).loc Cert.OutAIdeal.main_arg6) = m ((c.tc : Thread Cert.OutAIdeal.nD Cert.OutAIdeal.τ).loc Cert.OutAIdeal.main_arg6)
          ∧ r.2.mem ((c.tc : Thread Cert.OutAIdeal.nD Cert.OutAIdeal.τ).loc Cert.OutAIdeal.main_arg7) = m ((c.tc : Thread Cert.OutAIdeal.nD Cert.OutAIdeal.τ).loc Cert.OutAIdeal.main_arg7))
      ∧ θ_run (Cert.OutARefIdeal.defs (F := Ideal)) (onTc (τ := Cert.OutARefIdeal.τ) (Cert.OutARefIdeal.main (F := Ideal))) ⟨m', fun _ => 0, g'⟩ (fun r => ∀ c : Dev Cert.OutARefIdeal.nD,
          r.2.mem ((c.tc : Thread Cert.OutARefIdeal.nD Cert.OutARefIdeal.τ).loc Cert.OutARefIdeal.main_v31) = v0 c
          ∧ r.2.mem ((c.tc : Thread Cert.OutARefIdeal.nD Cert.OutARefIdeal.τ).loc Cert.OutARefIdeal.main_arg0) = m' ((c.tc : Thread Cert.OutARefIdeal.nD Cert.OutARefIdeal.τ).loc Cert.OutARefIdeal.main_arg0)
          ∧ r.2.mem ((c.tc : Thread Cert.OutARefIdeal.nD Cert.OutARefIdeal.τ).loc Cert.OutARefIdeal.main_arg1) = m' ((c.tc : Thread Cert.OutARefIdeal.nD Cert.OutARefIdeal.τ).loc Cert.OutARefIdeal.main_arg1)
          ∧ r.2.mem ((c.tc : Thread Cert.OutARefIdeal.nD Cert.OutARefIdeal.τ).loc Cert.OutARefIdeal.main_arg2) = m' ((c.tc : Thread Cert.OutARefIdeal.nD Cert.OutARefIdeal.τ).loc Cert.OutARefIdeal.main_arg2)
          ∧ r.2.mem ((c.tc : Thread Cert.OutARefIdeal.nD Cert.OutARefIdeal.τ).loc Cert.OutARefIdeal.main_arg3) = m' ((c.tc : Thread Cert.OutARefIdeal.nD Cert.OutARefIdeal.τ).loc Cert.OutARefIdeal.main_arg3)
          ∧ r.2.mem ((c.tc : Thread Cert.OutARefIdeal.nD Cert.OutARefIdeal.τ).loc Cert.OutARefIdeal.main_arg4) = m' ((c.tc : Thread Cert.OutARefIdeal.nD Cert.OutARefIdeal.τ).loc Cert.OutARefIdeal.main_arg4)
          ∧ r.2.mem ((c.tc : Thread Cert.OutARefIdeal.nD Cert.OutARefIdeal.τ).loc Cert.OutARefIdeal.main_arg5) = m' ((c.tc : Thread Cert.OutARefIdeal.nD Cert.OutARefIdeal.τ).loc Cert.OutARefIdeal.main_arg5)
          ∧ r.2.mem ((c.tc : Thread Cert.OutARefIdeal.nD Cert.OutARefIdeal.τ).loc Cert.OutARefIdeal.main_arg6) = m' ((c.tc : Thread Cert.OutARefIdeal.nD Cert.OutARefIdeal.τ).loc Cert.OutARefIdeal.main_arg6)
          ∧ r.2.mem ((c.tc : Thread Cert.OutARefIdeal.nD Cert.OutARefIdeal.τ).loc Cert.OutARefIdeal.main_arg7) = m' ((c.tc : Thread Cert.OutARefIdeal.nD Cert.OutARefIdeal.τ).loc Cert.OutARefIdeal.main_arg7))

def preserves_ProjB_ProjBIdeal : Prop :=
  True

def algebraic_ProjBIdeal_ProjBRefIdeal_pre_proj_b_finite [hProjBIdeal : Cert.ProjBIdeal.Facts] [hProjBRefIdeal : Cert.ProjBRefIdeal.Facts] [hPre_proj_b_finite : Cert.Pre_proj_b_finite.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal_proj_b_finite m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)
      ∧ m' ((c.tc : Thread Cert.ProjBRefIdeal.nD Cert.ProjBRefIdeal.τ).loc Cert.ProjBRefIdeal.main_arg2) = m ((c.tc : Thread Cert.ProjBIdeal.nD Cert.ProjBIdeal.τ).loc Cert.ProjBIdeal.main_arg2)
      ∧ m' ((c.tc : Thread Cert.ProjBRefIdeal.nD Cert.ProjBRefIdeal.τ).loc Cert.ProjBRefIdeal.main_arg3) = m ((c.tc : Thread Cert.ProjBIdeal.nD Cert.ProjBIdeal.τ).loc Cert.ProjBIdeal.main_arg3)) →
    ∃ (v0 : (c : Dev Cert.ProjBIdeal.nD) → Buf (Elt Ideal) ((c.tc : Thread Cert.ProjBIdeal.nD Cert.ProjBIdeal.τ).loc Cert.ProjBIdeal.main_v45)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v45) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
          ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2)
          ∧ r.2.mem ((c.tc : Thread Cert.ProjBIdeal.nD Cert.ProjBIdeal.τ).loc Cert.ProjBIdeal.main_arg3) = m ((c.tc : Thread Cert.ProjBIdeal.nD Cert.ProjBIdeal.τ).loc Cert.ProjBIdeal.main_arg3))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v64) = v0 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1)
          ∧ r.2.mem ((c.tc : Thread Cert.ProjBRefIdeal.nD Cert.ProjBRefIdeal.τ).loc Cert.ProjBRefIdeal.main_arg2) = m' ((c.tc : Thread Cert.ProjBRefIdeal.nD Cert.ProjBRefIdeal.τ).loc Cert.ProjBRefIdeal.main_arg2)
          ∧ r.2.mem ((c.tc : Thread Cert.ProjBRefIdeal.nD Cert.ProjBRefIdeal.τ).loc Cert.ProjBRefIdeal.main_arg3) = m' ((c.tc : Thread Cert.ProjBRefIdeal.nD Cert.ProjBRefIdeal.τ).loc Cert.ProjBRefIdeal.main_arg3))

def preserves_ProjKv_ProjKvIdeal : Prop :=
  True

def algebraic_ProjKvIdeal_ProjKvRefIdeal_pre_proj_kv_finite [hProjKvIdeal : Cert.ProjKvIdeal.Facts] [hProjKvRefIdeal : Cert.ProjKvRefIdeal.Facts] [hPre_proj_kv_finite : Cert.Pre_proj_kv_finite.Facts] : Prop :=
  ∀ (m : (ℓ : Loc Cert.ProjKvIdeal.nD Cert.ProjKvIdeal.τ Cert.ProjKvIdeal.sig) → Buf (Elt Ideal) ℓ) (g : Dev Cert.ProjKvIdeal.nD → PrngReg)
    (m' : (ℓ : Loc Cert.ProjKvRefIdeal.nD Cert.ProjKvRefIdeal.τ Cert.ProjKvRefIdeal.sig) → Buf (Elt Ideal) ℓ) (g' : Dev Cert.ProjKvRefIdeal.nD → PrngReg), Pre_ProjKvIdeal_proj_kv_finite m →
    (∀ c : Dev Cert.ProjKvIdeal.nD,
      m' ((c.tc : Thread Cert.ProjKvRefIdeal.nD Cert.ProjKvRefIdeal.τ).loc Cert.ProjKvRefIdeal.main_arg0) = m ((c.tc : Thread Cert.ProjKvIdeal.nD Cert.ProjKvIdeal.τ).loc Cert.ProjKvIdeal.main_arg0)
      ∧ m' ((c.tc : Thread Cert.ProjKvRefIdeal.nD Cert.ProjKvRefIdeal.τ).loc Cert.ProjKvRefIdeal.main_arg1) = m ((c.tc : Thread Cert.ProjKvIdeal.nD Cert.ProjKvIdeal.τ).loc Cert.ProjKvIdeal.main_arg1)
      ∧ m' ((c.tc : Thread Cert.ProjKvRefIdeal.nD Cert.ProjKvRefIdeal.τ).loc Cert.ProjKvRefIdeal.main_arg2) = m ((c.tc : Thread Cert.ProjKvIdeal.nD Cert.ProjKvIdeal.τ).loc Cert.ProjKvIdeal.main_arg2)
      ∧ m' ((c.tc : Thread Cert.ProjKvRefIdeal.nD Cert.ProjKvRefIdeal.τ).loc Cert.ProjKvRefIdeal.main_arg3) = m ((c.tc : Thread Cert.ProjKvIdeal.nD Cert.ProjKvIdeal.τ).loc Cert.ProjKvIdeal.main_arg3)) →
    ∃ (v0 : (c : Dev Cert.ProjKvIdeal.nD) → Buf (Elt Ideal) ((c.tc : Thread Cert.ProjKvIdeal.nD Cert.ProjKvIdeal.τ).loc Cert.ProjKvIdeal.main_v45)),
      θ_run (Cert.ProjKvIdeal.defs (F := Ideal)) (onTc (τ := Cert.ProjKvIdeal.τ) (Cert.ProjKvIdeal.main (F := Ideal))) ⟨m, fun _ => 0, g⟩ (fun r => ∀ c : Dev Cert.ProjKvIdeal.nD,
          r.2.mem ((c.tc : Thread Cert.ProjKvIdeal.nD Cert.ProjKvIdeal.τ).loc Cert.ProjKvIdeal.main_v45) = v0 c
          ∧ r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
          ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1)
          ∧ r.2.mem ((c.tc : Thread Cert.ProjKvIdeal.nD Cert.ProjKvIdeal.τ).loc Cert.ProjKvIdeal.main_arg2) = m ((c.tc : Thread Cert.ProjKvIdeal.nD Cert.ProjKvIdeal.τ).loc Cert.ProjKvIdeal.main_arg2)
          ∧ r.2.mem ((c.tc : Thread Cert.ProjKvIdeal.nD Cert.ProjKvIdeal.τ).loc Cert.ProjKvIdeal.main_arg3) = m ((c.tc : Thread Cert.ProjKvIdeal.nD Cert.ProjKvIdeal.τ).loc Cert.ProjKvIdeal.main_arg3))
      ∧ θ_run (Cert.ProjKvRefIdeal.defs (F := Ideal)) (onTc (τ := Cert.ProjKvRefIdeal.τ) (Cert.ProjKvRefIdeal.main (F := Ideal))) ⟨m', fun _ => 0, g'⟩ (fun r => ∀ c : Dev Cert.ProjKvRefIdeal.nD,
          r.2.mem ((c.tc : Thread Cert.ProjKvRefIdeal.nD Cert.ProjKvRefIdeal.τ).loc Cert.ProjKvRefIdeal.main_v65) = v0 c
          ∧ r.2.mem ((c.tc : Thread Cert.ProjKvRefIdeal.nD Cert.ProjKvRefIdeal.τ).loc Cert.ProjKvRefIdeal.main_arg0) = m' ((c.tc : Thread Cert.ProjKvRefIdeal.nD Cert.ProjKvRefIdeal.τ).loc Cert.ProjKvRefIdeal.main_arg0)
          ∧ r.2.mem ((c.tc : Thread Cert.ProjKvRefIdeal.nD Cert.ProjKvRefIdeal.τ).loc Cert.ProjKvRefIdeal.main_arg1) = m' ((c.tc : Thread Cert.ProjKvRefIdeal.nD Cert.ProjKvRefIdeal.τ).loc Cert.ProjKvRefIdeal.main_arg1)
          ∧ r.2.mem ((c.tc : Thread Cert.ProjKvRefIdeal.nD Cert.ProjKvRefIdeal.τ).loc Cert.ProjKvRefIdeal.main_arg2) = m' ((c.tc : Thread Cert.ProjKvRefIdeal.nD Cert.ProjKvRefIdeal.τ).loc Cert.ProjKvRefIdeal.main_arg2)
          ∧ r.2.mem ((c.tc : Thread Cert.ProjKvRefIdeal.nD Cert.ProjKvRefIdeal.τ).loc Cert.ProjKvRefIdeal.main_arg3) = m' ((c.tc : Thread Cert.ProjKvRefIdeal.nD Cert.ProjKvRefIdeal.τ).loc Cert.ProjKvRefIdeal.main_arg3))

def Claim : Prop :=
  ∃ (hAttn1 : Cert.Attn1.Facts) (hAttn1Ideal : Cert.Attn1Ideal.Facts) (hAttnRef1Ideal : Cert.AttnRef1Ideal.Facts) (hProj : Cert.Proj.Facts) (hProjIdeal : Cert.ProjIdeal.Facts) (hProjRefIdeal : Cert.ProjRefIdeal.Facts) (hOutB : Cert.OutB.Facts) (hOutBIdeal : Cert.OutBIdeal.Facts) (hOutBRefIdeal : Cert.OutBRefIdeal.Facts) (hOutA : Cert.OutA.Facts) (hOutAIdeal : Cert.OutAIdeal.Facts) (hOutARefIdeal : Cert.OutARefIdeal.Facts) (hProjB : Cert.ProjB.Facts) (hProjBIdeal : Cert.ProjBIdeal.Facts) (hProjBRefIdeal : Cert.ProjBRefIdeal.Facts) (hProjKv : Cert.ProjKv.Facts) (hProjKvIdeal : Cert.ProjKvIdeal.Facts) (hProjKvRefIdeal : Cert.ProjKvRefIdeal.Facts) (hPre_qkv_finite : Cert.Pre_qkv_finite.Facts) (hPre_proj_finite : Cert.Pre_proj_finite.Facts) (hPre_proj_b_finite : Cert.Pre_proj_b_finite.Facts) (hPre_proj_kv_finite : Cert.Pre_proj_kv_finite.Facts),
    quiescent_Attn1 (hAttn1 := hAttn1)
    ∧ quiescent_Attn1Ideal (hAttn1Ideal := hAttn1Ideal)
    ∧ quiescent_Attn1Ideal_pre_qkv_finite (hAttn1Ideal := hAttn1Ideal) (hPre_qkv_finite := hPre_qkv_finite)
    ∧ quiescent_AttnRef1Ideal (hAttnRef1Ideal := hAttnRef1Ideal)
    ∧ quiescent_AttnRef1Ideal_pre_qkv_finite (hAttnRef1Ideal := hAttnRef1Ideal) (hPre_qkv_finite := hPre_qkv_finite)
    ∧ quiescent_Proj (hProj := hProj)
    ∧ quiescent_ProjIdeal (hProjIdeal := hProjIdeal)
    ∧ quiescent_ProjIdeal_pre_proj_finite (hProjIdeal := hProjIdeal) (hPre_proj_finite := hPre_proj_finite)
    ∧ quiescent_ProjRefIdeal (hProjRefIdeal := hProjRefIdeal)
    ∧ quiescent_ProjRefIdeal_pre_proj_finite (hProjRefIdeal := hProjRefIdeal) (hPre_proj_finite := hPre_proj_finite)
    ∧ quiescent_OutB (hOutB := hOutB)
    ∧ quiescent_OutBIdeal (hOutBIdeal := hOutBIdeal)
    ∧ quiescent_OutBRefIdeal (hOutBRefIdeal := hOutBRefIdeal)
    ∧ quiescent_OutA (hOutA := hOutA)
    ∧ quiescent_OutAIdeal (hOutAIdeal := hOutAIdeal)
    ∧ quiescent_OutARefIdeal (hOutARefIdeal := hOutARefIdeal)
    ∧ quiescent_ProjB (hProjB := hProjB)
    ∧ quiescent_ProjBIdeal (hProjBIdeal := hProjBIdeal)
    ∧ quiescent_ProjBIdeal_pre_proj_b_finite (hProjBIdeal := hProjBIdeal) (hPre_proj_b_finite := hPre_proj_b_finite)
    ∧ quiescent_ProjBRefIdeal (hProjBRefIdeal := hProjBRefIdeal)
    ∧ quiescent_ProjBRefIdeal_pre_proj_b_finite (hProjBRefIdeal := hProjBRefIdeal) (hPre_proj_b_finite := hPre_proj_b_finite)
    ∧ quiescent_ProjKv (hProjKv := hProjKv)
    ∧ quiescent_ProjKvIdeal (hProjKvIdeal := hProjKvIdeal)
    ∧ quiescent_ProjKvIdeal_pre_proj_kv_finite (hProjKvIdeal := hProjKvIdeal) (hPre_proj_kv_finite := hPre_proj_kv_finite)
    ∧ quiescent_ProjKvRefIdeal (hProjKvRefIdeal := hProjKvRefIdeal)
    ∧ quiescent_ProjKvRefIdeal_pre_proj_kv_finite (hProjKvRefIdeal := hProjKvRefIdeal) (hPre_proj_kv_finite := hPre_proj_kv_finite)
    ∧ preserves_Attn1_Attn1Ideal
    ∧ algebraic_Attn1Ideal_AttnRef1Ideal_pre_qkv_finite (hAttn1Ideal := hAttn1Ideal) (hAttnRef1Ideal := hAttnRef1Ideal) (hPre_qkv_finite := hPre_qkv_finite)
    ∧ preserves_Proj_ProjIdeal
    ∧ algebraic_ProjIdeal_ProjRefIdeal_pre_proj_finite (hProjIdeal := hProjIdeal) (hProjRefIdeal := hProjRefIdeal) (hPre_proj_finite := hPre_proj_finite)
    ∧ preserves_OutB_OutBIdeal
    ∧ algebraic_OutBIdeal_OutBRefIdeal (hOutBIdeal := hOutBIdeal) (hOutBRefIdeal := hOutBRefIdeal)
    ∧ preserves_OutA_OutAIdeal
    ∧ algebraic_OutAIdeal_OutARefIdeal (hOutAIdeal := hOutAIdeal) (hOutARefIdeal := hOutARefIdeal)
    ∧ preserves_ProjB_ProjBIdeal
    ∧ algebraic_ProjBIdeal_ProjBRefIdeal_pre_proj_b_finite (hProjBIdeal := hProjBIdeal) (hProjBRefIdeal := hProjBRefIdeal) (hPre_proj_b_finite := hPre_proj_b_finite)
    ∧ preserves_ProjKv_ProjKvIdeal
    ∧ algebraic_ProjKvIdeal_ProjKvRefIdeal_pre_proj_kv_finite (hProjKvIdeal := hProjKvIdeal) (hProjKvRefIdeal := hProjKvRefIdeal) (hPre_proj_kv_finite := hPre_proj_kv_finite)
-- ==== Pre_proj_b_finite.lean ====
abbrev S16384x1024 : Shape := ⟨2, ![16384, 1024]⟩
abbrev S1024 : Shape := ⟨1, ![1024]⟩
abbrev S1024x1024 : Shape := ⟨2, ![1024, 1024]⟩
abbrev S64 : Shape := ⟨1, ![64]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S16384x1024 .f32) (main_arg1 : FVec F S1024 .f32) (main_arg2 : FVec F S1024x1024 .f32) (main_arg3 : FVec F S64 .f32) : IVec S16384x1024 1 × IVec S1024 1 × IVec S1024x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  (main_v2, main_v5, main_v8)
-- ==== Pre_proj_finite.lean ====
abbrev S16384x1024 : Shape := ⟨2, ![16384, 1024]⟩
abbrev S1024 : Shape := ⟨1, ![1024]⟩
abbrev S1024x9216 : Shape := ⟨2, ![1024, 9216]⟩
abbrev S64 : Shape := ⟨1, ![64]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x9216 : S_.BroadcastsInDim S1024x9216 (![] : Fin 0 → Fin S1024x9216.rank)

variable [Facts]

def fn {F : FTy → Type} [FloatOps F] (main_arg0 : FVec F S16384x1024 .f32) (main_arg1 : FVec F S1024 .f32) (main_arg2 : FVec F S1024x9216 .f32) (main_arg3 : FVec F S64 .f32) (main_arg4 : FVec F S64 .f32) : IVec S16384x1024 1 × IVec S1024 1 × IVec S1024x9216 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x9216 .f32 := Host.absf main_arg2
  let main_cst_1 : FVec F S_ .f32 := constant S_ .f32 0x7F800000#32
  let main_v7 : FVec F S1024x9216 .f32 := broadcastInDim S1024x9216 ![] bcast_S_S1024x9216 main_cst_1
  let main_v8 : IVec S1024x9216 1 := cmpf .olt main_v6 main_v7
  (main_v2, main_v5, main_v8)
-- ==== Pre_proj_kv_finite.lean ====
abbrev S16384x1024 : Shape := ⟨2, ![16384, 1024]⟩
abbrev S1024 : Shape := ⟨1, ![1024]⟩
abbrev S1024x256 : Shape := ⟨2, ![1024, 256]⟩
abbrev S64 : Shape := ⟨1, ![64]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x256 : S_.BroadcastsInDim S1024x256 (![] : Fin 0 → Fin S1024x256.rank)

variable [Facts]

def fn {F : FTy → Type} [FloatOps F] (main_arg0 : FVec F S16384x1024 .f32) (main_arg1 : FVec F S1024 .f32) (main_arg2 : FVec F S1024x256 .f32) (main_arg3 : FVec F S64 .f32) : IVec S16384x1024 1 × IVec S1024 1 × IVec S1024x256 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x256 .f32 := Host.absf main_arg2
  let main_cst_1 : FVec F S_ .f32 := constant S_ .f32 0x7F800000#32
  let main_v7 : FVec F S1024x256 .f32 := broadcastInDim S1024x256 ![] bcast_S_S1024x256 main_cst_1
  let main_v8 : IVec S1024x256 1 := cmpf .olt main_v6 main_v7
  (main_v2, main_v5, main_v8)
-- ==== Pre_qkv_finite.lean ====
abbrev S16384x9216 : Shape := ⟨2, ![16384, 9216]⟩
abbrev S_ : Shape := ⟨0, ![]⟩

class Facts : Prop where
  bcast_S_S16384x9216 : S_.BroadcastsInDim S16384x9216 (![] : Fin 0 → Fin S16384x9216.rank)

variable [Facts]

def fn {F : FTy → Type} [FloatOps F] (main_arg0 : FVec F S16384x9216 .f32) : IVec S16384x9216 1 :=
  let main_v0 : FVec F S16384x9216 .f32 := Host.absf main_arg0
  let main_cst : FVec F S_ .f32 := constant S_ .f32 0x7F800000#32
  let main_v1 : FVec F S16384x9216 .f32 := broadcastInDim S16384x9216 ![] bcast_S_S16384x9216 main_cst
  let main_v2 : IVec S16384x9216 1 := cmpf .olt main_v0 main_v1
  main_v2
-- ==== Attn1.lean ====
abbrev S16384x9216 : Shape := ⟨2, ![16384, 9216]⟩
abbrev S4x1024x36864 : Shape := ⟨3, ![4, 1024, 36864]⟩
abbrev S4x1024x4096 : Shape := ⟨3, ![4, 1024, 4096]⟩
abbrev S4x1024x512 : Shape := ⟨3, ![4, 1024, 512]⟩
abbrev S1x128x1024 : Shape := ⟨3, ![1, 128, 1024]⟩
abbrev S1x128x128 : Shape := ⟨3, ![1, 128, 128]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 4
  | .vmem => 14
  | .smem => 0
  | _ => 0

abbrev bufTy : (tb : Table) → Fin (tcTables nBuf tb) → BufTy
  | .hbm, ⟨0, _⟩ => ⟨S16384x9216, .f32⟩
  | .hbm, ⟨1, _⟩ => ⟨S4x1024x36864, .f32⟩
  | .hbm, ⟨2, _⟩ => ⟨S4x1024x4096, .f32⟩
  | .hbm, ⟨3, _⟩ => ⟨S4x1024x512, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x128, .f32⟩
  | .local _ .vmem, ⟨13, _⟩ => ⟨S1x128x128, .f32⟩
  | _, _ => ⟨S16384x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  ![arg0.toNat, arg2.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c9_i32 : BitVec 32 := 9#32
  let v2 : BitVec 32 := Scalar.muli arg1 c9_i32
  let c3_i32 : BitVec 32 := 3#32
  let v3 : BitVec 32 := Scalar.addi v2 c3_i32
  let c1_i32_0 : BitVec 32 := 1#32
  let v4 : BitVec 32 := Scalar.addi v3 c1_i32_0
  let c0_i32_1 : BitVec 32 := 0#32
  ![arg0.toNat, v1.toNat, v4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c3_i32 : BitVec 32 := 3#32
  let v1 : BitVec 32 := Scalar.addi v0 c3_i32
  let c1_i32 : BitVec 32 := 1#32
  let v2 : BitVec 32 := Scalar.addi v1 c1_i32
  let c0_i32 : BitVec 32 := 0#32
  ![arg0.toNat, arg2.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c9_i32 : BitVec 32 := 9#32
  let v2 : BitVec 32 := Scalar.muli arg1 c9_i32
  let c6_i32 : BitVec 32 := 6#32
  let v3 : BitVec 32 := Scalar.addi v2 c6_i32
  let c1_i32_0 : BitVec 32 := 1#32
  let v4 : BitVec 32 := Scalar.addi v3 c1_i32_0
  let c0_i32_1 : BitVec 32 := 0#32
  ![arg0.toNat, v1.toNat, v4.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c6_i32 : BitVec 32 := 6#32
  let v1 : BitVec 32 := Scalar.addi v0 c6_i32
  let c1_i32 : BitVec 32 := 1#32
  let v2 : BitVec 32 := Scalar.addi v1 c1_i32
  let c0_i32 : BitVec 32 := 0#32
  ![arg0.toNat, arg2.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Attn1Ideal.lean ====
variable {F : FTy → Type} [FloatOps F] [Named F]
def κ : String → Option EReal := fun
  | "mask" => some ⊥
  | _ => none
-- ==== AttnRef1Ideal.lean ====
abbrev S16384x9216 : Shape := ⟨2, ![16384, 9216]⟩
abbrev S16384x1024 : Shape := ⟨2, ![16384, 1024]⟩
abbrev S4x4096x16x64 : Shape := ⟨4, ![4, 4096, 16, 64]⟩
abbrev S4x1024x4x16x64 : Shape := ⟨5, ![4, 1024, 4, 16, 64]⟩
abbrev S4x4x1024x16x64 : Shape := ⟨5, ![4, 4, 1024, 16, 64]⟩
abbrev S16x1024x16x64 : Shape := ⟨4, ![16, 1024, 16, 64]⟩
abbrev S16x8x128x16x64 : Shape := ⟨5, ![16, 8, 128, 16, 64]⟩
abbrev S_ : Shape := ⟨0, ![]⟩
abbrev S16x9x128x16x64 : Shape := ⟨5, ![16, 9, 128, 16, 64]⟩
abbrev S16x8x256x16x64 : Shape := ⟨5, ![16, 8, 256, 16, 64]⟩
abbrev S16x8x16x128x256 : Shape := ⟨5, ![16, 8, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S1x8x1x128x256 : Shape := ⟨5, ![1, 8, 1, 128, 256]⟩
abbrev S16x8x16x128 : Shape := ⟨4, ![16, 8, 16, 128]⟩
abbrev S16x8x16x128x1 : Shape := ⟨5, ![16, 8, 16, 128, 1]⟩
abbrev S16x8x16x64x128 : Shape := ⟨5, ![16, 8, 16, 64, 128]⟩
abbrev S16x8x128x16 : Shape := ⟨4, ![16, 8, 128, 16]⟩
abbrev S4x4x1024x1024 : Shape := ⟨4, ![4, 4, 1024, 1024]⟩
abbrev S4x1024x4x1024 : Shape := ⟨4, ![4, 1024, 4, 1024]⟩
abbrev S4x1024x4096 : Shape := ⟨3, ![4, 1024, 4096]⟩
abbrev S4x4x1024x16 : Shape := ⟨4, ![4, 4, 1024, 16]⟩
abbrev S4x1024x4x16 : Shape := ⟨4, ![4, 1024, 4, 16]⟩
abbrev S4x1024x4x128 : Shape := ⟨4, ![4, 1024, 4, 128]⟩
abbrev S4x1024x512 : Shape := ⟨3, ![4, 1024, 512]⟩

abbrev nBuf : Space → Nat
  | .hbm => 98
  | .vmem => 0
  | .smem => 0
  | _ => 0

abbrev bufTy : (tb : Table) → Fin (tcTables nBuf tb) → BufTy
  | .hbm, ⟨0, _⟩ => ⟨S16384x9216, .f32⟩
  | .hbm, ⟨1, _⟩ => ⟨S16384x1024, .f32⟩
  | .hbm, ⟨2, _⟩ => ⟨S4x4096x16x64, .f32⟩
  | .hbm, ⟨3, _⟩ => ⟨S4x1024x4x16x64, .f32⟩
  | .hbm, ⟨4, _⟩ => ⟨S4x4x1024x16x64, .f32⟩
  | .hbm, ⟨5, _⟩ => ⟨S16x1024x16x64, .f32⟩
  | .hbm, ⟨6, _⟩ => ⟨S16384x1024, .f32⟩
  | .hbm, ⟨7, _⟩ => ⟨S4x4096x16x64, .f32⟩
  | .hbm, ⟨8, _⟩ => ⟨S4x1024x4x16x64, .f32⟩
  | .hbm, ⟨9, _⟩ => ⟨S4x4x1024x16x64, .f32⟩
  | .hbm, ⟨10, _⟩ => ⟨S16x1024x16x64, .f32⟩
  | .hbm, ⟨11, _⟩ => ⟨S16384x1024, .f32⟩
  | .hbm, ⟨12, _⟩ => ⟨S4x4096x16x64, .f32⟩
  | .hbm, ⟨13, _⟩ => ⟨S4x1024x4x16x64, .f32⟩
  | .hbm, ⟨14, _⟩ => ⟨S4x4x1024x16x64, .f32⟩
  | .hbm, ⟨15, _⟩ => ⟨S16x1024x16x64, .f32⟩
  | .hbm, ⟨16, _⟩ => ⟨S16x8x128x16x64, .f32⟩
  | .hbm, ⟨17, _⟩ => ⟨S16x8x128x16x64, .f32⟩
  | .hbm, ⟨18, _⟩ => ⟨S16x8x128x16x64, .f32⟩
  | .hbm, ⟨19, _⟩ => ⟨S_, .i32⟩
  | .hbm, ⟨20, _⟩ => ⟨S_, .f32⟩
  | .hbm, ⟨21, _⟩ => ⟨S16x9x128x16x64, .f32⟩
  | .hbm, ⟨22, _⟩ => ⟨S16x8x128x16x64, .f32⟩
  | .hbm, ⟨23, _⟩ => ⟨S16x8x256x16x64, .f32⟩
  | .hbm, ⟨24, _⟩ => ⟨S_, .i32⟩
  | .hbm, ⟨25, _⟩ => ⟨S_, .f32⟩
  | .hbm, ⟨26, _⟩ => ⟨S16x9x128x16x64, .f32⟩
  | .hbm, ⟨27, _⟩ => ⟨S16x8x128x16x64, .f32⟩
  | .hbm, ⟨28, _⟩ => ⟨S16x8x256x16x64, .f32⟩
  | .hbm, ⟨29, _⟩ => ⟨S16x8x16x128x256, .f32⟩
  | .hbm, ⟨30, _⟩ => ⟨S128, .i32⟩
  | .hbm, ⟨31, _⟩ => ⟨S128x1, .i32⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S256, .i32⟩
  | .hbm, ⟨36, _⟩ => ⟨S1x256, .i32⟩
  | .hbm, ⟨37, _⟩ => ⟨S128x256, .i32⟩
  | .hbm, ⟨38, _⟩ => ⟨S128x256, .i32⟩
  | .hbm, ⟨39, _⟩ => ⟨S128x256, .i32⟩
  | .hbm, ⟨40, _⟩ => ⟨S8, .i32⟩
  | .hbm, ⟨41, _⟩ => ⟨S8x1x1, .i32⟩
  | .hbm, ⟨42, _⟩ => ⟨S_, .i32⟩
  | .hbm, ⟨43, _⟩ => ⟨S8x1x1, .i32⟩
  | .hbm, ⟨44, _⟩ => ⟨S8x1x1, .i32⟩
  | .hbm, ⟨45, _⟩ => ⟨S_, .i32⟩
  | .hbm, ⟨46, _⟩ => ⟨S8x1x1, .i32⟩
  | .hbm, ⟨47, _⟩ => ⟨S8x1x1, .i32⟩
  | .hbm, ⟨48, _⟩ => ⟨S1x1x256, .i32⟩
  | .hbm, ⟨49, _⟩ => ⟨S8x1x256, .i32⟩
  | .hbm, ⟨50, _⟩ => ⟨S8x1x256, .i32⟩
  | .hbm, ⟨51, _⟩ => ⟨S8x1x256, .i32⟩
  | .hbm, ⟨52, _⟩ => ⟨S_, .i32⟩
  | .hbm, ⟨53, _⟩ => ⟨S128x256, .i32⟩
  | .hbm, ⟨54, _⟩ => ⟨S128x256, .i1⟩
  | .hbm, ⟨55, _⟩ => ⟨S_, .i32⟩
  | .hbm, ⟨56, _⟩ => ⟨S128x256, .i32⟩
  | .hbm, ⟨57, _⟩ => ⟨S128x256, .i1⟩
  | .hbm, ⟨58, _⟩ => ⟨S128x256, .i1⟩
  | .hbm, ⟨59, _⟩ => ⟨S_, .i32⟩
  | .hbm, ⟨60, _⟩ => ⟨S8x1x256, .i32⟩
  | .hbm, ⟨61, _⟩ => ⟨S8x1x256, .i1⟩
  | .hbm, ⟨62, _⟩ => ⟨S1x128x256, .i1⟩
  | .hbm, ⟨63, _⟩ => ⟨S8x128x256, .i1⟩
  | .hbm, ⟨64, _⟩ => ⟨S8x128x256, .i1⟩
  | .hbm, ⟨65, _⟩ => ⟨S8x128x256, .i1⟩
  | .hbm, ⟨66, _⟩ => ⟨S1x8x1x128x256, .i1⟩
  | .hbm, ⟨67, _⟩ => ⟨S_, .f32⟩
  | .hbm, ⟨68, _⟩ => ⟨S_, .f32⟩
  | .hbm, ⟨69, _⟩ => ⟨S16x8x16x128x256, .i1⟩
  | .hbm, ⟨70, _⟩ => ⟨S16x8x16x128x256, .f32⟩
  | .hbm, ⟨71, _⟩ => ⟨S16x8x16x128x256, .f32⟩
  | .hbm, ⟨72, _⟩ => ⟨S_, .f32⟩
  | .hbm, ⟨73, _⟩ => ⟨S16x8x16x128, .f32⟩
  | .hbm, ⟨74, _⟩ => ⟨S16x8x16x128x1, .f32⟩
  | .hbm, ⟨75, _⟩ => ⟨S16x8x16x128x256, .f32⟩
  | .hbm, ⟨76, _⟩ => ⟨S16x8x16x128x256, .f32⟩
  | .hbm, ⟨77, _⟩ => ⟨S16x8x16x128x256, .f32⟩
  | .hbm, ⟨78, _⟩ => ⟨S_, .f32⟩
  | .hbm, ⟨79, _⟩ => ⟨S16x8x16x128, .f32⟩
  | .hbm, ⟨80, _⟩ => ⟨S16x8x16x128x1, .f32⟩
  | .hbm, ⟨81, _⟩ => ⟨S16x8x16x128x256, .f32⟩
  | .hbm, ⟨82, _⟩ => ⟨S16x8x16x128x256, .f32⟩
  | .hbm, ⟨83, _⟩ => ⟨S16x8x16x128x1, .f32⟩
  | .hbm, ⟨84, _⟩ => ⟨S16x8x16x128x1, .f32⟩
  | .hbm, ⟨85, _⟩ => ⟨S16x8x16x128, .f32⟩
  | .hbm, ⟨86, _⟩ => ⟨S16x8x16x64x128, .f32⟩
  | .hbm, ⟨87, _⟩ => ⟨S16x8x128x16x64, .f32⟩
  | .hbm, ⟨88, _⟩ => ⟨S16x8x128x16, .f32⟩
  | .hbm, ⟨89, _⟩ => ⟨S4x4x1024x1024, .f32⟩
  | .hbm, ⟨90, _⟩ => ⟨S4x1024x4x1024, .f32⟩
  | .hbm, ⟨91, _⟩ => ⟨S4x1024x4096, .f32⟩
  | .hbm, ⟨92, _⟩ => ⟨S4x4x1024x16, .f32⟩
  | .hbm, ⟨93, _⟩ => ⟨S4x1024x4x16, .f32⟩
  | .hbm, ⟨94, _⟩ => ⟨S_, .i32⟩
  | .hbm, ⟨95, _⟩ => ⟨S_, .f32⟩
  | .hbm, ⟨96, _⟩ => ⟨S4x1024x4x128, .f32⟩
  | .hbm, ⟨97, _⟩ => ⟨S4x1024x512, .f32⟩
  | _, _ => ⟨S16384x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_c : Ref sig .tc := ⟨.hbm, 19, rfl⟩
abbrev main_call0_v0 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_c_0 : Ref sig .tc := ⟨.hbm, 24, rfl⟩
abbrev main_call1_v0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c_1 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_c_2 : Ref sig .tc := ⟨.hbm, 42, rfl⟩
abbrev main_v36 : Ref sig .tc := ⟨.hbm, 43, rfl⟩
abbrev main_v37 : Ref sig .tc := ⟨.hbm, 44, rfl⟩
abbrev main_c_3 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_c_4 : Ref sig .tc := ⟨.hbm, 52, rfl⟩
abbrev main_v44 : Ref sig .tc := ⟨.hbm, 53, rfl⟩
abbrev main_v45 : Ref sig .tc := ⟨.hbm, 54, rfl⟩
abbrev main_c_5 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_c_6 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_8 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_c_9 : Ref sig .tc := ⟨.hbm, 94, rfl⟩
abbrev main_call3_v0 : Ref sig .tc := ⟨.hbm, 95, rfl⟩
abbrev main_v77 : Ref sig .tc := ⟨.hbm, 96, rfl⟩
abbrev main_v78 : Ref sig .tc := ⟨.hbm, 97, rfl⟩

abbrev nD : Nat := 1
abbrev τ : Topo := Topo.v7x

variable {F : FTy → Type} [FloatOps F]

def κ : String → Option EReal := fun
  | "mask" => some ⊥
  | _ => none
-- ==== Proj.lean ====
abbrev S16384x1024 : Shape := ⟨2, ![16384, 1024]⟩
abbrev S1024 : Shape := ⟨1, ![1024]⟩
abbrev S1024x9216 : Shape := ⟨2, ![1024, 9216]⟩
abbrev S64 : Shape := ⟨1, ![64]⟩
abbrev S128 : Shape := ⟨1, ![128]⟩
abbrev S128x1 : Shape := ⟨2, ![128, 1]⟩
abbrev S_ : Shape := ⟨0, ![]⟩
abbrev S1x128 : Shape := ⟨2, ![1, 128]⟩
abbrev S128x128 : Shape := ⟨2, ![128, 128]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1x4096x1x128 : Shape := ⟨4, ![1, 4096, 1, 128]⟩
abbrev S1x1024 : Shape := ⟨2, ![1, 1024]⟩
abbrev S16384x9216 : Shape := ⟨2, ![16384, 9216]⟩
abbrev S512x1024 : Shape := ⟨2, ![512, 1024]⟩
abbrev S1024x1024 : Shape := ⟨2, ![1024, 1024]⟩
abbrev S512x128 : Shape := ⟨2, ![512, 128]⟩
abbrev S512 : Shape := ⟨1, ![512]⟩
abbrev S512x1 : Shape := ⟨2, ![512, 1]⟩

abbrev nBuf : Space → Nat
  | .hbm => 93
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x9216, .f32⟩
  | .hbm, ⟨3, _⟩ => ⟨S64, .f32⟩
  | .hbm, ⟨4, _⟩ => ⟨S64, .f32⟩
  | .hbm, ⟨5, _⟩ => ⟨S128, .i32⟩
  | .hbm, ⟨6, _⟩ => ⟨S128x1, .i32⟩
  | .hbm, ⟨7, _⟩ => ⟨S_, .i32⟩
  | .hbm, ⟨8, _⟩ => ⟨S_, .i32⟩
  | .hbm, ⟨9, _⟩ => ⟨S128x1, .i32⟩
  | .hbm, ⟨10, _⟩ => ⟨S128x1, .i32⟩
  | .hbm, ⟨11, _⟩ => ⟨S128x1, .i32⟩
  | .hbm, ⟨12, _⟩ => ⟨S_, .i32⟩
  | .hbm, ⟨13, _⟩ => ⟨S128x1, .i32⟩
  | .hbm, ⟨14, _⟩ => ⟨S128x1, .i1⟩
  | .hbm, ⟨15, _⟩ => ⟨S128x1, .i32⟩
  | .hbm, ⟨16, _⟩ => ⟨S128x1, .i32⟩
  | .hbm, ⟨17, _⟩ => ⟨S_, .i32⟩
  | .hbm, ⟨18, _⟩ => ⟨S128x1, .i32⟩
  | .hbm, ⟨19, _⟩ => ⟨S128x1, .i1⟩
  | .hbm, ⟨20, _⟩ => ⟨S128x1, .i1⟩
  | .hbm, ⟨21, _⟩ => ⟨S_, .i32⟩
  | .hbm, ⟨22, _⟩ => ⟨S128x1, .i32⟩
  | .hbm, ⟨23, _⟩ => ⟨S128x1, .i32⟩
  | .hbm, ⟨24, _⟩ => ⟨S128x1, .i32⟩
  | .hbm, ⟨25, _⟩ => ⟨S1x128, .i32⟩
  | .hbm, ⟨26, _⟩ => ⟨S_, .i32⟩
  | .hbm, ⟨27, _⟩ => ⟨S_, .i32⟩
  | .hbm, ⟨28, _⟩ => ⟨S1x128, .i32⟩
  | .hbm, ⟨29, _⟩ => ⟨S1x128, .i32⟩
  | .hbm, ⟨30, _⟩ => ⟨S1x128, .i32⟩
  | .hbm, ⟨31, _⟩ => ⟨S_, .i32⟩
  | .hbm, ⟨32, _⟩ => ⟨S1x128, .i32⟩
  | .hbm, ⟨33, _⟩ => ⟨S1x128, .i1⟩
  | .hbm, ⟨34, _⟩ => ⟨S1x128, .i32⟩
  | .hbm, ⟨35, _⟩ => ⟨S1x128, .i32⟩
  | .hbm, ⟨36, _⟩ => ⟨S_, .i32⟩
  | .hbm, ⟨37, _⟩ => ⟨S1x128, .i32⟩
  | .hbm, ⟨38, _⟩ => ⟨S1x128, .i1⟩
  | .hbm, ⟨39, _⟩ => ⟨S1x128, .i1⟩
  | .hbm, ⟨40, _⟩ => ⟨S_, .i32⟩
  | .hbm, ⟨41, _⟩ => ⟨S1x128, .i32⟩
  | .hbm, ⟨42, _⟩ => ⟨S1x128, .i32⟩
  | .hbm, ⟨43, _⟩ => ⟨S1x128, .i32⟩
  | .hbm, ⟨44, _⟩ => ⟨S128x128, .i32⟩
  | .hbm, ⟨45, _⟩ => ⟨S128x128, .i32⟩
  | .hbm, ⟨46, _⟩ => ⟨S128x128, .i1⟩
  | .hbm, ⟨47, _⟩ => ⟨S_, .f32⟩
  | .hbm, ⟨48, _⟩ => ⟨S_, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S128x128, .bf16⟩
  | .hbm, ⟨53, _⟩ => ⟨S4096, .i32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S_, .f32⟩
  | .hbm, ⟨60, _⟩ => ⟨S32, .f32⟩
  | .hbm, ⟨61, _⟩ => ⟨S32, .f32⟩
  | .hbm, ⟨62, _⟩ => ⟨S4096, .f32⟩
  | .hbm, ⟨63, _⟩ => ⟨S4096x1, .f32⟩
  | .hbm, ⟨64, _⟩ => ⟨S1x32, .f32⟩
  | .hbm, ⟨65, _⟩ => ⟨S4096x32, .f32⟩
  | .hbm, ⟨66, _⟩ => ⟨S4096x32, .f32⟩
  | .hbm, ⟨67, _⟩ => ⟨S4096x32, .f32⟩
  | .hbm, ⟨68, _⟩ => ⟨S4096x32, .f32⟩
  | .hbm, ⟨69, _⟩ => ⟨S4096x32, .f32⟩
  | .hbm, ⟨70, _⟩ => ⟨S4096x128, .f32⟩
  | .hbm, ⟨71, _⟩ => ⟨S4096x32, .f32⟩
  | .hbm, ⟨72, _⟩ => ⟨S4096x32, .f32⟩
  | .hbm, ⟨73, _⟩ => ⟨S4096x128, .f32⟩
  | .hbm, ⟨74, _⟩ => ⟨S1x4096x1x128, .f32⟩
  | .hbm, ⟨75, _⟩ => ⟨S1x4096x1x128, .f32⟩
  | .hbm, ⟨76, _⟩ => ⟨S4096x128, .f32⟩
  | .hbm, ⟨77, _⟩ => ⟨S1x4096x1x128, .f32⟩
  | .hbm, ⟨78, _⟩ => ⟨S1x4096x1x128, .f32⟩
  | .hbm, ⟨79, _⟩ => ⟨S4096x128, .f32⟩
  | .hbm, ⟨80, _⟩ => ⟨S128, .f32⟩
  | .hbm, ⟨81, _⟩ => ⟨S_, .f32⟩
  | .hbm, ⟨82, _⟩ => ⟨S128, .f32⟩
  | .hbm, ⟨83, _⟩ => ⟨S128, .f32⟩
  | .hbm, ⟨84, _⟩ => ⟨S1x128, .f32⟩
  | .hbm, ⟨85, _⟩ => ⟨S128, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S1x128, .f32⟩
  | .hbm, ⟨90, _⟩ => ⟨S1024x9216, .bf16⟩
  | .hbm, ⟨91, _⟩ => ⟨S1x1024, .f32⟩
  | .hbm, ⟨92, _⟩ => ⟨S16384x9216, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x128, .f32⟩
  | .local _ .vmem, ⟨6, _⟩ => ⟨S1x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S128x128, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst : Ref sig .tc := ⟨.hbm, 47, rfl⟩
abbrev main_cst_1 : Ref sig .tc := ⟨.hbm, 48, rfl⟩
abbrev main_call2_v0 : Ref sig .tc := ⟨.hbm, 49, rfl⟩
abbrev main_call2_v1 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_cst_2 : Ref sig .tc := ⟨.hbm, 56, rfl⟩
abbrev main_v13 : Ref sig .tc := ⟨.hbm, 57, rfl⟩
abbrev main_v14 : Ref sig .tc := ⟨.hbm, 58, rfl⟩
abbrev main_cst_3 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_cst_4 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_cst_5 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 9], ![false, false]⟩

def k0_cond2 (i : grid0.Coords) : BitVec 1 :=
  let arg1 : BitVec 32 := BitVec.ofNat 32 (i 1).val
  let c6_i32 : BitVec 32 := 6#32
  let v7 : BitVec 1 := Scalar.cmpi .slt arg1 c6_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c6_i32_5 : BitVec 32 := 6#32
  let v10 : BitVec 1 := Scalar.cmpi .sge arg1 c6_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ProjIdeal.lean ====
def κ : String → Option EReal := fun
  | "mask" => some ⊥
  | _ => none
-- ==== ProjRefIdeal.lean ====
abbrev S16384x1024 : Shape := ⟨2, ![16384, 1024]⟩
abbrev S1024 : Shape := ⟨1, ![1024]⟩
abbrev S1024x9216 : Shape := ⟨2, ![1024, 9216]⟩
abbrev S64 : Shape := ⟨1, ![64]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x9216 : Shape := ⟨2, ![16384, 9216]⟩
abbrev S16384x3072 : Shape := ⟨2, ![16384, 3072]⟩
abbrev S4x4096x48x64 : Shape := ⟨4, ![4, 4096, 48, 64]⟩
abbrev S4x4096x48 : Shape := ⟨3, ![4, 4096, 48]⟩
abbrev S4x4096x48x1 : Shape := ⟨4, ![4, 4096, 48, 1]⟩
abbrev S1x1x1x64 : Shape := ⟨4, ![1, 1, 1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4x4096x48x32 : Shape := ⟨4, ![4, 4096, 48, 32]⟩
abbrev S1x4096x1x32 : Shape := ⟨4, ![1, 4096, 1, 32]⟩

abbrev nBuf : Space → Nat
  | .hbm => 136
  | .vmem => 0
  | .smem => 0
  | _ => 0

abbrev hbmTy0_0 (i : Nat) : BufTy := match i % 128 with
  | 0 => ⟨S16384x1024, .f32⟩
  | 1 => ⟨S1024, .f32⟩
  | 2 => ⟨S1024x9216, .f32⟩
  | 3 => ⟨S64, .f32⟩
  | 4 => ⟨S64, .f32⟩
  | 5 => ⟨S4096, .i32⟩
  | 6 => ⟨S16384x1024, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S_, .f32⟩
  | 14 => ⟨S16384x1, .f32⟩
  | 15 => ⟨S16384x1, .f32⟩
  | 16 => ⟨S16384x1, .f32⟩
  | 17 => ⟨S16384x1024, .f32⟩
  | 18 => ⟨S16384x1024, .f32⟩
  | 19 => ⟨S1x1024, .f32⟩
  | 20 => ⟨S16384x1024, .f32⟩
  | 21 => ⟨S16384x1024, .f32⟩
  | 22 => ⟨S16384x9216, .f32⟩
  | 23 => ⟨S16384x3072, .f32⟩
  | 24 => ⟨S16384x3072, .f32⟩
  | 25 => ⟨S16384x3072, .f32⟩
  | 26 => ⟨S4x4096x48x64, .f32⟩
  | 27 => ⟨S4x4096x48x64, .f32⟩
  | 28 => ⟨S_, .f32⟩
  | 29 => ⟨S4x4096x48, .f32⟩
  | 30 => ⟨S4x4096x48x1, .f32⟩
  | 31 => ⟨S_, .f32⟩
  | 32 => ⟨S4x4096x48x1, .f32⟩
  | 33 => ⟨S4x4096x48x1, .f32⟩
  | 34 => ⟨S_, .f32⟩
  | 35 => ⟨S4x4096x48x1, .f32⟩
  | 36 => ⟨S4x4096x48x1, .f32⟩
  | 37 => ⟨S4x4096x48x1, .f32⟩
  | 38 => ⟨S4x4096x48x64, .f32⟩
  | 39 => ⟨S4x4096x48x64, .f32⟩
  | 40 => ⟨S1x1x1x64, .f32⟩
  | 41 => ⟨S4x4096x48x64, .f32⟩
  | 42 => ⟨S4x4096x48x64, .f32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S4096, .f32⟩
  | 52 => ⟨S4096x1, .f32⟩
  | 53 => ⟨S1x32, .f32⟩
  | 54 => ⟨S4096x32, .f32⟩
  | 55 => ⟨S4096x32, .f32⟩
  | 56 => ⟨S4096x32, .f32⟩
  | 57 => ⟨S4096x32, .f32⟩
  | 58 => ⟨S4096x1x32, .f32⟩
  | 59 => ⟨S4096x32, .f32⟩
  | 60 => ⟨S4096x1x32, .f32⟩
  | 61 => ⟨S4x4096x48x32, .f32⟩
  | 62 => ⟨S4x4096x48x32, .f32⟩
  | 63 => ⟨S1x4096x1x32, .f32⟩
  | 64 => ⟨S4x4096x48x32, .f32⟩
  | 65 => ⟨S4x4096x48x32, .f32⟩
  | 66 => ⟨S1x4096x1x32, .f32⟩
  | 67 => ⟨S4x4096x48x32, .f32⟩
  | 68 => ⟨S4x4096x48x32, .f32⟩
  | 69 => ⟨S4x4096x48x32, .f32⟩
  | 70 => ⟨S1x4096x1x32, .f32⟩
  | 71 => ⟨S4x4096x48x32, .f32⟩
  | 72 => ⟨S4x4096x48x32, .f32⟩
  | 73 => ⟨S1x4096x1x32, .f32⟩
  | 74 => ⟨S4x4096x48x32, .f32⟩
  | 75 => ⟨S4x4096x48x32, .f32⟩
  | 76 => ⟨S4x4096x48x32, .f32⟩
  | 77 => ⟨S4x4096x48x64, .f32⟩
  | 78 => ⟨S_, .f32⟩
  | 79 => ⟨S4x4096x48x64, .f32⟩
  | 80 => ⟨S4x4096x48x64, .f32⟩
  | 81 => ⟨S4x4096x48x64, .f32⟩
  | 82 => ⟨S4x4096x48x64, .f32⟩
  | 83 => ⟨S_, .f32⟩
  | 84 => ⟨S4x4096x48, .f32⟩
  | 85 => ⟨S4x4096x48x1, .f32⟩
  | 86 => ⟨S_, .f32⟩
  | 87 => ⟨S4x4096x48x1, .f32⟩
  | 88 => ⟨S4x4096x48x1, .f32⟩
  | 89 => ⟨S_, .f32⟩
  | 90 => ⟨S4x4096x48x1, .f32⟩
  | 91 => ⟨S4x4096x48x1, .f32⟩
  | 92 => ⟨S4x4096x48x1, .f32⟩
  | 93 => ⟨S4x4096x48x64, .f32⟩
  | 94 => ⟨S4x4096x48x64, .f32⟩
  | 95 => ⟨S1x1x1x64, .f32⟩
  | 96 => ⟨S4x4096x48x64, .f32⟩
  | 97 => ⟨S4x4096x48x64, .f32⟩
  | 98 => ⟨S32, .f32⟩
  | 99 => ⟨S32, .f32⟩
  | 100 => ⟨S_, .f32⟩
  | 101 => ⟨S32, .f32⟩
  | 102 => ⟨S32, .f32⟩
  | 103 => ⟨S_, .f32⟩
  | 104 => ⟨S32, .f32⟩
  | 105 => ⟨S32, .f32⟩
  | 106 => ⟨S4096, .f32⟩
  | 107 => ⟨S4096x1, .f32⟩
  | 108 => ⟨S1x32, .f32⟩
  | 109 => ⟨S4096x32, .f32⟩
  | 110 => ⟨S4096x32, .f32⟩
  | 111 => ⟨S4096x32, .f32⟩
  | 112 => ⟨S4096x32, .f32⟩
  | 113 => ⟨S4096x1x32, .f32⟩
  | 114 => ⟨S4096x32, .f32⟩
  | 115 => ⟨S4096x1x32, .f32⟩
  | 116 => ⟨S4x4096x48x32, .f32⟩
  | 117 => ⟨S4x4096x48x32, .f32⟩
  | 118 => ⟨S1x4096x1x32, .f32⟩
  | 119 => ⟨S4x4096x48x32, .f32⟩
  | 120 => ⟨S4x4096x48x32, .f32⟩
  | 121 => ⟨S1x4096x1x32, .f32⟩
  | 122 => ⟨S4x4096x48x32, .f32⟩
  | 123 => ⟨S4x4096x48x32, .f32⟩
  | 124 => ⟨S4x4096x48x32, .f32⟩
  | 125 => ⟨S1x4096x1x32, .f32⟩
  | 126 => ⟨S4x4096x48x32, .f32⟩
  | 127 => ⟨S4x4096x48x32, .f32⟩
  | _ => ⟨S16384x1024, .f32⟩

abbrev hbmTy0_1 (i : Nat) : BufTy := match i % 128 with
  | 0 => ⟨S1x4096x1x32, .f32⟩
  | 1 => ⟨S4x4096x48x32, .f32⟩
  | 2 => ⟨S4x4096x48x32, .f32⟩
  | 3 => ⟨S4x4096x48x32, .f32⟩
  | 4 => ⟨S4x4096x48x64, .f32⟩
  | 5 => ⟨S16384x3072, .f32⟩
  | 6 => ⟨S16384x3072, .f32⟩
  | 7 => ⟨S16384x9216, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_7 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_8 : Ref sig .tc := ⟨.hbm, 83, rfl⟩
abbrev main_v69 : Ref sig .tc := ⟨.hbm, 84, rfl⟩
abbrev main_v70 : Ref sig .tc := ⟨.hbm, 85, rfl⟩
abbrev main_cst_9 : Ref sig .tc := ⟨.hbm, 86, rfl⟩
abbrev main_v71 : Ref sig .tc := ⟨.hbm, 87, rfl⟩
abbrev main_v72 : Ref sig .tc := ⟨.hbm, 88, rfl⟩
abbrev main_cst_10 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_11 : Ref sig .tc := ⟨.hbm, 100, rfl⟩
abbrev main_v83 : Ref sig .tc := ⟨.hbm, 101, rfl⟩
abbrev main_v84 : Ref sig .tc := ⟨.hbm, 102, rfl⟩
abbrev main_cst_12 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩

abbrev nD : Nat := 1
abbrev τ : Topo := Topo.v7x

variable {F : FTy → Type} [FloatOps F]

def κ : String → Option EReal := fun
  | "mask" => some ⊥
  | _ => none
-- ==== OutB.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024x1024, .bf16⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutBIdeal.lean ====
def κ : String → Option EReal := fun
  | "mask" => some ⊥
  | _ => none
-- ==== OutBRefIdeal.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S16384x1024, .f32⟩
  | .hbm, ⟨4, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

def κ : String → Option EReal := fun
  | "mask" => some ⊥
  | _ => none
-- ==== OutA.lean ====
abbrev S16384x1024 : Shape := ⟨2, ![16384, 1024]⟩
abbrev S16384x128 : Shape := ⟨2, ![16384, 128]⟩
abbrev S1024x1024 : Shape := ⟨2, ![1024, 1024]⟩
abbrev S128 : Shape := ⟨1, ![128]⟩
abbrev S1024 : Shape := ⟨1, ![1024]⟩
abbrev S128x1 : Shape := ⟨2, ![128, 1]⟩
abbrev S1x1024 : Shape := ⟨2, ![1, 1024]⟩
abbrev S_ : Shape := ⟨0, ![]⟩
abbrev S128x1024 : Shape := ⟨2, ![128, 1024]⟩
abbrev S512x1024 : Shape := ⟨2, ![512, 1024]⟩
abbrev S512x128 : Shape := ⟨2, ![512, 128]⟩

abbrev nBuf : Space → Nat
  | .hbm => 36
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x128, .f32⟩
  | .hbm, ⟨5, _⟩ => ⟨S16384x128, .f32⟩
  | .hbm, ⟨6, _⟩ => ⟨S16384x128, .f32⟩
  | .hbm, ⟨7, _⟩ => ⟨S1024x1024, .f32⟩
  | .hbm, ⟨8, _⟩ => ⟨S128, .i32⟩
  | .hbm, ⟨9, _⟩ => ⟨S1024, .i32⟩
  | .hbm, ⟨10, _⟩ => ⟨S128x1, .i32⟩
  | .hbm, ⟨11, _⟩ => ⟨S1x1024, .i32⟩
  | .hbm, ⟨12, _⟩ => ⟨S_, .i32⟩
  | .hbm, ⟨13, _⟩ => ⟨S_, .i32⟩
  | .hbm, ⟨14, _⟩ => ⟨S1x1024, .i32⟩
  | .hbm, ⟨15, _⟩ => ⟨S1x1024, .i32⟩
  | .hbm, ⟨16, _⟩ => ⟨S1x1024, .i32⟩
  | .hbm, ⟨17, _⟩ => ⟨S_, .i32⟩
  | .hbm, ⟨18, _⟩ => ⟨S1x1024, .i32⟩
  | .hbm, ⟨19, _⟩ => ⟨S1x1024, .i1⟩
  | .hbm, ⟨20, _⟩ => ⟨S1x1024, .i32⟩
  | .hbm, ⟨21, _⟩ => ⟨S1x1024, .i32⟩
  | .hbm, ⟨22, _⟩ => ⟨S_, .i32⟩
  | .hbm, ⟨23, _⟩ => ⟨S1x1024, .i32⟩
  | .hbm, ⟨24, _⟩ => ⟨S1x1024, .i1⟩
  | .hbm, ⟨25, _⟩ => ⟨S1x1024, .i1⟩
  | .hbm, ⟨26, _⟩ => ⟨S_, .i32⟩
  | .hbm, ⟨27, _⟩ => ⟨S1x1024, .i32⟩
  | .hbm, ⟨28, _⟩ => ⟨S1x1024, .i32⟩
  | .hbm, ⟨29, _⟩ => ⟨S1x1024, .i32⟩
  | .hbm, ⟨30, _⟩ => ⟨S128x1024, .i32⟩
  | .hbm, ⟨31, _⟩ => ⟨S128x1024, .i32⟩
  | .hbm, ⟨32, _⟩ => ⟨S128x1024, .i1⟩
  | .hbm, ⟨33, _⟩ => ⟨S128x1024, .bf16⟩
  | .hbm, ⟨34, _⟩ => ⟨S1024x1024, .bf16⟩
  | .hbm, ⟨35, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S128x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutAIdeal.lean ====
def κ : String → Option EReal := fun
  | "mask" => some ⊥
  | _ => none
-- ==== OutARefIdeal.lean ====
abbrev S16384x1024 : Shape := ⟨2, ![16384, 1024]⟩
abbrev S16384x128 : Shape := ⟨2, ![16384, 128]⟩
abbrev S1024x1024 : Shape := ⟨2, ![1024, 1024]⟩
abbrev S16384x16x64 : Shape := ⟨3, ![16384, 16, 64]⟩
abbrev S1x16384x16x64 : Shape := ⟨4, ![1, 16384, 16, 64]⟩
abbrev S3x16384x16x64 : Shape := ⟨4, ![3, 16384, 16, 64]⟩
abbrev S16384x16 : Shape := ⟨2, ![16384, 16]⟩
abbrev S1x16384x16 : Shape := ⟨3, ![1, 16384, 16]⟩
abbrev S3x16384x16 : Shape := ⟨3, ![3, 16384, 16]⟩
abbrev S_ : Shape := ⟨0, ![]⟩
abbrev S3x16384x16x1 : Shape := ⟨4, ![3, 16384, 16, 1]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x128, .f32⟩
  | .hbm, ⟨5, _⟩ => ⟨S16384x128, .f32⟩
  | .hbm, ⟨6, _⟩ => ⟨S16384x128, .f32⟩
  | .hbm, ⟨7, _⟩ => ⟨S1024x1024, .f32⟩
  | .hbm, ⟨8, _⟩ => ⟨S16384x16x64, .f32⟩
  | .hbm, ⟨9, _⟩ => ⟨S16384x16x64, .f32⟩
  | .hbm, ⟨10, _⟩ => ⟨S16384x16x64, .f32⟩
  | .hbm, ⟨11, _⟩ => ⟨S1x16384x16x64, .f32⟩
  | .hbm, ⟨12, _⟩ => ⟨S1x16384x16x64, .f32⟩
  | .hbm, ⟨13, _⟩ => ⟨S1x16384x16x64, .f32⟩
  | .hbm, ⟨14, _⟩ => ⟨S3x16384x16x64, .f32⟩
  | .hbm, ⟨15, _⟩ => ⟨S16384x16, .f32⟩
  | .hbm, ⟨16, _⟩ => ⟨S16384x16, .f32⟩
  | .hbm, ⟨17, _⟩ => ⟨S16384x16, .f32⟩
  | .hbm, ⟨18, _⟩ => ⟨S1x16384x16, .f32⟩
  | .hbm, ⟨19, _⟩ => ⟨S1x16384x16, .f32⟩
  | .hbm, ⟨20, _⟩ => ⟨S1x16384x16, .f32⟩
  | .hbm, ⟨21, _⟩ => ⟨S3x16384x16, .f32⟩
  | .hbm, ⟨22, _⟩ => ⟨S_, .f32⟩
  | .hbm, ⟨23, _⟩ => ⟨S16384x16, .f32⟩
  | .hbm, ⟨24, _⟩ => ⟨S_, .f32⟩
  | .hbm, ⟨25, _⟩ => ⟨S16384x16, .f32⟩
  | .hbm, ⟨26, _⟩ => ⟨S16384x16, .f32⟩
  | .hbm, ⟨27, _⟩ => ⟨S1x16384x16, .f32⟩
  | .hbm, ⟨28, _⟩ => ⟨S3x16384x16, .f32⟩
  | .hbm, ⟨29, _⟩ => ⟨S3x16384x16, .f32⟩
  | .hbm, ⟨30, _⟩ => ⟨S3x16384x16, .f32⟩
  | .hbm, ⟨31, _⟩ => ⟨S_, .f32⟩
  | .hbm, ⟨32, _⟩ => ⟨S16384x16, .f32⟩
  | .hbm, ⟨33, _⟩ => ⟨S1x16384x16, .f32⟩
  | .hbm, ⟨34, _⟩ => ⟨S3x16384x16, .f32⟩
  | .hbm, ⟨35, _⟩ => ⟨S3x16384x16, .f32⟩
  | .hbm, ⟨36, _⟩ => ⟨S3x16384x16x1, .f32⟩
  | .hbm, ⟨37, _⟩ => ⟨S3x16384x16x64, .f32⟩
  | .hbm, ⟨38, _⟩ => ⟨S3x16384x16x64, .f32⟩
  | .hbm, ⟨39, _⟩ => ⟨S_, .f32⟩
  | .hbm, ⟨40, _⟩ => ⟨S16384x16x64, .f32⟩
  | .hbm, ⟨41, _⟩ => ⟨S16384x1024, .f32⟩
  | .hbm, ⟨42, _⟩ => ⟨S16384x1024, .f32⟩
  | .hbm, ⟨43, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

def κ : String → Option EReal := fun
  | "mask" => some ⊥
  | _ => none
-- ==== ProjB.lean ====
abbrev S16384x1024 : Shape := ⟨2, ![16384, 1024]⟩
abbrev S1024 : Shape := ⟨1, ![1024]⟩
abbrev S1024x1024 : Shape := ⟨2, ![1024, 1024]⟩
abbrev S64 : Shape := ⟨1, ![64]⟩
abbrev S128 : Shape := ⟨1, ![128]⟩
abbrev S128x1 : Shape := ⟨2, ![128, 1]⟩
abbrev S_ : Shape := ⟨0, ![]⟩
abbrev S1x128 : Shape := ⟨2, ![1, 128]⟩
abbrev S128x128 : Shape := ⟨2, ![128, 128]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1x4096x1x128 : Shape := ⟨4, ![1, 4096, 1, 128]⟩
abbrev S1x1024 : Shape := ⟨2, ![1, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 92
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S64, .f32⟩
  | .hbm, ⟨4, _⟩ => ⟨S128, .i32⟩
  | .hbm, ⟨5, _⟩ => ⟨S128x1, .i32⟩
  | .hbm, ⟨6, _⟩ => ⟨S_, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S128x1, .i32⟩
  | .hbm, ⟨11, _⟩ => ⟨S_, .i32⟩
  | .hbm, ⟨12, _⟩ => ⟨S128x1, .i32⟩
  | .hbm, ⟨13, _⟩ => ⟨S128x1, .i1⟩
  | .hbm, ⟨14, _⟩ => ⟨S128x1, .i32⟩
  | .hbm, ⟨15, _⟩ => ⟨S128x1, .i32⟩
  | .hbm, ⟨16, _⟩ => ⟨S_, .i32⟩
  | .hbm, ⟨17, _⟩ => ⟨S128x1, .i32⟩
  | .hbm, ⟨18, _⟩ => ⟨S128x1, .i1⟩
  | .hbm, ⟨19, _⟩ => ⟨S128x1, .i1⟩
  | .hbm, ⟨20, _⟩ => ⟨S_, .i32⟩
  | .hbm, ⟨21, _⟩ => ⟨S128x1, .i32⟩
  | .hbm, ⟨22, _⟩ => ⟨S128x1, .i32⟩
  | .hbm, ⟨23, _⟩ => ⟨S128x1, .i32⟩
  | .hbm, ⟨24, _⟩ => ⟨S1x128, .i32⟩
  | .hbm, ⟨25, _⟩ => ⟨S_, .i32⟩
  | .hbm, ⟨26, _⟩ => ⟨S_, .i32⟩
  | .hbm, ⟨27, _⟩ => ⟨S1x128, .i32⟩
  | .hbm, ⟨28, _⟩ => ⟨S1x128, .i32⟩
  | .hbm, ⟨29, _⟩ => ⟨S1x128, .i32⟩
  | .hbm, ⟨30, _⟩ => ⟨S_, .i32⟩
  | .hbm, ⟨31, _⟩ => ⟨S1x128, .i32⟩
  | .hbm, ⟨32, _⟩ => ⟨S1x128, .i1⟩
  | .hbm, ⟨33, _⟩ => ⟨S1x128, .i32⟩
  | .hbm, ⟨34, _⟩ => ⟨S1x128, .i32⟩
  | .hbm, ⟨35, _⟩ => ⟨S_, .i32⟩
  | .hbm, ⟨36, _⟩ => ⟨S1x128, .i32⟩
  | .hbm, ⟨37, _⟩ => ⟨S1x128, .i1⟩
  | .hbm, ⟨38, _⟩ => ⟨S1x128, .i1⟩
  | .hbm, ⟨39, _⟩ => ⟨S_, .i32⟩
  | .hbm, ⟨40, _⟩ => ⟨S1x128, .i32⟩
  | .hbm, ⟨41, _⟩ => ⟨S1x128, .i32⟩
  | .hbm, ⟨42, _⟩ => ⟨S1x128, .i32⟩
  | .hbm, ⟨43, _⟩ => ⟨S128x128, .i32⟩
  | .hbm, ⟨44, _⟩ => ⟨S128x128, .i32⟩
  | .hbm, ⟨45, _⟩ => ⟨S128x128, .i1⟩
  | .hbm, ⟨46, _⟩ => ⟨S_, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S128x128, .bf16⟩
  | .hbm, ⟨52, _⟩ => ⟨S4096, .i32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S4096, .f32⟩
  | .hbm, ⟨62, _⟩ => ⟨S4096x1, .f32⟩
  | .hbm, ⟨63, _⟩ => ⟨S1x32, .f32⟩
  | .hbm, ⟨64, _⟩ => ⟨S4096x32, .f32⟩
  | .hbm, ⟨65, _⟩ => ⟨S4096x32, .f32⟩
  | .hbm, ⟨66, _⟩ => ⟨S4096x32, .f32⟩
  | .hbm, ⟨67, _⟩ => ⟨S4096x32, .f32⟩
  | .hbm, ⟨68, _⟩ => ⟨S4096x32, .f32⟩
  | .hbm, ⟨69, _⟩ => ⟨S4096x128, .f32⟩
  | .hbm, ⟨70, _⟩ => ⟨S4096x32, .f32⟩
  | .hbm, ⟨71, _⟩ => ⟨S4096x32, .f32⟩
  | .hbm, ⟨72, _⟩ => ⟨S4096x128, .f32⟩
  | .hbm, ⟨73, _⟩ => ⟨S1x4096x1x128, .f32⟩
  | .hbm, ⟨74, _⟩ => ⟨S1x4096x1x128, .f32⟩
  | .hbm, ⟨75, _⟩ => ⟨S4096x128, .f32⟩
  | .hbm, ⟨76, _⟩ => ⟨S1x4096x1x128, .f32⟩
  | .hbm, ⟨77, _⟩ => ⟨S1x4096x1x128, .f32⟩
  | .hbm, ⟨78, _⟩ => ⟨S4096x128, .f32⟩
  | .hbm, ⟨79, _⟩ => ⟨S128, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S1x128, .f32⟩
  | .hbm, ⟨84, _⟩ => ⟨S128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S1x128, .f32⟩
  | .hbm, ⟨89, _⟩ => ⟨S1024x1024, .bf16⟩
  | .hbm, ⟨90, _⟩ => ⟨S1x1024, .f32⟩
  | .hbm, ⟨91, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S128x128, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_cst : Ref sig .tc := ⟨.hbm, 46, rfl⟩
abbrev main_cst_1 : Ref sig .tc := ⟨.hbm, 47, rfl⟩
abbrev main_call2_v0 : Ref sig .tc := ⟨.hbm, 48, rfl⟩
abbrev main_call2_v1 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_cst_2 : Ref sig .tc := ⟨.hbm, 55, rfl⟩
abbrev main_v13 : Ref sig .tc := ⟨.hbm, 56, rfl⟩
abbrev main_v14 : Ref sig .tc := ⟨.hbm, 57, rfl⟩
abbrev main_cst_3 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_cst_4 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_cst_5 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c1_i32 : BitVec 32 := 1#32
  let v7 : BitVec 1 := Scalar.cmpi .slt arg1 c1_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c1_i32_5 : BitVec 32 := 1#32
  let v10 : BitVec 1 := Scalar.cmpi .sge arg1 c1_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ProjBIdeal.lean ====
def κ : String → Option EReal := fun
  | "mask" => some ⊥
  | _ => none
-- ==== ProjBRefIdeal.lean ====
abbrev S16384x1024 : Shape := ⟨2, ![16384, 1024]⟩
abbrev S1024 : Shape := ⟨1, ![1024]⟩
abbrev S1024x1024 : Shape := ⟨2, ![1024, 1024]⟩
abbrev S64 : Shape := ⟨1, ![64]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S4x4096x16x64 : Shape := ⟨4, ![4, 4096, 16, 64]⟩
abbrev S4x4096x16 : Shape := ⟨3, ![4, 4096, 16]⟩
abbrev S4x4096x16x1 : Shape := ⟨4, ![4, 4096, 16, 1]⟩
abbrev S1x1x1x64 : Shape := ⟨4, ![1, 1, 1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4x4096x16x32 : Shape := ⟨4, ![4, 4096, 16, 32]⟩
abbrev S1x4096x1x32 : Shape := ⟨4, ![1, 4096, 1, 32]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S64, .f32⟩
  | .hbm, ⟨4, _⟩ => ⟨S4096, .i32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S4x4096x16x64, .f32⟩
  | .hbm, ⟨23, _⟩ => ⟨S4x4096x16x64, .f32⟩
  | .hbm, ⟨24, _⟩ => ⟨S_, .f32⟩
  | .hbm, ⟨25, _⟩ => ⟨S4x4096x16, .f32⟩
  | .hbm, ⟨26, _⟩ => ⟨S4x4096x16x1, .f32⟩
  | .hbm, ⟨27, _⟩ => ⟨S_, .f32⟩
  | .hbm, ⟨28, _⟩ => ⟨S4x4096x16x1, .f32⟩
  | .hbm, ⟨29, _⟩ => ⟨S4x4096x16x1, .f32⟩
  | .hbm, ⟨30, _⟩ => ⟨S_, .f32⟩
  | .hbm, ⟨31, _⟩ => ⟨S4x4096x16x1, .f32⟩
  | .hbm, ⟨32, _⟩ => ⟨S4x4096x16x1, .f32⟩
  | .hbm, ⟨33, _⟩ => ⟨S4x4096x16x1, .f32⟩
  | .hbm, ⟨34, _⟩ => ⟨S4x4096x16x64, .f32⟩
  | .hbm, ⟨35, _⟩ => ⟨S4x4096x16x64, .f32⟩
  | .hbm, ⟨36, _⟩ => ⟨S1x1x1x64, .f32⟩
  | .hbm, ⟨37, _⟩ => ⟨S4x4096x16x64, .f32⟩
  | .hbm, ⟨38, _⟩ => ⟨S4x4096x16x64, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S4096, .f32⟩
  | .hbm, ⟨48, _⟩ => ⟨S4096x1, .f32⟩
  | .hbm, ⟨49, _⟩ => ⟨S1x32, .f32⟩
  | .hbm, ⟨50, _⟩ => ⟨S4096x32, .f32⟩
  | .hbm, ⟨51, _⟩ => ⟨S4096x32, .f32⟩
  | .hbm, ⟨52, _⟩ => ⟨S4096x32, .f32⟩
  | .hbm, ⟨53, _⟩ => ⟨S4096x32, .f32⟩
  | .hbm, ⟨54, _⟩ => ⟨S4096x1x32, .f32⟩
  | .hbm, ⟨55, _⟩ => ⟨S4096x32, .f32⟩
  | .hbm, ⟨56, _⟩ => ⟨S4096x1x32, .f32⟩
  | .hbm, ⟨57, _⟩ => ⟨S4x4096x16x32, .f32⟩
  | .hbm, ⟨58, _⟩ => ⟨S4x4096x16x32, .f32⟩
  | .hbm, ⟨59, _⟩ => ⟨S1x4096x1x32, .f32⟩
  | .hbm, ⟨60, _⟩ => ⟨S4x4096x16x32, .f32⟩
  | .hbm, ⟨61, _⟩ => ⟨S4x4096x16x32, .f32⟩
  | .hbm, ⟨62, _⟩ => ⟨S1x4096x1x32, .f32⟩
  | .hbm, ⟨63, _⟩ => ⟨S4x4096x16x32, .f32⟩
  | .hbm, ⟨64, _⟩ => ⟨S4x4096x16x32, .f32⟩
  | .hbm, ⟨65, _⟩ => ⟨S4x4096x16x32, .f32⟩
  | .hbm, ⟨66, _⟩ => ⟨S1x4096x1x32, .f32⟩
  | .hbm, ⟨67, _⟩ => ⟨S4x4096x16x32, .f32⟩
  | .hbm, ⟨68, _⟩ => ⟨S4x4096x16x32, .f32⟩
  | .hbm, ⟨69, _⟩ => ⟨S1x4096x1x32, .f32⟩
  | .hbm, ⟨70, _⟩ => ⟨S4x4096x16x32, .f32⟩
  | .hbm, ⟨71, _⟩ => ⟨S4x4096x16x32, .f32⟩
  | .hbm, ⟨72, _⟩ => ⟨S4x4096x16x32, .f32⟩
  | .hbm, ⟨73, _⟩ => ⟨S4x4096x16x64, .f32⟩
  | .hbm, ⟨74, _⟩ => ⟨S_, .f32⟩
  | .hbm, ⟨75, _⟩ => ⟨S4x4096x16x64, .f32⟩
  | .hbm, ⟨76, _⟩ => ⟨S4x4096x16x64, .f32⟩
  | .hbm, ⟨77, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_7 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩

abbrev nD : Nat := 1
abbrev τ : Topo := Topo.v7x

variable {F : FTy → Type} [FloatOps F]

def κ : String → Option EReal := fun
  | "mask" => some ⊥
  | _ => none
-- ==== ProjKv.lean ====
abbrev S16384x1024 : Shape := ⟨2, ![16384, 1024]⟩
abbrev S1024 : Shape := ⟨1, ![1024]⟩
abbrev S1024x256 : Shape := ⟨2, ![1024, 256]⟩
abbrev S64 : Shape := ⟨1, ![64]⟩
abbrev S128 : Shape := ⟨1, ![128]⟩
abbrev S128x1 : Shape := ⟨2, ![128, 1]⟩
abbrev S_ : Shape := ⟨0, ![]⟩
abbrev S1x128 : Shape := ⟨2, ![1, 128]⟩
abbrev S128x128 : Shape := ⟨2, ![128, 128]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1x4096x1x128 : Shape := ⟨4, ![1, 4096, 1, 128]⟩
abbrev S1x1024 : Shape := ⟨2, ![1, 1024]⟩
abbrev S16384x256 : Shape := ⟨2, ![16384, 256]⟩
abbrev S512x1024 : Shape := ⟨2, ![512, 1024]⟩
abbrev S1024x128 : Shape := ⟨2, ![1024, 128]⟩
abbrev S512x128 : Shape := ⟨2, ![512, 128]⟩
abbrev S512 : Shape := ⟨1, ![512]⟩
abbrev S512x1 : Shape := ⟨2, ![512, 1]⟩

abbrev nBuf : Space → Nat
  | .hbm => 92
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x256, .f32⟩
  | .hbm, ⟨3, _⟩ => ⟨S64, .f32⟩
  | .hbm, ⟨4, _⟩ => ⟨S128, .i32⟩
  | .hbm, ⟨5, _⟩ => ⟨S128x1, .i32⟩
  | .hbm, ⟨6, _⟩ => ⟨S_, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S128x1, .i32⟩
  | .hbm, ⟨11, _⟩ => ⟨S_, .i32⟩
  | .hbm, ⟨12, _⟩ => ⟨S128x1, .i32⟩
  | .hbm, ⟨13, _⟩ => ⟨S128x1, .i1⟩
  | .hbm, ⟨14, _⟩ => ⟨S128x1, .i32⟩
  | .hbm, ⟨15, _⟩ => ⟨S128x1, .i32⟩
  | .hbm, ⟨16, _⟩ => ⟨S_, .i32⟩
  | .hbm, ⟨17, _⟩ => ⟨S128x1, .i32⟩
  | .hbm, ⟨18, _⟩ => ⟨S128x1, .i1⟩
  | .hbm, ⟨19, _⟩ => ⟨S128x1, .i1⟩
  | .hbm, ⟨20, _⟩ => ⟨S_, .i32⟩
  | .hbm, ⟨21, _⟩ => ⟨S128x1, .i32⟩
  | .hbm, ⟨22, _⟩ => ⟨S128x1, .i32⟩
  | .hbm, ⟨23, _⟩ => ⟨S128x1, .i32⟩
  | .hbm, ⟨24, _⟩ => ⟨S1x128, .i32⟩
  | .hbm, ⟨25, _⟩ => ⟨S_, .i32⟩
  | .hbm, ⟨26, _⟩ => ⟨S_, .i32⟩
  | .hbm, ⟨27, _⟩ => ⟨S1x128, .i32⟩
  | .hbm, ⟨28, _⟩ => ⟨S1x128, .i32⟩
  | .hbm, ⟨29, _⟩ => ⟨S1x128, .i32⟩
  | .hbm, ⟨30, _⟩ => ⟨S_, .i32⟩
  | .hbm, ⟨31, _⟩ => ⟨S1x128, .i32⟩
  | .hbm, ⟨32, _⟩ => ⟨S1x128, .i1⟩
  | .hbm, ⟨33, _⟩ => ⟨S1x128, .i32⟩
  | .hbm, ⟨34, _⟩ => ⟨S1x128, .i32⟩
  | .hbm, ⟨35, _⟩ => ⟨S_, .i32⟩
  | .hbm, ⟨36, _⟩ => ⟨S1x128, .i32⟩
  | .hbm, ⟨37, _⟩ => ⟨S1x128, .i1⟩
  | .hbm, ⟨38, _⟩ => ⟨S1x128, .i1⟩
  | .hbm, ⟨39, _⟩ => ⟨S_, .i32⟩
  | .hbm, ⟨40, _⟩ => ⟨S1x128, .i32⟩
  | .hbm, ⟨41, _⟩ => ⟨S1x128, .i32⟩
  | .hbm, ⟨42, _⟩ => ⟨S1x128, .i32⟩
  | .hbm, ⟨43, _⟩ => ⟨S128x128, .i32⟩
  | .hbm, ⟨44, _⟩ => ⟨S128x128, .i32⟩
  | .hbm, ⟨45, _⟩ => ⟨S128x128, .i1⟩
  | .hbm, ⟨46, _⟩ => ⟨S_, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S128x128, .bf16⟩
  | .hbm, ⟨52, _⟩ => ⟨S4096, .i32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S4096, .f32⟩
  | .hbm, ⟨62, _⟩ => ⟨S4096x1, .f32⟩
  | .hbm, ⟨63, _⟩ => ⟨S1x32, .f32⟩
  | .hbm, ⟨64, _⟩ => ⟨S4096x32, .f32⟩
  | .hbm, ⟨65, _⟩ => ⟨S4096x32, .f32⟩
  | .hbm, ⟨66, _⟩ => ⟨S4096x32, .f32⟩
  | .hbm, ⟨67, _⟩ => ⟨S4096x32, .f32⟩
  | .hbm, ⟨68, _⟩ => ⟨S4096x32, .f32⟩
  | .hbm, ⟨69, _⟩ => ⟨S4096x128, .f32⟩
  | .hbm, ⟨70, _⟩ => ⟨S4096x32, .f32⟩
  | .hbm, ⟨71, _⟩ => ⟨S4096x32, .f32⟩
  | .hbm, ⟨72, _⟩ => ⟨S4096x128, .f32⟩
  | .hbm, ⟨73, _⟩ => ⟨S1x4096x1x128, .f32⟩
  | .hbm, ⟨74, _⟩ => ⟨S1x4096x1x128, .f32⟩
  | .hbm, ⟨75, _⟩ => ⟨S4096x128, .f32⟩
  | .hbm, ⟨76, _⟩ => ⟨S1x4096x1x128, .f32⟩
  | .hbm, ⟨77, _⟩ => ⟨S1x4096x1x128, .f32⟩
  | .hbm, ⟨78, _⟩ => ⟨S4096x128, .f32⟩
  | .hbm, ⟨79, _⟩ => ⟨S128, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S1x128, .f32⟩
  | .hbm, ⟨84, _⟩ => ⟨S128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S1x128, .f32⟩
  | .hbm, ⟨89, _⟩ => ⟨S1024x256, .bf16⟩
  | .hbm, ⟨90, _⟩ => ⟨S1x1024, .f32⟩
  | .hbm, ⟨91, _⟩ => ⟨S16384x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .bf16⟩
  | .local _ .vmem, ⟨4, _⟩ => ⟨S1024x128, .bf16⟩
  | .local _ .vmem, ⟨5, _⟩ => ⟨S1x128, .f32⟩
  | .local _ .vmem, ⟨6, _⟩ => ⟨S1x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S128x128, .bf16⟩
  | .local _ .vmem, ⟨12, _⟩ => ⟨S512x128, .f32⟩
  | .local _ .vmem, ⟨13, _⟩ => ⟨S512x128, .f32⟩
  | .local _ .vmem, ⟨14, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_cst : Ref sig .tc := ⟨.hbm, 46, rfl⟩
abbrev main_cst_1 : Ref sig .tc := ⟨.hbm, 47, rfl⟩
abbrev main_call2_v0 : Ref sig .tc := ⟨.hbm, 48, rfl⟩
abbrev main_call2_v1 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_cst_2 : Ref sig .tc := ⟨.hbm, 55, rfl⟩
abbrev main_v13 : Ref sig .tc := ⟨.hbm, 56, rfl⟩
abbrev main_v14 : Ref sig .tc := ⟨.hbm, 57, rfl⟩
abbrev main_cst_3 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_cst_4 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_cst_5 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v7 : BitVec 1 := Scalar.cmpi .slt arg1 c1_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c1_i32_5 : BitVec 32 := 1#32
  let v10 : BitVec 1 := Scalar.cmpi .sge arg1 c1_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ProjKvIdeal.lean ====
def κ : String → Option EReal := fun
  | "mask" => some ⊥
  | _ => none
-- ==== ProjKvRefIdeal.lean ====
abbrev S16384x1024 : Shape := ⟨2, ![16384, 1024]⟩
abbrev S1024 : Shape := ⟨1, ![1024]⟩
abbrev S1024x256 : Shape := ⟨2, ![1024, 256]⟩
abbrev S64 : Shape := ⟨1, ![64]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x256 : Shape := ⟨2, ![16384, 256]⟩
abbrev S16384x128 : Shape := ⟨2, ![16384, 128]⟩
abbrev S4x4096x2x64 : Shape := ⟨4, ![4, 4096, 2, 64]⟩
abbrev S4x4096x2 : Shape := ⟨3, ![4, 4096, 2]⟩
abbrev S4x4096x2x1 : Shape := ⟨4, ![4, 4096, 2, 1]⟩
abbrev S1x1x1x64 : Shape := ⟨4, ![1, 1, 1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4x4096x2x32 : Shape := ⟨4, ![4, 4096, 2, 32]⟩
abbrev S1x4096x1x32 : Shape := ⟨4, ![1, 4096, 1, 32]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x256, .f32⟩
  | .hbm, ⟨3, _⟩ => ⟨S64, .f32⟩
  | .hbm, ⟨4, _⟩ => ⟨S4096, .i32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x256, .f32⟩
  | .hbm, ⟨22, _⟩ => ⟨S16384x128, .f32⟩
  | .hbm, ⟨23, _⟩ => ⟨S16384x128, .f32⟩
  | .hbm, ⟨24, _⟩ => ⟨S4x4096x2x64, .f32⟩
  | .hbm, ⟨25, _⟩ => ⟨S4x4096x2x64, .f32⟩
  | .hbm, ⟨26, _⟩ => ⟨S_, .f32⟩
  | .hbm, ⟨27, _⟩ => ⟨S4x4096x2, .f32⟩
  | .hbm, ⟨28, _⟩ => ⟨S4x4096x2x1, .f32⟩
  | .hbm, ⟨29, _⟩ => ⟨S_, .f32⟩
  | .hbm, ⟨30, _⟩ => ⟨S4x4096x2x1, .f32⟩
  | .hbm, ⟨31, _⟩ => ⟨S4x4096x2x1, .f32⟩
  | .hbm, ⟨32, _⟩ => ⟨S_, .f32⟩
  | .hbm, ⟨33, _⟩ => ⟨S4x4096x2x1, .f32⟩
  | .hbm, ⟨34, _⟩ => ⟨S4x4096x2x1, .f32⟩
  | .hbm, ⟨35, _⟩ => ⟨S4x4096x2x1, .f32⟩
  | .hbm, ⟨36, _⟩ => ⟨S4x4096x2x64, .f32⟩
  | .hbm, ⟨37, _⟩ => ⟨S4x4096x2x64, .f32⟩
  | .hbm, ⟨38, _⟩ => ⟨S1x1x1x64, .f32⟩
  | .hbm, ⟨39, _⟩ => ⟨S4x4096x2x64, .f32⟩
  | .hbm, ⟨40, _⟩ => ⟨S4x4096x2x64, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S4096, .f32⟩
  | .hbm, ⟨50, _⟩ => ⟨S4096x1, .f32⟩
  | .hbm, ⟨51, _⟩ => ⟨S1x32, .f32⟩
  | .hbm, ⟨52, _⟩ => ⟨S4096x32, .f32⟩
  | .hbm, ⟨53, _⟩ => ⟨S4096x32, .f32⟩
  | .hbm, ⟨54, _⟩ => ⟨S4096x32, .f32⟩
  | .hbm, ⟨55, _⟩ => ⟨S4096x32, .f32⟩
  | .hbm, ⟨56, _⟩ => ⟨S4096x1x32, .f32⟩
  | .hbm, ⟨57, _⟩ => ⟨S4096x32, .f32⟩
  | .hbm, ⟨58, _⟩ => ⟨S4096x1x32, .f32⟩
  | .hbm, ⟨59, _⟩ => ⟨S4x4096x2x32, .f32⟩
  | .hbm, ⟨60, _⟩ => ⟨S4x4096x2x32, .f32⟩
  | .hbm, ⟨61, _⟩ => ⟨S1x4096x1x32, .f32⟩
  | .hbm, ⟨62, _⟩ => ⟨S4x4096x2x32, .f32⟩
  | .hbm, ⟨63, _⟩ => ⟨S4x4096x2x32, .f32⟩
  | .hbm, ⟨64, _⟩ => ⟨S1x4096x1x32, .f32⟩
  | .hbm, ⟨65, _⟩ => ⟨S4x4096x2x32, .f32⟩
  | .hbm, ⟨66, _⟩ => ⟨S4x4096x2x32, .f32⟩
  | .hbm, ⟨67, _⟩ => ⟨S4x4096x2x32, .f32⟩
  | .hbm, ⟨68, _⟩ => ⟨S1x4096x1x32, .f32⟩
  | .hbm, ⟨69, _⟩ => ⟨S4x4096x2x32, .f32⟩
  | .hbm, ⟨70, _⟩ => ⟨S4x4096x2x32, .f32⟩
  | .hbm, ⟨71, _⟩ => ⟨S1x4096x1x32, .f32⟩
  | .hbm, ⟨72, _⟩ => ⟨S4x4096x2x32, .f32⟩
  | .hbm, ⟨73, _⟩ => ⟨S4x4096x2x32, .f32⟩
  | .hbm, ⟨74, _⟩ => ⟨S4x4096x2x32, .f32⟩
  | .hbm, ⟨75, _⟩ => ⟨S4x4096x2x64, .f32⟩
  | .hbm, ⟨76, _⟩ => ⟨S16384x128, .f32⟩
  | .hbm, ⟨77, _⟩ => ⟨S16384x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩

abbrev nD : Nat := 1
abbrev τ : Topo := Topo.v7x

variable {F : FTy → Type} [FloatOps F]

def κ : String → Option EReal := fun
  | "mask" => some ⊥
  | _ => none
-- ==== Proof.Band.Body.lean ====
/- The banded attention body, one pair of heads at a time, as whole-vector expressions at the extended reals.

   The kernel's body runs the same computation for eight pairs of heads; each pair is a 128-lane column slice of the
   query, key and value blocks, whose low 64 lanes are one head and whose high 64 lanes are the next. This module names
   that computation once, over literal shapes, so that the printed payloads of every pair are instances of it. -/
module

public import Idealize.ShloMosaic.Lib.Pipeline.Value
public import Idealize.ShloMosaic.Lib.ValueIdx
public import Idealize.ShloMosaic.PureOps.Ideal.Laws

@[expose] public section

noncomputable section

namespace Cert.Band

open Idealize.ShloMosaic

abbrev TSlice : Shape := ⟨3, ![1, 128, 128]⟩
abbrev TTile : Shape := ⟨2, ![128, 128]⟩
abbrev TKeys : Shape := ⟨2, ![256, 128]⟩
abbrev TScore : Shape := ⟨2, ![128, 256]⟩
abbrev TVec : Shape := ⟨1, ![128]⟩
abbrev TCol : Shape := ⟨2, ![128, 1]⟩

theorem bits_lt : FTy.bits .bf16 < FTy.bits .f32 := by decide
theorem casts_slice_tile : TSlice.ShapeCasts TTile := by decide
theorem casts_tile_slice : TTile.ShapeCasts TSlice := by decide
theorem casts_vec_col : TVec.ShapeCasts TCol := by decide
theorem casts_col_col : TCol.ShapeCasts TCol := by decide
theorem concat_keys : Shape.Concatenates [TTile, TTile] TKeys 0 := by decide
theorem reduces_score : TScore.Reduces [1] TVec := by decide
theorem bcast_col_score : TCol.Broadcasts TScore := by decide
theorem bcast_col_tile : TCol.Broadcasts TTile := by decide
theorem iota_score0 : TScore.Iotas .tc 32 [0] := by decide
theorem iota_score1 : TScore.Iotas .tc 32 [1] := by decide
theorem iota_tile1 : TTile.Iotas .tc 32 [1] := by decide
theorem dotQK_wf : DotDims.WF TTile TKeys TScore [1] [1] [0] [0] [] [] := by decide
theorem dotPV_wf : DotDims.WF TScore TKeys TTile [1] [0] [0] [1] [] [] := by decide

/-- Queries times keys transposed: contract the lane axis of both. -/
def dotQK : DotDims TTile TKeys TScore := ⟨[1], [1], [0], [0], [], [], dotQK_wf⟩
/-- Weights times values: contract the key axis. -/
def dotPV : DotDims TScore TKeys TTile := ⟨[1], [0], [0], [1], [], [], dotPV_wf⟩

/-- Which keys a query row sees, from the grid coordinate of its block: at most 128 back, none ahead, and none before
    the sequence begins (the first block has no block before it). -/
def bandMask (n : BitVec 32) : IVec TScore 1 :=
  andi
    (andi (cmpi .sge (subi (addi (broadcast TScore 128#32) (iota .tc TScore 32 [0] iota_score0)) (iota .tc TScore 32 [1] iota_score1)) (broadcast TScore 0#32))
      (cmpi .sle (subi (addi (broadcast TScore 128#32) (iota .tc TScore 32 [0] iota_score0)) (iota .tc TScore 32 [1] iota_score1)) (broadcast TScore 128#32)))
    (cmpi .sge (iota .tc TScore 32 [1] iota_score1) (broadcast TScore (Scalar.select (Scalar.cmpi .eq n 0#32) 128#32 0#32)))

/-- The lane number at every place of a tile. -/
def lanes : IVec TTile 32 := iota .tc TTile 32 [1] iota_tile1
/-- The lanes of the pair's first head. -/
def loMask : IVec TTile 1 := cmpi .slt lanes (broadcast TTile 64#32)

/-- The 256 keys (or values) a block of queries may see: the block before it, then its own. -/
def keys (prev cur : Vec Ideal TSlice .f32) : FVec Ideal TKeys .bf16 :=
  truncf .bf16 (concatenate TKeys 0 [⟨TTile, shapeCast TTile prev casts_slice_tile⟩, ⟨TTile, shapeCast TTile cur casts_slice_tile⟩] concat_keys) bits_lt

/-- The queries of the pair's first head: the other head's lanes cleared. -/
def qLo (q : Vec Ideal TSlice .f32) : FVec Ideal TTile .bf16 :=
  truncf .bf16 (select loMask (shapeCast TTile q casts_slice_tile) (broadcast TTile (Scalar.ofBits .f32 0x00000000#32))) bits_lt
/-- The queries of the pair's second head. -/
def qHi (q : Vec Ideal TSlice .f32) : FVec Ideal TTile .bf16 :=
  truncf .bf16 (select loMask (broadcast TTile (Scalar.ofBits .f32 0x00000000#32)) (shapeCast TTile q casts_slice_tile)) bits_lt

/-- The masked scores of one head. -/
def scores (neg : Ideal .f32) (mask : IVec TScore 1) (q : FVec Ideal TTile .bf16) (kk : FVec Ideal TKeys .bf16) : FVec Ideal TScore .f32 :=
  select mask (matmul dotQK none q kk (constant TScore .f32 0x00000000#32)) (broadcast TScore neg)

/-- Each row's greatest score. -/
def rowMax (s : FVec Ideal TScore .f32) : FVec Ideal TCol .f32 :=
  shapeCast TCol (multiReduction .maximumf [1] TVec s 0xFF800000#32 reduces_score (.inl rfl) rfl) casts_vec_col

/-- The unnormalised weights: the exponential of a score less its row's greatest. -/
def weights (s : FVec Ideal TScore .f32) : FVec Ideal TScore .f32 :=
  exp (subf s (broadcastTo TScore (rowMax s) bcast_col_score))

/-- Each row's sum of weights. -/
def denom (s : FVec Ideal TScore .f32) : FVec Ideal TCol .f32 :=
  shapeCast TCol (multiReduction .add [1] TVec (weights s) 0x00000000#32 reduces_score (.inl rfl) rfl) casts_vec_col

/-- One head's output rows (all 128 lanes of the pair's values, of which its own 64 are kept). -/
def headOut (s : FVec Ideal TScore .f32) (vv : FVec Ideal TKeys .bf16) : FVec Ideal TTile .f32 :=
  divf (matmul dotPV none (truncf .bf16 (weights s) bits_lt) vv (constant TTile .f32 0x00000000#32)) (broadcastTo TTile (denom s) bcast_col_tile)

/-- One head's logarithm of the sum of exponentials of its scores, spread over the lanes of a tile. -/
def headLse (s : FVec Ideal TScore .f32) : FVec Ideal TTile .f32 :=
  broadcastTo TTile (shapeCast TCol (addf (rowMax s) (log (denom s))) casts_col_col) bcast_col_tile

/-- A pair's output slice: each head's rows on its own lanes. -/
def pairOut (neg : Ideal .f32) (n : BitVec 32) (q kp kc vp vc : Vec Ideal TSlice .f32) : FVec Ideal TSlice .f32 :=
  shapeCast TSlice
    (select loMask (headOut (scores neg (bandMask n) (qLo q) (keys kp kc)) (keys vp vc))
      (headOut (scores neg (bandMask n) (qHi q) (keys kp kc)) (keys vp vc))) casts_tile_slice

/-- The tile of sums after one head: the head's sums at the lane that bears its number. -/
def lseStep (h : BitVec 32) (s : FVec Ideal TScore .f32) (tile : FVec Ideal TTile .f32) : FVec Ideal TTile .f32 :=
  select (cmpi .eq lanes (broadcast TTile h)) (headLse s) tile

/-- The tile of sums after the two heads of a pair. -/
def lsePair (neg : Ideal .f32) (n : BitVec 32) (h0 h1 : BitVec 32) (q kp kc : Vec Ideal TSlice .f32) (tile : FVec Ideal TTile .f32) : FVec Ideal TTile .f32 :=
  lseStep h1 (scores neg (bandMask n) (qHi q) (keys kp kc)) (lseStep h0 (scores neg (bandMask n) (qLo q) (keys kp kc)) tile)

end Cert.Band

end
-- ==== Proof.Band.Spec.lean ====
/- Banded softmax attention of one query row over 256 keys, as plain functions of extended reals: no program, no shape.

   The kernel divides a row's weighted sum of values by its sum of weights; the reference divides each weight first. The
   two agree as soon as no score is `⊤` and some score is not `⊥` (`mean_eq`), and neither reads a key or a value that the
   mask hides (`scores_congr`, `mean_congr`). -/
module

public import Idealize.ShloMosaic.Lib.ValueIdx
public import Idealize.ShloMosaic.PureOps.Ideal.Laws

@[expose] public section

noncomputable section

namespace Cert.Band

open Idealize.ShloMosaic
open scoped BigOperators

/-- Row `r` of block `n` sees key `c` of the 256 before and in its block: no more than 128 back, none ahead, and in the
    first block none of the block before it. -/
def Sees (n r c : Nat) : Prop := r ≤ c ∧ c ≤ 128 + r ∧ (n = 0 → 128 ≤ c)

instance (n r c : Nat) : Decidable (Sees n r c) := by unfold Sees; infer_instance

/-- A row's scores: the query's product with each key it sees, `⊥` for the others. -/
def rowScores (n r : Nat) (q : Fin 64 → EReal) (K : Fin 256 → Fin 64 → EReal) (c : Fin 256) : EReal :=
  if Sees n r c.val then ∑ d : Fin 64, q d * K c d else ⊥

/-- The greatest of 256 scores. -/
def top (s : Fin 256 → EReal) : EReal := Finset.univ.fold max (⊥ : EReal) s

/-- A score's weight before normalisation. -/
def weight (s : Fin 256 → EReal) (c : Fin 256) : EReal := Ideal.exp (s c - top s)

/-- The sum of the weights. -/
def total (s : Fin 256 → EReal) : EReal := ∑ c, weight s c

/-- The weighted mean of `v`, divided once at the end. -/
def mean (s v : Fin 256 → EReal) : EReal := Ideal.div (∑ c, weight s c * v c) (total s)

/-- The weighted mean of `v` by normalised weights. -/
def meanOfNormalised (s v : Fin 256 → EReal) : EReal := ∑ c, Ideal.div (weight s c) (total s) * v c

/-- The logarithm of the sum of exponentials of the scores. -/
def logSum (s : Fin 256 → EReal) : EReal := top s + Ideal.log (total s)

theorem exp_nonneg (x : EReal) : 0 ≤ Ideal.exp x := by
  induction x with
  | bot => exact le_refl _
  | top => exact le_top
  | coe r => exact EReal.coe_nonneg.mpr (Real.exp_pos r).le

theorem exp_pos_of_ne_bot {x : EReal} (h : x ≠ ⊥) : 0 < Ideal.exp x := by
  induction x with
  | bot => exact absurd rfl h
  | top => exact EReal.zero_lt_top
  | coe r => exact EReal.coe_pos.mpr (Real.exp_pos r)

theorem weight_nonneg (s : Fin 256 → EReal) (c : Fin 256) : 0 ≤ weight s c := exp_nonneg _

/-- A hidden key weighs nothing. -/
theorem weight_of_bot {s : Fin 256 → EReal} {c : Fin 256} (h : s c = ⊥) : weight s c = 0 := by
  unfold weight; rw [h, sub_eq_add_neg, EReal.bot_add]; rfl

theorem top_ne_top {s : Fin 256 → EReal} (h : ∀ c, s c ≠ ⊤) : top s ≠ ⊤ := by
  unfold top
  rw [← lt_top_iff_ne_top, Finset.fold_max_lt]
  exact ⟨bot_lt_top, fun c _ => lt_top_iff_ne_top.mpr (h c)⟩

theorem total_pos {s : Fin 256 → EReal} (h : ∀ c, s c ≠ ⊤) (h' : ∃ c, s c ≠ ⊥) : 0 < total s := by
  obtain ⟨c, hc⟩ := h'
  have hw : 0 < weight s c := exp_pos_of_ne_bot (by
    have ht := top_ne_top h
    rw [sub_eq_add_neg]
    intro hb
    rcases EReal.add_eq_bot_iff.mp hb with h1 | h1
    · exact hc h1
    · exact ht (EReal.neg_eq_bot_iff.mp h1))
  exact lt_of_lt_of_le hw (Finset.single_le_sum (fun c _ => weight_nonneg s c) (Finset.mem_univ c))

/-- A sum of products with one nonnegative finite factor is the sum times it. -/
theorem sum_mul_of_nonneg {ι : Type*} (S : Finset ι) (f : ι → EReal) {a : EReal} (h0 : 0 ≤ a) (ht : a ≠ ⊤) :
    ∑ i ∈ S, f i * a = (∑ i ∈ S, f i) * a := by
  classical
  induction S using Finset.induction_on with
  | empty => simp
  | insert i S hi ih =>
    rw [Finset.sum_insert hi, Finset.sum_insert hi, ih, mul_comm (f i + _) a,
      EReal.left_distrib_of_nonneg_of_ne_top h0 ht, mul_comm a, mul_comm a]

/-- Dividing the weights or dividing the weighted sum is the same. -/
theorem mean_eq {s : Fin 256 → EReal} (v : Fin 256 → EReal) (h : ∀ c, s c ≠ ⊤) (h' : ∃ c, s c ≠ ⊥) :
    meanOfNormalised s v = mean s v := by
  have hp := total_pos h h'
  unfold meanOfNormalised mean Ideal.div
  simp only [if_neg hp.ne']
  have h0 : 0 ≤ (total s)⁻¹ := EReal.inv_nonneg_of_nonneg hp.le
  have ht : (total s)⁻¹ ≠ ⊤ := by
    generalize total s = t at hp
    induction t with
    | bot => simp at hp
    | top => simp
    | coe r => rw [← EReal.coe_inv]; exact EReal.coe_ne_top _
  rw [← sum_mul_of_nonneg _ _ h0 ht]
  exact Finset.sum_congr rfl fun c _ => by rw [mul_right_comm]

/-- The scores do not read a key that the row does not see. -/
theorem scores_congr (n r : Nat) (q : Fin 64 → EReal) {K K' : Fin 256 → Fin 64 → EReal}
    (h : ∀ c : Fin 256, Sees n r c.val → ∀ d, K c d = K' c d) : rowScores n r q K = rowScores n r q K' := by
  funext c
  unfold rowScores
  by_cases hc : Sees n r c.val
  · rw [if_pos hc, if_pos hc]; exact Finset.sum_congr rfl fun d _ => by rw [h c hc d]
  · rw [if_neg hc, if_neg hc]

/-- The mean does not read a value that the row does not see. -/
theorem mean_congr (n r : Nat) (q : Fin 64 → EReal) (K : Fin 256 → Fin 64 → EReal) {v v' : Fin 256 → EReal}
    (h : ∀ c : Fin 256, Sees n r c.val → v c = v' c) : mean (rowScores n r q K) v = mean (rowScores n r q K) v' := by
  unfold mean
  congr 1
  refine Finset.sum_congr rfl fun c _ => ?_
  by_cases hc : Sees n r c.val
  · rw [h c hc]
  · rw [weight_of_bot (if_neg hc), zero_mul, zero_mul]

/-- A finite sum of finite extended reals is finite. -/
theorem sum_finite {ι : Type*} (S : Finset ι) (f : ι → EReal) (h : ∀ i ∈ S, f i ≠ ⊤ ∧ f i ≠ ⊥) :
    (∑ i ∈ S, f i) ≠ ⊤ ∧ (∑ i ∈ S, f i) ≠ ⊥ := by
  classical
  induction S using Finset.induction_on with
  | empty => simp
  | insert i S hi ih =>
    have h1 := h i (Finset.mem_insert_self i S)
    have h2 := ih fun j hj => h j (Finset.mem_insert_of_mem hj)
    rw [Finset.sum_insert hi]
    exact ⟨EReal.add_ne_top h1.1 h2.1, by rw [Ne, EReal.add_eq_bot_iff]; exact not_or.mpr ⟨h1.2, h2.2⟩⟩

theorem mul_finite {a b : EReal} (ha : a ≠ ⊤ ∧ a ≠ ⊥) (hb : b ≠ ⊤ ∧ b ≠ ⊥) : a * b ≠ ⊤ ∧ a * b ≠ ⊥ := by
  lift a to ℝ using ha
  lift b to ℝ using hb
  rw [← EReal.coe_mul]
  exact ⟨EReal.coe_ne_top _, EReal.coe_ne_bot _⟩

/-- Every row sees itself, so with finite queries and keys its scores meet `mean_eq`. -/
theorem scores_finite (n : Nat) (r : Fin 128) {q : Fin 64 → EReal} {K : Fin 256 → Fin 64 → EReal}
    (hq : ∀ d, q d ≠ ⊤ ∧ q d ≠ ⊥) (hK : ∀ c d, K c d ≠ ⊤ ∧ K c d ≠ ⊥) :
    (∀ c, rowScores n r.val q K c ≠ ⊤) ∧ ∃ c, rowScores n r.val q K c ≠ ⊥ := by
  have hs : ∀ c, (∑ d : Fin 64, q d * K c d) ≠ ⊤ ∧ (∑ d : Fin 64, q d * K c d) ≠ ⊥ :=
    fun c => sum_finite _ _ fun d _ => mul_finite (hq d) (hK c d)
  refine ⟨fun c => ?_, ⟨⟨128 + r.val, by omega⟩, ?_⟩⟩
  · unfold rowScores; split
    · exact (hs c).1
    · exact bot_ne_top
  · unfold rowScores
    rw [if_pos (by unfold Sees; dsimp only; omega)]
    exact (hs _).2

end Cert.Band

end
-- ==== Proof.Band.BodyAt.lean ====
/- The banded attention body of one pair of heads, read at an index: each head's scores are `rowScores` of its own 64 lanes,
   its output `mean`, its sum `logSum`. -/
module

public import proofs.«01_k».proof.Proof.Band.Body
public import proofs.«01_k».proof.Proof.Band.Spec
public import Idealize.ShloMosaic.Lib.WordCmp
public import Idealize.ShloMosaic.Lib.ValueIdxCoords
public import Idealize.ShloMosaic.Lib.ValueLayoutCasts

@[expose] public section

noncomputable section

namespace Cert.Band

open Idealize.ShloMosaic Idealize.ShloMosaic.ValueIdx Idealize.ShloMosaic.WordCmp
open scoped BigOperators

/-! ## The mask -/

/-- The distance from a query to a key, as the signed word the kernel computes. -/
theorem dist_toInt (r : Fin 128) (c : Fin 256) :
    (128#32 + BitVec.ofNat 32 r.val - BitVec.ofNat 32 c.val).toInt = 128 + (r.val : Int) - c.val := by
  have hr := r.isLt; have hc := c.isLt
  rw [BitVec.toInt_sub, BitVec.toInt_add, toInt_ofNat_of_lt (a := r.val) (by omega), toInt_ofNat_of_lt (a := c.val) (by omega)]
  simp only [BitVec.reduceToInt, Int.bmod]
  omega

/-- The first block's bound on the keys, zero afterwards. -/
theorem low_toNat (n : Nat) (hn : n < 2 ^ 31) :
    Scalar.select (Scalar.cmpi .eq (BitVec.ofNat 32 n) 0#32) 128#32 0#32 = BitVec.ofNat 32 (if n = 0 then 128 else 0) := by
  show (if IntOp.cmpi .eq (BitVec.ofNat 32 n) (BitVec.ofNat 32 0) = 1#1 then 128#32 else 0#32) = _
  rw [cmpi_eq_ofNat (by omega) (by omega)]
  by_cases h : n = 0 <;> simp [h]

/-- The mask at row `r`, key `c` is whether the row sees the key. -/
theorem bandMask_apply (n : Nat) (hn : n < 2 ^ 31) (r : Fin 128) (c : Fin 256) :
    bandMask (BitVec.ofNat 32 n) (ix2 r c) = BitVec.ofBool (decide (Sees n r.val c.val)) := by
  have hr := r.isLt; have hc := c.isLt
  unfold bandMask
  show IntOp.andi (IntOp.andi (IntOp.cmpi .sge _ 0#32) (IntOp.cmpi .sle _ 128#32)) (IntOp.cmpi .sge _ _) = _
  have hd : subi (addi (broadcast TScore 128#32) (iota .tc TScore 32 [0] iota_score0)) (iota .tc TScore 32 [1] iota_score1) (ix2 r c)
      = 128#32 + BitVec.ofNat 32 r.val - BitVec.ofNat 32 c.val := by
    show 128#32 + iota .tc TScore 32 [0] iota_score0 (ix2 r c) - iota .tc TScore 32 [1] iota_score1 (ix2 r c) = _
    rw [iota_single_apply, iota_single_apply]
  rw [hd, iota_single_apply]
  show IntOp.andi (IntOp.andi _ _) (IntOp.cmpi .sge (BitVec.ofNat 32 c.val) (Scalar.select (Scalar.cmpi .eq (BitVec.ofNat 32 n) 0#32) 128#32 0#32)) = _
  rw [low_toNat n hn, cmpi_sge_ofNat (by omega) (by split <;> omega), cmpi_sge_eq, cmpi_sle_eq, dist_toInt, andi_ofBool, andi_ofBool]
  refine congrArg BitVec.ofBool ?_
  show _ = @decide (Sees n r.val c.val) (instDecidableAnd (dq := instDecidableAnd))
  unfold Sees
  rw [← Bool.decide_and, ← Bool.decide_and, decide_eq_decide]
  simp only [BitVec.reduceToInt]
  by_cases h : n = 0
  · rw [if_pos h]; constructor
    · rintro ⟨⟨_, _⟩, _⟩; exact ⟨by omega, by omega, fun _ => by omega⟩
    · rintro ⟨_, _, h3⟩; have := h3 h; exact ⟨⟨by omega, by omega⟩, by omega⟩
  · rw [if_neg h]; constructor
    · rintro ⟨⟨_, _⟩, _⟩; exact ⟨by omega, by omega, fun h' => absurd h' h⟩
    · rintro ⟨_, _, _⟩; exact ⟨⟨by omega, by omega⟩, by omega⟩

/-- A select by a decided condition. -/
theorem select_ofBool {α : Type} (p : Prop) [Decidable p] (a b : α) :
    Scalar.select (BitVec.ofBool (decide p)) a b = if p then a else b := by
  show (if BitVec.ofBool (decide p) = 1#1 then a else b) = _
  by_cases h : p <;> simp [h]

/-- The pair's first head has the lanes below 64. -/
theorem loMask_apply (r l : Fin 128) : loMask (ix2 r l) = BitVec.ofBool (decide (l.val < 64)) := by
  have hl := l.isLt
  unfold loMask lanes
  show IntOp.cmpi .slt (iota .tc TTile 32 [1] iota_tile1 (ix2 r l)) (BitVec.ofNat 32 64) = _
  rw [iota_single_apply]
  exact cmpi_slt_ofNat (by show l.val < 2 ^ 31; omega) (by omega)

/-! ## Slices and keys -/

/-- A column slice of a block viewed as a tile. -/
theorem tile_apply (x : Vec Ideal TSlice .f32) (r l : Fin 128) : shapeCast TTile x casts_slice_tile (ix2 r l) = x (ix3 u0 r l) := by
  refine (shapeCast_dropUnit_apply ![128, 128] x casts_slice_tile (ix2 r l)).trans (congrArg x ?_)
  funext a; match a with | ⟨0, _⟩ => rfl | ⟨1, _⟩ => rfl | ⟨2, _⟩ => rfl

/-- A tile viewed as a column slice of a block. -/
theorem slice_apply (x : FVec Ideal TTile .f32) (r l : Fin 128) : shapeCast TSlice x casts_tile_slice (ix3 u0 r l) = x (ix2 r l) := by
  refine (shapeCast_addUnit_apply ![128, 128] x casts_tile_slice (ix3 u0 r l)).trans (congrArg x ?_)
  funext a; match a with | ⟨0, _⟩ => rfl | ⟨1, _⟩ => rfl

/-- Key `c` at a lane: a row of the block before for `c < 128`, of the block itself from there on. -/
def keyAt (prev cur : Fin 128 → Fin 128 → EReal) (c : Fin 256) (l : Fin 128) : EReal :=
  if h : c.val < 128 then prev ⟨c.val, h⟩ l else cur ⟨c.val - 128, by omega⟩ l

theorem keys_apply (prev cur : Vec Ideal TSlice .f32) (c : Fin 256) (l : Fin 128) :
    keys prev cur (ix2 c l) = keyAt (fun r l => prev (ix3 u0 r l)) (fun r l => cur (ix3 u0 r l)) c l := by
  unfold keys keyAt
  show concatenate TKeys 0 [⟨TTile, shapeCast TTile prev casts_slice_tile⟩, ⟨TTile, shapeCast TTile cur casts_slice_tile⟩] concat_keys (ix2 c l) = _
  split
  · next h =>
    rw [concatenate_pair_apply_left (t := TKeys) 0 _ _ concat_keys (ix2 c l) rfl (ix2 ⟨c.val, h⟩ l)
      (fun b => by match b with | ⟨0, _⟩ => rfl | ⟨1, _⟩ => rfl)]
    exact tile_apply prev _ l
  · next h =>
    rw [concatenate_pair_apply_right (t := TKeys) 0 _ _ concat_keys (ix2 c l) rfl rfl (ix2 ⟨c.val - 128, by omega⟩ l)
      (fun b hb => by match b with | ⟨0, _⟩ => exact absurd rfl hb | ⟨1, _⟩ => rfl)
      (by show c.val - 128 + 128 = c.val; omega)]
    exact tile_apply cur _ l

/-! ## Scores -/

theorem sum_lanes (f : Fin 128 → EReal) : ∑ l, f l = ∑ d : Fin 64, f ⟨d.val, by omega⟩ + ∑ d : Fin 64, f ⟨64 + d.val, by omega⟩ :=
  Fin.sum_univ_add (a := 64) (b := 64) f

/-- A query row times a key row over all lanes. -/
theorem dotQK_apply (q : FVec Ideal TTile .bf16) (kk : FVec Ideal TKeys .bf16) (r : Fin 128) (c : Fin 256) :
    matmul dotQK none q kk (constant TScore .f32 0x00000000#32) (ix2 r c) = ∑ l : Fin 128, q (ix2 r l) * kk (ix2 c l) := by
  refine (Ideal.matmul_constant_zero_apply _ none _ _ _).trans ?_
  refine (Equiv.sum_comp (contrEquiv1 dotQK 128 rfl rfl).symm _).symm.trans (Finset.sum_congr rfl fun l _ => ?_)
  congr 2
  · funext a; match a with | ⟨0, _⟩ => rfl | ⟨1, _⟩ => rfl
  · funext a; match a with | ⟨0, _⟩ => rfl | ⟨1, _⟩ => rfl

/-- A weight row times the values at a lane. -/
theorem dotPV_apply (p : FVec Ideal TScore .bf16) (vv : FVec Ideal TKeys .bf16) (r l : Fin 128) :
    matmul dotPV none p vv (constant TTile .f32 0x00000000#32) (ix2 r l) = ∑ c : Fin 256, p (ix2 r c) * vv (ix2 c l) := by
  refine (Ideal.matmul_constant_zero_apply _ none _ _ _).trans ?_
  refine (Equiv.sum_comp (contrEquiv1 dotPV 256 rfl rfl).symm _).symm.trans (Finset.sum_congr rfl fun l _ => ?_)
  congr 2
  · funext a; match a with | ⟨0, _⟩ => rfl | ⟨1, _⟩ => rfl
  · funext a; match a with | ⟨0, _⟩ => rfl | ⟨1, _⟩ => rfl

theorem zero_word : (Scalar.ofBits .f32 0x00000000#32 : Ideal .f32) = 0 := Ideal.ofBits_zero_f32

theorem qLo_apply (q : Vec Ideal TSlice .f32) (r l : Fin 128) :
    qLo q (ix2 r l) = if l.val < 64 then q (ix3 u0 r l) else 0 := by
  unfold qLo
  show Scalar.select (loMask (ix2 r l)) (shapeCast TTile q casts_slice_tile (ix2 r l)) (Scalar.ofBits .f32 0x00000000#32 : Ideal .f32) = _
  rw [loMask_apply, select_ofBool, tile_apply, zero_word]

theorem qHi_apply (q : Vec Ideal TSlice .f32) (r l : Fin 128) :
    qHi q (ix2 r l) = if l.val < 64 then 0 else q (ix3 u0 r l) := by
  unfold qHi
  show Scalar.select (loMask (ix2 r l)) (Scalar.ofBits .f32 0x00000000#32 : Ideal .f32) (shapeCast TTile q casts_slice_tile (ix2 r l)) = _
  rw [loMask_apply, select_ofBool, tile_apply, zero_word]

/-- Lane `d` of a pair's head `side`. -/
def lane (side : Fin 2) (d : Fin 64) : Fin 128 := ⟨64 * side.val + d.val, by omega⟩

/-- The scores of a head at a row, from any query and key vectors: masked products over all lanes. -/
theorem scores_apply (n : Nat) (hn : n < 2 ^ 31) (q : FVec Ideal TTile .bf16) (kk : FVec Ideal TKeys .bf16) (r : Fin 128) (c : Fin 256) :
    scores ⊥ (bandMask (BitVec.ofNat 32 n)) q kk (ix2 r c) = if Sees n r.val c.val then ∑ l : Fin 128, q (ix2 r l) * kk (ix2 c l) else ⊥ := by
  unfold scores
  show Scalar.select (bandMask (BitVec.ofNat 32 n) (ix2 r c)) (matmul dotQK none q kk (constant TScore .f32 0x00000000#32) (ix2 r c)) (⊥ : EReal) = _
  rw [bandMask_apply n hn, select_ofBool, dotQK_apply]

/-- The queries of one head of a pair. -/
def qSide (side : Fin 2) (q : Vec Ideal TSlice .f32) : FVec Ideal TTile .bf16 := if side = 0 then qLo q else qHi q

/-- A head's query row: its 64 lanes of the slice. -/
def qRow (side : Fin 2) (q : Vec Ideal TSlice .f32) (r : Fin 128) (d : Fin 64) : EReal := q (ix3 u0 r (lane side d))

/-- A head's keys: its 64 lanes of both slices. -/
def kRow (side : Fin 2) (kp kc : Vec Ideal TSlice .f32) (c : Fin 256) (d : Fin 64) : EReal :=
  keyAt (fun r l => kp (ix3 u0 r l)) (fun r l => kc (ix3 u0 r l)) c (lane side d)

/-- Clearing the other head's lanes leaves a head's own product. -/
theorem sum_side (side : Fin 2) (q : Vec Ideal TSlice .f32) (r : Fin 128) (g : Fin 128 → EReal) :
    ∑ l : Fin 128, qSide side q (ix2 r l) * g l = ∑ d : Fin 64, qRow side q r d * g (lane side d) := by
  rw [sum_lanes]
  match side with
  | ⟨0, _⟩ =>
    rw [Finset.sum_eq_zero (s := Finset.univ) (f := fun d : Fin 64 => qSide ⟨0, _⟩ q (ix2 r ⟨64 + d.val, _⟩) * g ⟨64 + d.val, _⟩)
      (fun d _ => by show qLo q _ * _ = 0; rw [qLo_apply, if_neg (by show ¬64 + d.val < 64; omega), zero_mul]), add_zero]
    refine Finset.sum_congr rfl fun d _ => ?_
    show qLo q _ * _ = _
    rw [qLo_apply, if_pos d.isLt]
    have : (⟨d.val, by omega⟩ : Fin 128) = lane ⟨0, by omega⟩ d := Fin.ext (by show d.val = 64 * 0 + d.val; omega)
    rw [this]; rfl
  | ⟨1, _⟩ =>
    rw [Finset.sum_eq_zero (s := Finset.univ) (f := fun d : Fin 64 => qSide ⟨1, _⟩ q (ix2 r ⟨d.val, _⟩) * g ⟨d.val, _⟩)
      (fun d _ => by show qHi q _ * _ = 0; rw [qHi_apply, if_pos d.isLt, zero_mul]), zero_add]
    refine Finset.sum_congr rfl fun d _ => ?_
    show qHi q _ * _ = _
    rw [qHi_apply, if_neg (by show ¬64 + d.val < 64; omega)]
    rfl

/-- A head's scores at a row are `rowScores` of its query row and its keys. -/
theorem scores_row (n : Nat) (hn : n < 2 ^ 31) (side : Fin 2) (q kp kc : Vec Ideal TSlice .f32) (r : Fin 128) :
    (fun c => scores ⊥ (bandMask (BitVec.ofNat 32 n)) (qSide side q) (keys kp kc) (ix2 r c))
      = rowScores n r.val (qRow side q r) (kRow side kp kc) := by
  funext c
  rw [scores_apply n hn]
  unfold rowScores
  congr 1
  simp only [keys_apply]
  exact sum_side side q r _

/-! ## The softmax -/

theorem neg_inf_word : (FloatOps.ofBits .f32 0xFF800000#32 : Ideal .f32) = ⊥ := by
  show Ideal.ofBits .f32 0xFF800000#32 = ⊥
  simp [Ideal.ofBits, Ideal.ieee]

/-- A column of row values read at its row. -/
theorem col_apply (x : FVec Ideal TVec .f32) (r : Fin 128) : shapeCast TCol x casts_vec_col (ix2 r u0) = x (ix1 r) := by
  exact shapeCast_a_a1_apply x casts_vec_col r u0

theorem rowMax_apply (s : FVec Ideal TScore .f32) (r : Fin 128) : rowMax s (ix2 r u0) = top fun c => s (ix2 r c) := by
  unfold rowMax top
  rw [col_apply]
  refine (Ideal.multiReduction_maximumf_single s 0xFF800000#32 reduces_score (.inl rfl) rfl (ix1 r)).trans ?_
  rw [neg_inf_word]
  refine congrArg (fun f => Finset.univ.fold max ⊥ f) ?_
  funext c
  refine congrArg s ?_
  funext a; match a with | ⟨0, _⟩ => rfl | ⟨1, _⟩ => rfl

theorem weights_apply (s : FVec Ideal TScore .f32) (r : Fin 128) (c : Fin 256) : weights s (ix2 r c) = weight (fun c => s (ix2 r c)) c := by
  unfold weights weight
  show Ideal.exp (s (ix2 r c) - broadcastTo TScore (rowMax s) bcast_col_score (ix2 r c)) = _
  rw [broadcastTo_apply (rowMax s) bcast_col_score (ix2 r c) (ix2 r u0)
    (fun a => by match a with | ⟨0, _⟩ => rfl | ⟨1, _⟩ => rfl), rowMax_apply]

theorem denom_apply (s : FVec Ideal TScore .f32) (r : Fin 128) : denom s (ix2 r u0) = total fun c => s (ix2 r c) := by
  unfold denom total
  rw [col_apply]
  refine (Ideal.multiReduction_add_single (weights s) 0x00000000#32 reduces_score (.inl rfl) rfl (ix1 r)).trans ?_
  refine Finset.sum_congr rfl fun c _ => ?_
  refine Eq.trans ?_ (weights_apply s r c)
  refine congrArg (weights s) ?_
  funext a; match a with | ⟨0, _⟩ => rfl | ⟨1, _⟩ => rfl

theorem headOut_apply (s : FVec Ideal TScore .f32) (vv : FVec Ideal TKeys .bf16) (r l : Fin 128) :
    headOut s vv (ix2 r l) = mean (fun c => s (ix2 r c)) (fun c => vv (ix2 c l)) := by
  unfold headOut mean
  show Ideal.div (matmul dotPV none (truncf .bf16 (weights s) bits_lt) vv (constant TTile .f32 0x00000000#32) (ix2 r l))
    (broadcastTo TTile (denom s) bcast_col_tile (ix2 r l)) = _
  rw [dotPV_apply, broadcastTo_apply (denom s) bcast_col_tile (ix2 r l) (ix2 r u0)
    (fun a => by match a with | ⟨0, _⟩ => rfl | ⟨1, _⟩ => rfl), denom_apply]
  refine congrArg (fun x => Ideal.div x _) (Finset.sum_congr rfl fun c _ => ?_)
  exact congrArg (· * vv (ix2 c l)) (weights_apply s r c)

theorem headLse_apply (s : FVec Ideal TScore .f32) (r l : Fin 128) : headLse s (ix2 r l) = logSum fun c => s (ix2 r c) := by
  unfold headLse logSum
  rw [shapeCast_self]
  refine (broadcastTo_apply (addf (rowMax s) (log (denom s))) bcast_col_tile (ix2 r l) (ix2 r u0)
    (fun a => by match a with | ⟨0, _⟩ => rfl | ⟨1, _⟩ => rfl)).trans ?_
  show rowMax s (ix2 r u0) + Ideal.log (denom s (ix2 r u0)) = _
  rw [rowMax_apply, denom_apply]

/-! ## A pair's results -/

/-- A pair's output at a row and a lane: the mean, over the keys that the row sees, of the values at that lane, by the
    weights of the head the lane belongs to. -/
theorem pairOut_apply (n : Nat) (hn : n < 2 ^ 31) (q kp kc vp vc : Vec Ideal TSlice .f32) (r : Fin 128) (side : Fin 2) (e : Fin 64) :
    pairOut ⊥ (BitVec.ofNat 32 n) q kp kc vp vc (ix3 u0 r (lane side e))
      = mean (rowScores n r.val (qRow side q r) (kRow side kp kc)) (fun c => kRow side vp vc c e) := by
  unfold pairOut
  rw [slice_apply]
  show Scalar.select (loMask (ix2 r (lane side e))) (headOut (scores ⊥ (bandMask (BitVec.ofNat 32 n)) (qSide 0 q) (keys kp kc)) (keys vp vc) (ix2 r (lane side e)))
    (headOut (scores ⊥ (bandMask (BitVec.ofNat 32 n)) (qSide 1 q) (keys kp kc)) (keys vp vc) (ix2 r (lane side e))) = _
  rw [loMask_apply, select_ofBool, headOut_apply, headOut_apply, scores_row n hn, scores_row n hn]
  simp only [keys_apply]
  match side with
  | ⟨0, _⟩ => rw [if_pos (by show 64 * 0 + e.val < 64; omega)]; rfl
  | ⟨1, _⟩ => rw [if_neg (by show ¬64 * 1 + e.val < 64; omega)]; rfl

/-- One step of the tile of sums, read at a lane: the head's sum at its own lane, the tile before elsewhere. -/
theorem lseStep_apply (h : Nat) (hh : h < 2 ^ 31) (s : FVec Ideal TScore .f32) (tile : FVec Ideal TTile .f32) (r l : Fin 128) :
    lseStep (BitVec.ofNat 32 h) s tile (ix2 r l) = if l.val = h then logSum fun c => s (ix2 r c) else tile (ix2 r l) := by
  unfold lseStep lanes
  show Scalar.select (IntOp.cmpi .eq (iota .tc TTile 32 [1] iota_tile1 (ix2 r l)) (BitVec.ofNat 32 h)) (headLse s (ix2 r l)) (tile (ix2 r l)) = _
  rw [iota_single_apply, cmpi_eq_ofNat (by have := l.isLt; show l.val < _; omega) (by omega), select_ofBool, headLse_apply]

/-- A pair's step of the tile of sums. -/
theorem lsePair_apply (n : Nat) (hn : n < 2 ^ 31) (h : Nat) (hh : h + 1 < 2 ^ 31) (q kp kc : Vec Ideal TSlice .f32) (tile : FVec Ideal TTile .f32) (r l : Fin 128) :
    lsePair ⊥ (BitVec.ofNat 32 n) (BitVec.ofNat 32 h) (BitVec.ofNat 32 (h + 1)) q kp kc tile (ix2 r l)
      = if l.val = h + 1 then logSum (rowScores n r.val (qRow 1 q r) (kRow 1 kp kc))
        else if l.val = h then logSum (rowScores n r.val (qRow 0 q r) (kRow 0 kp kc)) else tile (ix2 r l) := by
  have e0 := scores_row n hn 0 q kp kc r
  have e1 := scores_row n hn 1 q kp kc r
  unfold lsePair
  rw [lseStep_apply (h + 1) hh, lseStep_apply h (by omega)]
  rw [← e0, ← e1]; rfl

end Cert.Band

end
-- ==== Proof.Band.Block.lean ====
/- One block of queries: the eight pairs' slices side by side are the block's output, their sums the tile of sums. -/
module

public import proofs.«01_k».proof.Proof.Band.BodyAt
public import Idealize.ShloMosaic.Lib.Pipeline.Value
public import Idealize.ShloMosaic.Lib.Pipeline.ValueKit.Tiles

@[expose] public section

noncomputable section

namespace Cert.Band

open Idealize.ShloMosaic Idealize.ShloMosaic.ValueIdx

/-! ## Arrays read at natural numbers -/

/-- A rank-3 array at three naturals, zero outside. -/
def cell3 {a b c : Nat} (x : (⟨3, ![a, b, c]⟩ : Shape).Idx → EReal) (i j k : Nat) : EReal :=
  if h : i < a ∧ j < b ∧ k < c then x (ix3 ⟨i, h.1⟩ ⟨j, h.2.1⟩ ⟨k, h.2.2⟩) else 0

/-- At an index's own coordinates it is the array there. -/
theorem cell3_eq {a b c : Nat} (x : (⟨3, ![a, b, c]⟩ : Shape).Idx → EReal) (y : (⟨3, ![a, b, c]⟩ : Shape).Idx) {i j k : Nat}
    (hi : (y 0).val = i) (hj : (y 1).val = j) (hk : (y 2).val = k) : cell3 x i j k = x y := by
  subst hi; subst hj; subst hk
  unfold cell3
  rw [dif_pos ⟨(y 0).isLt, (y 1).isLt, (y 2).isLt⟩]
  exact congrArg x (eq_ix3 y).symm

/-- A rank-2 array at two naturals, zero outside. -/
def cell2 {a b : Nat} (x : (⟨2, ![a, b]⟩ : Shape).Idx → EReal) (i j : Nat) : EReal :=
  if h : i < a ∧ j < b then x (ix2 ⟨i, h.1⟩ ⟨j, h.2⟩) else 0

/-- At an index's own coordinates it is the array there. -/
theorem cell2_eq {a b : Nat} (x : (⟨2, ![a, b]⟩ : Shape).Idx → EReal) (y : (⟨2, ![a, b]⟩ : Shape).Idx) {i j : Nat}
    (hi : (y 0).val = i) (hj : (y 1).val = j) : cell2 x i j = x y := by
  subst hi; subst hj
  unfold cell2
  rw [dif_pos ⟨(y 0).isLt, (y 1).isLt⟩]
  exact congrArg x (eq_ix2 y).symm

/-! ## A head of a block -/

/-- The five blocks of a grid point hold 128 rows of 1024 columns. -/
abbrev TBlock : Shape := ⟨3, ![1, 128, 1024]⟩

/-- Row `c` of the block before and the block itself, one after the other, at a column. -/
def twoBlocks (P C : TBlock.Idx → EReal) (c col : Nat) : EReal := if c < 128 then cell3 P 0 c col else cell3 C 0 (c - 128) col

/-- The scores of head `h` at row `r` of a block. -/
def headScores (n : Nat) (q kp kc : TBlock.Idx → EReal) (r h : Nat) : Fin 256 → EReal :=
  rowScores n r (fun d => cell3 q 0 r (64 * h + d.val)) (fun c d => twoBlocks kp kc c.val (64 * h + d.val))

/-- The output of a block at row `r` and column `col`, which belongs to head `col / 64`. -/
def blockOut (n : Nat) (q kp kc vp vc : TBlock.Idx → EReal) (r col : Nat) : EReal :=
  mean (headScores n q kp kc r (col / 64)) (fun c => twoBlocks vp vc c.val col)

/-! ## A pair's column slice -/

/-- The columns of the `j`-th pair of heads. -/
abbrev pairRect (j : Nat) (inb : ∀ a, (![0, 0, 128 * j] : Fin 3 → Nat) a + TSlice.size a ≤ TBlock.size a) : Rect TBlock :=
  Rect.unit (s := TBlock) ![0, 0, 128 * j] TSlice.size inb

variable {j : Nat} {inb : ∀ a, (![0, 0, 128 * j] : Fin 3 → Nat) a + TSlice.size a ≤ TBlock.size a}

/-- A load of a pair's columns, at a row and a lane. -/
theorem ld_pair (X : TBlock.Idx → EReal) (r l : Fin 128) {col : Nat} (hcol : 128 * j + l.val = col) :
    View.ld (Val := Elt Ideal) (e' := .f32) X (pairRect j inb) (ix3 u0 r l) = cell3 X 0 r.val col := by
  refine (cell3_eq X ((pairRect j inb).idx (ix3 u0 r l)) ?_ ?_ ?_).symm
  · exact (Rect.idx_unit_val _ _ _ _ 0).trans rfl
  · exact (Rect.idx_unit_val _ _ _ _ 1).trans (Nat.zero_add _)
  · exact (Rect.idx_unit_val _ _ _ _ 2).trans hcol

theorem qRow_ld (X : TBlock.Idx → EReal) (side : Fin 2) (r : Fin 128) (d : Fin 64) :
    qRow side (View.ld (Val := Elt Ideal) (e' := .f32) X (pairRect j inb)) r d = cell3 X 0 r.val (64 * (2 * j + side.val) + d.val) :=
  ld_pair X r _ (by show 128 * j + (64 * side.val + d.val) = _; omega)

theorem kRow_ld (P C : TBlock.Idx → EReal) (side : Fin 2) (c : Fin 256) (d : Fin 64) :
    kRow side (View.ld (Val := Elt Ideal) (e' := .f32) P (pairRect j inb)) (View.ld (Val := Elt Ideal) (e' := .f32) C (pairRect j inb)) c d
      = twoBlocks P C c.val (64 * (2 * j + side.val) + d.val) := by
  unfold kRow keyAt twoBlocks
  split
  · exact ld_pair P _ _ (by show 128 * j + (64 * side.val + d.val) = _; omega)
  · exact ld_pair C _ _ (by show 128 * j + (64 * side.val + d.val) = _; omega)

/-- A head's scores from the loaded slices are its scores from the blocks. -/
theorem rowScores_ld (n : Nat) (q kp kc : TBlock.Idx → EReal) (r : Fin 128) (side : Fin 2) :
    rowScores n r.val (qRow side (View.ld (Val := Elt Ideal) (e' := .f32) q (pairRect j inb)) r)
        (kRow side (View.ld (Val := Elt Ideal) (e' := .f32) kp (pairRect j inb)) (View.ld (Val := Elt Ideal) (e' := .f32) kc (pairRect j inb)))
      = headScores n q kp kc r.val (2 * j + side.val) := by
  unfold headScores
  congr 1
  · exact funext fun d => qRow_ld q side r d
  · exact funext fun c => funext fun d => kRow_ld kp kc side c d

/-- A pair's stored slice is its columns of the block's output. -/
theorem pair_piece (n : Nat) (hn : n < 2 ^ 31) (q kp kc vp vc : TBlock.Idx → EReal) (x : (pairRect j inb).shape.Idx) :
    pairOut ⊥ (BitVec.ofNat 32 n) (View.ld (Val := Elt Ideal) (e' := .f32) q (pairRect j inb)) (View.ld (Val := Elt Ideal) (e' := .f32) kp (pairRect j inb))
        (View.ld (Val := Elt Ideal) (e' := .f32) kc (pairRect j inb)) (View.ld (Val := Elt Ideal) (e' := .f32) vp (pairRect j inb))
        (View.ld (Val := Elt Ideal) (e' := .f32) vc (pairRect j inb)) x
      = (fun y : TBlock.Idx => blockOut n q kp kc vp vc (y 1).val (y 2).val) ((pairRect j inb).emb x) := by
  obtain ⟨u, r, l, rfl⟩ : ∃ (u : Fin 1) (r l : Fin 128), x = ix3 u r l := ⟨x 0, x 1, x 2, eq_ix3 x⟩
  obtain rfl : u = u0 := Subsingleton.elim _ _
  have e1 : (((pairRect j inb).emb (ix3 u0 r l)) 1).val = r.val := (Rect.idx_unit_val _ _ _ _ 1).trans (Nat.zero_add _)
  have e2 : (((pairRect j inb).emb (ix3 u0 r l)) 2).val = 128 * j + l.val := Rect.idx_unit_val _ _ _ _ 2
  dsimp only
  rw [e1, e2]
  have hl := l.isLt
  obtain ⟨side, e, rfl⟩ : ∃ (side : Fin 2) (e : Fin 64), l = lane side e :=
    ⟨⟨l.val / 64, by omega⟩, ⟨l.val % 64, by omega⟩, Fin.ext (by show l.val = 64 * (l.val / 64) + l.val % 64; omega)⟩
  rw [pairOut_apply n hn, rowScores_ld]
  have ev : (lane side e).val = 64 * side.val + e.val := rfl
  unfold blockOut
  rw [ev, show (128 * j + (64 * side.val + e.val)) / 64 = 2 * j + side.val by have := e.isLt; omega]
  congr 1
  exact funext fun c => (kRow_ld vp vc side c e).trans (by congr 1; omega)

/-- A pair's step of the tile of sums, from the loaded slices. -/
theorem lse_piece (n : Nat) (hn : n < 2 ^ 31) (hj : j < 8) (q kp kc : TBlock.Idx → EReal) (tile : FVec Ideal TTile .f32) (r l : Fin 128) :
    lsePair ⊥ (BitVec.ofNat 32 n) (BitVec.ofNat 32 (2 * j)) (BitVec.ofNat 32 (2 * j + 1)) (View.ld (Val := Elt Ideal) (e' := .f32) q (pairRect j inb))
        (View.ld (Val := Elt Ideal) (e' := .f32) kp (pairRect j inb)) (View.ld (Val := Elt Ideal) (e' := .f32) kc (pairRect j inb)) tile (ix2 r l)
      = if l.val / 2 = j then logSum (headScores n q kp kc r.val l.val) else tile (ix2 r l) := by
  rw [lsePair_apply n hn (2 * j) (by omega), rowScores_ld, rowScores_ld]
  by_cases h1 : l.val = 2 * j + 1
  · rw [if_pos h1, if_pos (by omega), h1]; rfl
  · rw [if_neg h1]
    by_cases h0 : l.val = 2 * j
    · rw [if_pos h0, if_pos (by omega), h0]; rfl
    · rw [if_neg h0, if_neg (by omega)]

/-- Row `r`'s sums of a block, one lane a head; the lanes past the last head are zero. -/
def blockLse (n : Nat) (q kp kc : TBlock.Idx → EReal) (r l : Nat) : EReal :=
  if l < 16 then logSum (headScores n q kp kc r l) else 0

/-! ## The block's stores -/

theorem inb_pair (j : Nat) (hj : j < 8) (a : Fin 3) : (![0, 0, 128 * j] : Fin 3 → Nat) a + TSlice.size a ≤ TBlock.size a := by
  match a with
  | ⟨0, _⟩ => show 0 + 1 ≤ 1; omega
  | ⟨1, _⟩ => show 0 + 128 ≤ 128; omega
  | ⟨2, _⟩ => show 128 * j + 128 ≤ 1024; omega

/-- The store of one pair's slice. -/
def pairPiece (neg : Ideal .f32) (n : BitVec 32) (q kp kc vp vc : TBlock.Idx → EReal) (j : Nat) (hj : j < 8) : View.Piece (Elt Ideal) TBlock .f32 :=
  ⟨pairRect j (inb_pair j hj), pairOut neg n (View.ld (Val := Elt Ideal) (e' := .f32) q (pairRect j (inb_pair j hj)))
    (View.ld (Val := Elt Ideal) (e' := .f32) kp (pairRect j (inb_pair j hj))) (View.ld (Val := Elt Ideal) (e' := .f32) kc (pairRect j (inb_pair j hj)))
    (View.ld (Val := Elt Ideal) (e' := .f32) vp (pairRect j (inb_pair j hj))) (View.ld (Val := Elt Ideal) (e' := .f32) vc (pairRect j (inb_pair j hj)))⟩

/-- The eight stores of a block's output. -/
def pieces (neg : Ideal .f32) (n : BitVec 32) (q kp kc vp vc : TBlock.Idx → EReal) : List (View.Piece (Elt Ideal) TBlock .f32) :=
  [pairPiece neg n q kp kc vp vc 7 (by decide), pairPiece neg n q kp kc vp vc 6 (by decide),
   pairPiece neg n q kp kc vp vc 5 (by decide), pairPiece neg n q kp kc vp vc 4 (by decide),
   pairPiece neg n q kp kc vp vc 3 (by decide), pairPiece neg n q kp kc vp vc 2 (by decide),
   pairPiece neg n q kp kc vp vc 1 (by decide), pairPiece neg n q kp kc vp vc 0 (by decide)]

theorem pairPiece_mem (neg : Ideal .f32) (n : BitVec 32) (q kp kc vp vc : TBlock.Idx → EReal) (j : Nat) (hj : j < 8) :
    pairPiece neg n q kp kc vp vc j hj ∈ pieces neg n q kp kc vp vc := by
  unfold pieces
  interval_cases j <;> simp

theorem of_mem_pieces {neg : Ideal .f32} {n : BitVec 32} {q kp kc vp vc : TBlock.Idx → EReal} {p : View.Piece (Elt Ideal) TBlock .f32}
    (hp : p ∈ pieces neg n q kp kc vp vc) : ∃ (j : Nat) (hj : j < 8), p = pairPiece neg n q kp kc vp vc j hj := by
  simp only [pieces, List.mem_cons, List.not_mem_nil, or_false] at hp
  rcases hp with h | h | h | h | h | h | h | h <;> exact ⟨_, _, h⟩

/-- What the eight stores leave in the block: its output at every row and column. -/
theorem canon_pieces (n : Nat) (hn : n < 2 ^ 31) (q kp kc vp vc : TBlock.Idx → EReal) (y : TBlock.Idx) :
    View.canon (pieces ⊥ (BitVec.ofNat 32 n) q kp kc vp vc) y = blockOut n q kp kc vp vc (y 1).val (y 2).val := by
  refine View.canon_apply_of_pieces (Val := Elt Ideal) (e := .f32) (fun y : TBlock.Idx => blockOut n q kp kc vp vc (y 1).val (y 2).val) _ ?_ y ?_
  · intro p hp
    obtain ⟨j, hj, rfl⟩ := of_mem_pieces hp
    exact pair_piece n hn q kp kc vp vc
  · have h2 : (y 2).val < 1024 := (y 2).isLt
    have hj : (y 2).val / 128 < 8 := by omega
    refine ⟨_, pairPiece_mem ⊥ (BitVec.ofNat 32 n) q kp kc vp vc ((y 2).val / 128) hj, ?_⟩
    refine (Rect.mem_set_unit (inb := inb_pair _ hj)).2 fun a => ?_
    match a with
    | ⟨0, _⟩ => exact ⟨Nat.zero_le _, (y 0).isLt⟩
    | ⟨1, _⟩ => exact ⟨Nat.zero_le _, by have : (y 1).val < 128 := (y 1).isLt; show (y 1).val < 0 + 128; omega⟩
    | ⟨2, _⟩ => exact ⟨by show 128 * _ ≤ (y 2).val; omega, by show (y 2).val < 128 * _ + 128; omega⟩

/-- The tile of sums after the pairs below `k`, from an empty tile. -/
def lseTile (neg : Ideal .f32) (n : BitVec 32) (q kp kc : TBlock.Idx → EReal) : (k : Nat) → k ≤ 8 → FVec Ideal TTile .f32
  | 0, _ => broadcast TTile (Scalar.ofBits .f32 0x00000000#32)
  | k + 1, h => lsePair neg n (BitVec.ofNat 32 (2 * k)) (BitVec.ofNat 32 (2 * k + 1)) (View.ld (Val := Elt Ideal) (e' := .f32) q (pairRect k (inb_pair k h)))
      (View.ld (Val := Elt Ideal) (e' := .f32) kp (pairRect k (inb_pair k h))) (View.ld (Val := Elt Ideal) (e' := .f32) kc (pairRect k (inb_pair k h)))
      (lseTile neg n q kp kc k (Nat.le_of_succ_le h))

/-- The tile holds the sums of the heads done so far, zero elsewhere. -/
theorem lseTile_apply (n : Nat) (hn : n < 2 ^ 31) (q kp kc : TBlock.Idx → EReal) (r l : Fin 128) : ∀ (k : Nat) (hk : k ≤ 8),
    lseTile ⊥ (BitVec.ofNat 32 n) q kp kc k hk (ix2 r l) = if l.val < 2 * k then logSum (headScores n q kp kc r.val l.val) else 0
  | 0, _ => by rw [if_neg (by omega)]; exact zero_word
  | k + 1, hk => by
    rw [lseTile, lse_piece n hn (by omega), lseTile_apply n hn q kp kc r l k]
    by_cases h : l.val / 2 = k
    · rw [if_pos h, if_pos (by omega)]
    · rw [if_neg h]
      by_cases h' : l.val < 2 * k
      · rw [if_pos h', if_pos (by omega)]
      · rw [if_neg h', if_neg (by omega)]

end Cert.Band

end
-- ==== Proof.Band.Out1.lean ====
/- The dilation-4 attention: what one grid point's body leaves in its two output blocks. -/
module

public import proofs.«01_k».proof.Proof.Band.Block
public import proofs.«01_k».proof.Proof.Gen.Attn1Ideal.Value

@[expose] public section

noncomputable section

namespace Cert.Attn1Ideal.Out

open Cert.Attn1Ideal Cert.Attn1Ideal.Gen Idealize.ShloMosaic Idealize.ShloMosaic.ValueIdx

/-- The named mask constant is minus infinity. -/
theorem mask_eq : (Named.named κ "mask" 0xF149F2CA#32 : Ideal .f32) = ⊥ := IdealRules.named_const.ideal_named_scalar _ _ _ _ rfl

/-- The body's eight stores of its output block. -/
theorem out5_eq (i : grid0.Coords) (x0 x1 x2 x3 x4 : Vec Ideal S1x128x1024 .f32) :
    out0_5 i x0 x1 x2 x3 x4 = View.canon (Band.pieces (Named.named κ "mask" 0xF149F2CA#32) (BitVec.ofNat 32 (i 2).val) x0 x1 x2 x3 x4) := by
  rfl

/-- The body's one store of its tile of sums. -/
theorem out6_eq (i : grid0.Coords) (x0 x1 x2 x3 x4 : Vec Ideal S1x128x1024 .f32) :
    out0_6 i x0 x1 x2 x3 x4 = View.canon [⟨r0_8, shapeCast _
      (Band.lseTile (Named.named κ "mask" 0xF149F2CA#32) (BitVec.ofNat 32 (i 2).val) x0 x1 x2 8 (Nat.le_refl 8)) Band.casts_tile_slice⟩] := by
  rfl

/-- The output block at an index. -/
theorem out5_apply (i : grid0.Coords) (x0 x1 x2 x3 x4 : Vec Ideal S1x128x1024 .f32) (y : S1x128x1024.Idx) :
    out0_5 i x0 x1 x2 x3 x4 y = Band.blockOut (i 2).val x0 x1 x2 x3 x4 (y 1).val (y 2).val := by
  have h2 : (i 2).val < 8 := (i 2).isLt
  rw [out5_eq, mask_eq]
  exact Band.canon_pieces _ (by omega) _ _ _ _ _ y

/-- The block of sums at an index. -/
theorem out6_apply (i : grid0.Coords) (x0 x1 x2 x3 x4 : Vec Ideal S1x128x1024 .f32) (y : S1x128x128.Idx) :
    out0_6 i x0 x1 x2 x3 x4 y = Band.blockLse (i 2).val x0 x1 x2 (y 1).val (y 2).val := by
  have h2 : (i 2).val < 8 := (i 2).isLt
  rw [out6_eq, mask_eq, View.canon_unit_zero (S := S1x128x128) (funext fun a => by fin_cases a <;> rfl)]
  obtain ⟨u, r, l, rfl⟩ : ∃ (u : Fin 1) (r l : Fin 128), y = ix3 u r l := ⟨y 0, y 1, y 2, eq_ix3 y⟩
  obtain rfl : u = u0 := Subsingleton.elim _ _
  refine (Band.slice_apply _ r l).trans ?_
  exact Band.lseTile_apply _ (by omega) _ _ _ r l 8 (Nat.le_refl 8)

end Cert.Attn1Ideal.Out

end
-- ==== Proof.Band.Sequence.lean ====
/- The dilated attention of one token, from the array of all tokens' queries, keys and values. -/
module

public import proofs.«01_k».proof.Proof.Band.Block

@[expose] public section

noncomputable section

namespace Cert.Band

open Idealize.ShloMosaic Idealize.ShloMosaic.ValueIdx

/-! ## One subsequence -/

/-- The scores of head `h` at position `s` of a subsequence whose queries and keys at a position and a column are `Q`
    and `K`: place `c` is the key `128 - c` positions before the first of the query's block. -/
def seqScores (Q K : Nat → Nat → EReal) (s h : Nat) : Fin 256 → EReal :=
  rowScores (s / 128) (s % 128) (fun d => Q s (64 * h + d.val)) (fun c d => K (s / 128 * 128 + c.val - 128) (64 * h + d.val))

/-- The output at position `s` and column `col`. -/
def seqOut (Q K V : Nat → Nat → EReal) (s col : Nat) : EReal :=
  mean (seqScores Q K s (col / 64)) (fun c => V (s / 128 * 128 + c.val - 128) col)

/-- The sums at position `s`, one lane a head. -/
def seqLse (Q K : Nat → Nat → EReal) (s l : Nat) : EReal := if l < 16 then logSum (seqScores Q K s l) else 0

/-- A block of the subsequence holds its 128 rows. -/
def IsBlock (x : TBlock.Idx → EReal) (X : Nat → Nat → EReal) (n : Nat) : Prop :=
  ∀ r col : Nat, r < 128 → col < 1024 → cell3 x 0 r col = X (n * 128 + r) col

/-- The block before and the block itself, read at a place the row sees. -/
theorem twoBlocks_eq {P C : TBlock.Idx → EReal} {X : Nat → Nat → EReal} {n r c col : Nat} (hP : IsBlock P X (n - 1)) (hC : IsBlock C X n)
    (hc : c < 256) (hcol : col < 1024) (hs : Sees n r c) : twoBlocks P C c col = X (n * 128 + c - 128) col := by
  unfold twoBlocks
  split
  · next h =>
    have hn : n ≠ 0 := fun h0 => by have := hs.2.2 h0; omega
    rw [hP c col h hcol, show (n - 1) * 128 + c = n * 128 + c - 128 by omega]
  · rw [hC (c - 128) col (by omega) hcol, show n * 128 + (c - 128) = n * 128 + c - 128 by omega]

/-- A block's scores are the subsequence's. -/
theorem headScores_eq {q kp kc : TBlock.Idx → EReal} {Q K : Nat → Nat → EReal} {n r h : Nat} (hq : IsBlock q Q n) (hkp : IsBlock kp K (n - 1))
    (hkc : IsBlock kc K n) (hr : r < 128) (hh : h < 16) : headScores n q kp kc r h = seqScores Q K (n * 128 + r) h := by
  unfold headScores seqScores
  rw [show (n * 128 + r) / 128 = n by omega, show (n * 128 + r) % 128 = r by omega]
  rw [show (fun d : Fin 64 => cell3 q 0 r (64 * h + d.val)) = fun d => Q (n * 128 + r) (64 * h + d.val) from
    funext fun d => hq r _ hr (by have := d.isLt; omega)]
  exact scores_congr n r _ fun c hc d => twoBlocks_eq hkp hkc c.isLt (by have := d.isLt; omega) hc

/-- A block's output is the subsequence's. -/
theorem blockOut_eq {q kp kc vp vc : TBlock.Idx → EReal} {Q K V : Nat → Nat → EReal} {n r col : Nat} (hq : IsBlock q Q n) (hkp : IsBlock kp K (n - 1))
    (hkc : IsBlock kc K n) (hvp : IsBlock vp V (n - 1)) (hvc : IsBlock vc V n) (hr : r < 128) (hcol : col < 1024) :
    blockOut n q kp kc vp vc r col = seqOut Q K V (n * 128 + r) col := by
  unfold blockOut seqOut
  rw [headScores_eq hq hkp hkc hr (by omega)]
  unfold seqScores
  rw [show (n * 128 + r) / 128 = n by omega, show (n * 128 + r) % 128 = r by omega]
  exact mean_congr n r _ _ fun c hc => twoBlocks_eq hvp hvc c.isLt hcol hc

/-- A block's sums are the subsequence's. -/
theorem blockLse_eq {q kp kc : TBlock.Idx → EReal} {Q K : Nat → Nat → EReal} {n r l : Nat} (hq : IsBlock q Q n) (hkp : IsBlock kp K (n - 1))
    (hkc : IsBlock kc K n) (hr : r < 128) : blockLse n q kp kc r l = seqLse Q K (n * 128 + r) l := by
  unfold blockLse seqLse
  split
  · next h => rw [headScores_eq hq hkp hkc hr h]
  · rfl

/-! ## The array of all tokens -/

/-- One row per token, 9 column groups of 1024. -/
abbrev TTokens : Shape := ⟨2, ![16384, 9216]⟩

/-- Group `p` (queries, keys, values) of dilation `g`, at position `s` of the `R`-th of the `dil` subsequences of batch
    entry `b`: the token at `s * dil + R`. -/
def part (X : TTokens.Idx → EReal) (dil g b R p s col : Nat) : EReal := cell2 X (b * 4096 + (s * dil + R)) ((p * 3 + g) * 1024 + col)

/-- The attention's output. -/
def attnOut (X : TTokens.Idx → EReal) (dil g b R s col : Nat) : EReal :=
  seqOut (part X dil g b R 0) (part X dil g b R 1) (part X dil g b R 2) s col

/-- The attention's logarithms of sums. -/
def attnLse (X : TTokens.Idx → EReal) (dil g b R s l : Nat) : EReal := seqLse (part X dil g b R 0) (part X dil g b R 1) s l

end Cert.Band

end
-- ==== Proof.Attn1.Array.lean ====
/- The dilation-4 attention: the two result arrays, entry by entry. -/
module

public import proofs.«01_k».proof.Proof.Band.Out1
public import proofs.«01_k».proof.Proof.Band.Sequence

@[expose] public section

noncomputable section

namespace Cert.Attn1Ideal.Out

open Cert.Attn1Ideal Cert.Attn1Ideal.Gen Idealize.ShloMosaic Idealize.ShloMosaic.ValueIdx Idealize.ShloMosaic.TcCoe
open Idealize.ShloMosaic.Pipeline (Dat)

variable (m : (ℓ : Loc nD τ sig) → Buf (Elt Ideal) ℓ)

/-- The token array as launched. -/
abbrev tokens (c : Dev nD) : Band.TTokens.Idx → EReal := m ((c : Thread nD τ).loc main_arg0)

/-! ## The index maps: point `t` is block `t % 8` of subsequence `t / 8 % 4` of batch entry `t / 32` -/

theorem coord2 : ∀ t : Fin cfg0.N, (grid0.coords t 2).val = t.val % 8 :=
  (by decide +kernel : ∀ t : Fin grid0.N, (grid0.coords t 2).val = t.val % 8)

theorem index0 : ∀ t : Fin cfg0.N, win0_0.index t 0 = t.val / 32 ∧ win0_0.index t 1 = t.val % 8 ∧ win0_0.index t 2 = t.val / 8 % 4 * 9 + 1 :=
  (by decide +kernel : ∀ t : Fin grid0.N, win0_0.index t 0 = t.val / 32 ∧ win0_0.index t 1 = t.val % 8 ∧ win0_0.index t 2 = t.val / 8 % 4 * 9 + 1)
theorem index1 : ∀ t : Fin cfg0.N, win0_1.index t 0 = t.val / 32 ∧ win0_1.index t 1 = t.val % 8 - 1 ∧ win0_1.index t 2 = t.val / 8 % 4 * 9 + 4 :=
  (by decide +kernel : ∀ t : Fin grid0.N, win0_1.index t 0 = t.val / 32 ∧ win0_1.index t 1 = t.val % 8 - 1 ∧ win0_1.index t 2 = t.val / 8 % 4 * 9 + 4)
theorem index2 : ∀ t : Fin cfg0.N, win0_2.index t 0 = t.val / 32 ∧ win0_2.index t 1 = t.val % 8 ∧ win0_2.index t 2 = t.val / 8 % 4 * 9 + 4 :=
  (by decide +kernel : ∀ t : Fin grid0.N, win0_2.index t 0 = t.val / 32 ∧ win0_2.index t 1 = t.val % 8 ∧ win0_2.index t 2 = t.val / 8 % 4 * 9 + 4)
theorem index3 : ∀ t : Fin cfg0.N, win0_3.index t 0 = t.val / 32 ∧ win0_3.index t 1 = t.val % 8 - 1 ∧ win0_3.index t 2 = t.val / 8 % 4 * 9 + 7 :=
  (by decide +kernel : ∀ t : Fin grid0.N, win0_3.index t 0 = t.val / 32 ∧ win0_3.index t 1 = t.val % 8 - 1 ∧ win0_3.index t 2 = t.val / 8 % 4 * 9 + 7)
theorem index4 : ∀ t : Fin cfg0.N, win0_4.index t 0 = t.val / 32 ∧ win0_4.index t 1 = t.val % 8 ∧ win0_4.index t 2 = t.val / 8 % 4 * 9 + 7 :=
  (by decide +kernel : ∀ t : Fin grid0.N, win0_4.index t 0 = t.val / 32 ∧ win0_4.index t 1 = t.val % 8 ∧ win0_4.index t 2 = t.val / 8 % 4 * 9 + 7)
theorem index5 : ∀ t : Fin cfg0.N, win0_5.index t 0 = t.val / 32 ∧ win0_5.index t 1 = t.val % 8 ∧ win0_5.index t 2 = t.val / 8 % 4 :=
  (by decide +kernel : ∀ t : Fin grid0.N, win0_5.index t 0 = t.val / 32 ∧ win0_5.index t 1 = t.val % 8 ∧ win0_5.index t 2 = t.val / 8 % 4)
theorem index6 : ∀ t : Fin cfg0.N, win0_6.index t 0 = t.val / 32 ∧ win0_6.index t 1 = t.val % 8 ∧ win0_6.index t 2 = t.val / 8 % 4 :=
  (by decide +kernel : ∀ t : Fin grid0.N, win0_6.index t 0 = t.val / 32 ∧ win0_6.index t 1 = t.val % 8 ∧ win0_6.index t 2 = t.val / 8 % 4)

/-! ## The input blocks -/

/-- The array the windows read is the token array in another shape. -/
theorem v0_apply (c : Dev nD) (y : S4x1024x36864.Idx) {b s R p col : Nat} (hR : R < 4) (hp : p < 3) (hcol : col < 1024)
    (h0 : (y 0).val = b) (h1 : (y 1).val = s) (h2 : (y 2).val = (R * 9 + (p * 3 + 1)) * 1024 + col) :
    (V m c main_v0 : S4x1024x36864.Idx → EReal) y = Band.part (tokens m c) 4 1 b R p s col := by
  have hb : b < 4 := h0 ▸ (y 0).isLt
  have hs : s < 1024 := h1 ▸ (y 1).isLt
  have e : (V m c main_v0 : S4x1024x36864.Idx → EReal)
      = shapeCast S4x1024x36864 (tokens m c) shapeCasts_S16384x9216_S4x1024x36864 := by
    show StableHlo.after hostOps0 (fun b => m (c, b)) main_v0 = _
    rfl
  rw [e]
  have hrow : b * 4096 + (s * 4 + R) < 16384 := by omega
  have hcl : (p * 3 + 1) * 1024 + col < 9216 := by omega
  refine (shapeCast_apply _ _ y (ix2 ⟨_, hrow⟩ ⟨_, hcl⟩) ?_).trans (Band.cell2_eq (tokens m c) (ix2 ⟨_, hrow⟩ ⟨_, hcl⟩) rfl rfl).symm
  rw [Shape.rowMajor_val_two, Shape.rowMajor_val_three]
  show (b * 4096 + (s * 4 + R)) * 9216 + ((p * 3 + 1) * 1024 + col) = ((y 0).val * 1024 + (y 1).val) * 36864 + (y 2).val
  rw [h0, h1, h2]
  omega

/-- Window 0: the block's queries. -/
theorem isBlock0 (c : Dev nD) (t : Fin cfg0.N) :
    Band.IsBlock (iblk m c 0 t) (Band.part (tokens m c) 4 1 (t.val / 32) (t.val / 8 % 4) 0) (t.val % 8) := by
  intro r col hr hcol
  obtain ⟨e0, e1, e2⟩ := index0 t
  refine (Band.cell3_eq (iblk m c 0 t) (ix3 u0 ⟨r, hr⟩ ⟨col, hcol⟩) rfl rfl rfl).trans ?_
  refine v0_apply m c ((win0_0.rect t).emb (ix3 u0 ⟨r, hr⟩ ⟨col, hcol⟩)) (by omega) (by omega) hcol ?_ ?_ ?_
  · rw [win0_0.rect_emb_val t _ 0 rfl, e0]; exact Nat.mul_one _
  · rw [win0_0.rect_emb_val t _ 1 rfl, e1]; rfl
  · rw [win0_0.rect_emb_val t _ 2 rfl, e2]; rfl

/-- Window 1: the keys of the block before (of the first block itself for the first). -/
theorem isBlock1 (c : Dev nD) (t : Fin cfg0.N) :
    Band.IsBlock (iblk m c 1 t) (Band.part (tokens m c) 4 1 (t.val / 32) (t.val / 8 % 4) 1) (t.val % 8 - 1) := by
  intro r col hr hcol
  obtain ⟨e0, e1, e2⟩ := index1 t
  refine (Band.cell3_eq (iblk m c 1 t) (ix3 u0 ⟨r, hr⟩ ⟨col, hcol⟩) rfl rfl rfl).trans ?_
  refine v0_apply m c ((win0_1.rect t).emb (ix3 u0 ⟨r, hr⟩ ⟨col, hcol⟩)) (by omega) (by omega) hcol ?_ ?_ ?_
  · rw [win0_1.rect_emb_val t _ 0 rfl, e0]; exact Nat.mul_one _
  · rw [win0_1.rect_emb_val t _ 1 rfl, e1]; rfl
  · rw [win0_1.rect_emb_val t _ 2 rfl, e2]; rfl

/-- Window 2: the block's keys. -/
theorem isBlock2 (c : Dev nD) (t : Fin cfg0.N) :
    Band.IsBlock (iblk m c 2 t) (Band.part (tokens m c) 4 1 (t.val / 32) (t.val / 8 % 4) 1) (t.val % 8) := by
  intro r col hr hcol
  obtain ⟨e0, e1, e2⟩ := index2 t
  refine (Band.cell3_eq (iblk m c 2 t) (ix3 u0 ⟨r, hr⟩ ⟨col, hcol⟩) rfl rfl rfl).trans ?_
  refine v0_apply m c ((win0_2.rect t).emb (ix3 u0 ⟨r, hr⟩ ⟨col, hcol⟩)) (by omega) (by omega) hcol ?_ ?_ ?_
  · rw [win0_2.rect_emb_val t _ 0 rfl, e0]; exact Nat.mul_one _
  · rw [win0_2.rect_emb_val t _ 1 rfl, e1]; rfl
  · rw [win0_2.rect_emb_val t _ 2 rfl, e2]; rfl

/-- Window 3: the values of the block before. -/
theorem isBlock3 (c : Dev nD) (t : Fin cfg0.N) :
    Band.IsBlock (iblk m c 3 t) (Band.part (tokens m c) 4 1 (t.val / 32) (t.val / 8 % 4) 2) (t.val % 8 - 1) := by
  intro r col hr hcol
  obtain ⟨e0, e1, e2⟩ := index3 t
  refine (Band.cell3_eq (iblk m c 3 t) (ix3 u0 ⟨r, hr⟩ ⟨col, hcol⟩) rfl rfl rfl).trans ?_
  refine v0_apply m c ((win0_3.rect t).emb (ix3 u0 ⟨r, hr⟩ ⟨col, hcol⟩)) (by omega) (by omega) hcol ?_ ?_ ?_
  · rw [win0_3.rect_emb_val t _ 0 rfl, e0]; exact Nat.mul_one _
  · rw [win0_3.rect_emb_val t _ 1 rfl, e1]; rfl
  · rw [win0_3.rect_emb_val t _ 2 rfl, e2]; rfl

/-- Window 4: the block's values. -/
theorem isBlock4 (c : Dev nD) (t : Fin cfg0.N) :
    Band.IsBlock (iblk m c 4 t) (Band.part (tokens m c) 4 1 (t.val / 32) (t.val / 8 % 4) 2) (t.val % 8) := by
  intro r col hr hcol
  obtain ⟨e0, e1, e2⟩ := index4 t
  refine (Band.cell3_eq (iblk m c 4 t) (ix3 u0 ⟨r, hr⟩ ⟨col, hcol⟩) rfl rfl rfl).trans ?_
  refine v0_apply m c ((win0_4.rect t).emb (ix3 u0 ⟨r, hr⟩ ⟨col, hcol⟩)) (by omega) (by omega) hcol ?_ ?_ ?_
  · rw [win0_4.rect_emb_val t _ 0 rfl, e0]; exact Nat.mul_one _
  · rw [win0_4.rect_emb_val t _ 1 rfl, e1]; rfl
  · rw [win0_4.rect_emb_val t _ 2 rfl, e2]; rfl

/-! ## The result arrays -/

/-- What the output array is shown to hold. -/
def outSpec (c : Dev nD) : S4x1024x4096.Idx → EReal := fun i =>
  Band.attnOut (tokens m c) 4 1 (i 0).val ((i 2).val / 1024) (i 1).val ((i 2).val % 1024)

/-- What the array of sums is shown to hold. -/
def lseSpec (c : Dev nD) : S4x1024x512.Idx → EReal := fun i =>
  Band.attnLse (tokens m c) 4 1 (i 0).val ((i 2).val / 128) (i 1).val ((i 2).val % 128)

/-- Point `t` writes back its block of the output. -/
theorem flushed5_eq (c : Dev nD) (t : Fin cfg0.N) : (dats m 0 c).flushed 5 t = (win0_5.blk t).view.read (Elt Ideal) (outSpec m c) := by
  rw [Value.flushed5]
  funext y
  obtain ⟨e0, e1, e2⟩ := index5 t
  have h0 : ((win0_5.rect t).emb y 0).val = t.val / 32 := by
    rw [win0_5.rect_emb_val t _ 0 rfl, e0]; have : (y 0).val < 1 := (y 0).isLt; show t.val / 32 * 1 + (y 0).val = _; omega
  have h1 : ((win0_5.rect t).emb y 1).val = t.val % 8 * 128 + (y 1).val := by rw [win0_5.rect_emb_val t _ 1 rfl, e1]; rfl
  have h2 : ((win0_5.rect t).emb y 2).val = t.val / 8 % 4 * 1024 + (y 2).val := by rw [win0_5.rect_emb_val t _ 2 rfl, e2]; rfl
  have hy1 : (y 1).val < 128 := (y 1).isLt
  have hy2 : (y 2).val < 1024 := (y 2).isLt
  refine (out5_apply (grid0.coords t) (iblk m c 0 t) (iblk m c 1 t) (iblk m c 2 t) (iblk m c 3 t) (iblk m c 4 t) y).trans ?_
  rw [coord2, Band.blockOut_eq (isBlock0 m c t) (isBlock1 m c t) (isBlock2 m c t) (isBlock3 m c t) (isBlock4 m c t) hy1 hy2]
  show _ = outSpec m c ((win0_5.rect t).emb y)
  unfold outSpec Band.attnOut
  rw [h0, h1, h2, show (t.val / 8 % 4 * 1024 + (y 2).val) / 1024 = t.val / 8 % 4 by omega,
    show (t.val / 8 % 4 * 1024 + (y 2).val) % 1024 = (y 2).val by omega]

/-- Point `t` writes back its block of the sums. -/
theorem flushed6_eq (c : Dev nD) (t : Fin cfg0.N) : (dats m 0 c).flushed 6 t = (win0_6.blk t).view.read (Elt Ideal) (lseSpec m c) := by
  rw [Value.flushed6]
  funext y
  obtain ⟨e0, e1, e2⟩ := index6 t
  have h0 : ((win0_6.rect t).emb y 0).val = t.val / 32 := by
    rw [win0_6.rect_emb_val t _ 0 rfl, e0]; have : (y 0).val < 1 := (y 0).isLt; show t.val / 32 * 1 + (y 0).val = _; omega
  have h1 : ((win0_6.rect t).emb y 1).val = t.val % 8 * 128 + (y 1).val := by rw [win0_6.rect_emb_val t _ 1 rfl, e1]; rfl
  have h2 : ((win0_6.rect t).emb y 2).val = t.val / 8 % 4 * 128 + (y 2).val := by rw [win0_6.rect_emb_val t _ 2 rfl, e2]; rfl
  have hy1 : (y 1).val < 128 := (y 1).isLt
  have hy2 : (y 2).val < 128 := (y 2).isLt
  refine (out6_apply (grid0.coords t) (iblk m c 0 t) (iblk m c 1 t) (iblk m c 2 t) (iblk m c 3 t) (iblk m c 4 t) y).trans ?_
  rw [coord2, Band.blockLse_eq (isBlock0 m c t) (isBlock1 m c t) (isBlock2 m c t) hy1]
  show _ = lseSpec m c ((win0_6.rect t).emb y)
  unfold lseSpec Band.attnLse
  rw [h0, h1, h2, show (t.val / 8 % 4 * 128 + (y 2).val) / 128 = t.val / 8 % 4 by omega,
    show (t.val / 8 % 4 * 128 + (y 2).val) % 128 = (y 2).val by omega]

/-- Every index of the output is in a block. -/
theorem cover5 (i : S4x1024x4096.Idx) : ∃ t : Fin cfg0.N, (cfg0.win 5).flush t = true ∧ i ∈ ((cfg0.win 5).blk t).view.set := by
  have h0 : (i 0).val < 4 := (i 0).isLt
  have h1 : (i 1).val < 1024 := (i 1).isLt
  have h2 : (i 2).val < 4096 := (i 2).isLt
  have hN : cfg0.N = 128 := N_0
  refine ⟨⟨(i 0).val * 32 + (i 2).val / 1024 * 8 + (i 1).val / 128, by omega⟩, flush0_5 _, ?_⟩
  generalize ht : (⟨(i 0).val * 32 + (i 2).val / 1024 * 8 + (i 1).val / 128, _⟩ : Fin cfg0.N) = t
  have hv : (i 0).val * 32 + (i 2).val / 1024 * 8 + (i 1).val / 128 = t.val := congrArg Fin.val ht
  obtain ⟨e0, e1, e2⟩ := index5 t
  show i ∈ ((View.whole main_v1_0).slice (win0_5.rect t)).set
  rw [View.set_slice_whole]
  refine Rect.mem_set_unit.2 fun a => ?_
  match a with
  | ⟨0, _⟩ => show win0_5.index t 0 * 1 ≤ (i 0).val ∧ (i 0).val < win0_5.index t 0 * 1 + 1; rw [e0]; omega
  | ⟨1, _⟩ => show win0_5.index t 1 * 128 ≤ (i 1).val ∧ (i 1).val < win0_5.index t 1 * 128 + 128; rw [e1]; omega
  | ⟨2, _⟩ => show win0_5.index t 2 * 1024 ≤ (i 2).val ∧ (i 2).val < win0_5.index t 2 * 1024 + 1024; rw [e2]; omega

/-- Every index of the sums is in a block. -/
theorem cover6 (i : S4x1024x512.Idx) : ∃ t : Fin cfg0.N, (cfg0.win 6).flush t = true ∧ i ∈ ((cfg0.win 6).blk t).view.set := by
  have h0 : (i 0).val < 4 := (i 0).isLt
  have h1 : (i 1).val < 1024 := (i 1).isLt
  have h2 : (i 2).val < 512 := (i 2).isLt
  have hN : cfg0.N = 128 := N_0
  refine ⟨⟨(i 0).val * 32 + (i 2).val / 128 * 8 + (i 1).val / 128, by omega⟩, flush0_6 _, ?_⟩
  generalize ht : (⟨(i 0).val * 32 + (i 2).val / 128 * 8 + (i 1).val / 128, _⟩ : Fin cfg0.N) = t
  have hv : (i 0).val * 32 + (i 2).val / 128 * 8 + (i 1).val / 128 = t.val := congrArg Fin.val ht
  obtain ⟨e0, e1, e2⟩ := index6 t
  show i ∈ ((View.whole main_v1_1).slice (win0_6.rect t)).set
  rw [View.set_slice_whole]
  refine Rect.mem_set_unit.2 fun a => ?_
  match a with
  | ⟨0, _⟩ => show win0_6.index t 0 * 1 ≤ (i 0).val ∧ (i 0).val < win0_6.index t 0 * 1 + 1; rw [e0]; omega
  | ⟨1, _⟩ => show win0_6.index t 1 * 128 ≤ (i 1).val ∧ (i 1).val < win0_6.index t 1 * 128 + 128; rw [e1]; omega
  | ⟨2, _⟩ => show win0_6.index t 2 * 128 ≤ (i 2).val ∧ (i 2).val < win0_6.index t 2 * 128 + 128; rw [e2]; omega

/-- The output array after the run. -/
theorem final5 (c : Dev nD) : (dats m 0 c).arrAt 5 cfg0.N = outSpec m c :=
  (dats m 0 c).arrAt_eq_of_cover 5 (outSpec m c) (fun t _ => flushed5_eq m c t) cover5

/-- The array of sums after the run. -/
theorem final6 (c : Dev nD) : (dats m 0 c).arrAt 6 cfg0.N = lseSpec m c :=
  (dats m 0 c).arrAt_eq_of_cover 6 (lseSpec m c) (fun t _ => flushed6_eq m c t) cover6

end Cert.Attn1Ideal.Out

end
-- ==== Proof.Attn1.RefInputs.lean ====
/- The reference's queries, keys and values, read at an index: cells of the token array. -/
module

public import proofs.«01_k».proof.Proof.Gen.AttnRef1Ideal.Read
public import proofs.«01_k».proof.Proof.Band.Sequence
public import Idealize.ShloMosaic.Lib.KernelVsHost

@[expose] public section

noncomputable section

namespace Cert.AttnRef1Ideal.Band

open Cert.AttnRef1Ideal Cert.AttnRef1Ideal.Gen Cert.AttnRef1Ideal.Read Idealize.ShloMosaic Idealize.ShloMosaic.ValueIdx Cert.Band

variable (X : TTokens.Idx → EReal)

/-- Subsequence `N` is residue `N % 4` of batch entry `N / 4`. -/
theorem idx_split (N : Fin 16) (s : Fin 1024) (h : Fin 16) (d : Fin 64) :
    idx_main_v4 (ix4 N s h d) = ix5 ⟨N.val / 4, by omega⟩ ⟨N.val % 4, by omega⟩ s h d := by
  have hN := N.isLt; have hs := s.isLt; have hh := h.isLt; have hd := d.isLt
  funext a
  match a with
  | ⟨0, _⟩ => exact Fin.ext (by show (((N.val * 1024 + s.val) * 16 + h.val) * 64 + d.val) / 4194304 = N.val / 4; omega)
  | ⟨1, _⟩ => exact Fin.ext (by show (((N.val * 1024 + s.val) * 16 + h.val) * 64 + d.val) / 1048576 % 4 = N.val % 4; omega)
  | ⟨2, _⟩ => exact Fin.ext (by show (((N.val * 1024 + s.val) * 16 + h.val) * 64 + d.val) / 1024 % 1024 = s.val; omega)
  | ⟨3, _⟩ => exact Fin.ext (by show (((N.val * 1024 + s.val) * 16 + h.val) * 64 + d.val) / 64 % 16 = h.val; omega)
  | ⟨4, _⟩ => exact Fin.ext (by show (((N.val * 1024 + s.val) * 16 + h.val) * 64 + d.val) % 64 = d.val; omega)

/-- Position `s` of residue `R` is the token at `4 s + R`. -/
theorem idx_token (b : Fin 4) (s : Fin 1024) (R : Fin 4) (h : Fin 16) (d : Fin 64) :
    idx_main_v2 (ix5 b s R h d) = ix4 b ⟨s.val * 4 + R.val, by omega⟩ h d := by
  have hb := b.isLt; have hs := s.isLt; have hR := R.isLt; have hh := h.isLt; have hd := d.isLt
  funext a
  match a with
  | ⟨0, _⟩ => exact Fin.ext (by show ((((b.val * 1024 + s.val) * 4 + R.val) * 16 + h.val) * 64 + d.val) / 4194304 = b.val; omega)
  | ⟨1, _⟩ => exact Fin.ext (by show ((((b.val * 1024 + s.val) * 4 + R.val) * 16 + h.val) * 64 + d.val) / 1024 % 4096 = s.val * 4 + R.val; omega)
  | ⟨2, _⟩ => exact Fin.ext (by show ((((b.val * 1024 + s.val) * 4 + R.val) * 16 + h.val) * 64 + d.val) / 64 % 16 = h.val; omega)
  | ⟨3, _⟩ => exact Fin.ext (by show ((((b.val * 1024 + s.val) * 4 + R.val) * 16 + h.val) * 64 + d.val) % 64 = d.val; omega)

/-- A token's row and a head's column. -/
theorem idx_row (b : Fin 4) (t : Fin 4096) (h : Fin 16) (d : Fin 64) :
    idx_main_v1 (ix4 b t h d) = ix2 ⟨b.val * 4096 + t.val, by omega⟩ ⟨64 * h.val + d.val, by omega⟩ := by
  have hb := b.isLt; have ht := t.isLt; have hh := h.isLt; have hd := d.isLt
  funext a
  match a with
  | ⟨0, _⟩ => exact Fin.ext (by show (((b.val * 4096 + t.val) * 16 + h.val) * 64 + d.val) / 1024 = b.val * 4096 + t.val; omega)
  | ⟨1, _⟩ => exact Fin.ext (by show (((b.val * 4096 + t.val) * 16 + h.val) * 64 + d.val) % 1024 = 64 * h.val + d.val; omega)

/-- The whole way from a subsequence's entry to the token array, for the queries' column slice. -/
theorem idx_path (N : Fin 16) (s : Fin 1024) (h : Fin 16) (d : Fin 64) :
    idx_main_v1 (idx_main_v2 (idx_main_v3 (idx_main_v4 (ix4 N s h d))))
      = ix2 ⟨N.val / 4 * 4096 + (s.val * 4 + N.val % 4), by omega⟩ ⟨64 * h.val + d.val, by omega⟩ := by
  rw [idx_split]
  have e : idx_main_v3 (ix5 ⟨N.val / 4, by omega⟩ ⟨N.val % 4, by omega⟩ s h d) = ix5 ⟨N.val / 4, by omega⟩ s ⟨N.val % 4, by omega⟩ h d := by
    funext a; match a with | ⟨0, _⟩ => rfl | ⟨1, _⟩ => rfl | ⟨2, _⟩ => rfl | ⟨3, _⟩ => rfl | ⟨4, _⟩ => rfl
  rw [e, idx_token, idx_row]

theorem v4_apply (N : Fin 16) (s : Fin 1024) (h : Fin 16) (d : Fin 64) :
    val_main_v4 (F := Ideal) X (ix4 N s h d) = part X 4 1 (N.val / 4) (N.val % 4) 0 s.val (64 * h.val + d.val) := by
  rw [val_main_v4_apply, val_main_v3_apply, val_main_v2_apply, val_main_v1_apply, val_main_v0_apply, idx_path]
  exact (cell2_eq X _ rfl rfl).symm

theorem v9_apply (N : Fin 16) (s : Fin 1024) (h : Fin 16) (d : Fin 64) :
    val_main_v9 (F := Ideal) X (ix4 N s h d) = part X 4 1 (N.val / 4) (N.val % 4) 1 s.val (64 * h.val + d.val) := by
  rw [val_main_v9_apply, val_main_v8_apply, val_main_v7_apply, val_main_v6_apply, val_main_v5_apply]
  show X (idx_main_v5 (idx_main_v1 (idx_main_v2 (idx_main_v3 (idx_main_v4 (ix4 N s h d)))))) = _
  rw [idx_path]
  exact (cell2_eq X _ rfl rfl).symm

theorem v14_apply (N : Fin 16) (s : Fin 1024) (h : Fin 16) (d : Fin 64) :
    val_main_v14 (F := Ideal) X (ix4 N s h d) = part X 4 1 (N.val / 4) (N.val % 4) 2 s.val (64 * h.val + d.val) := by
  rw [val_main_v14_apply, val_main_v13_apply, val_main_v12_apply, val_main_v11_apply, val_main_v10_apply]
  show X (idx_main_v10 (idx_main_v1 (idx_main_v2 (idx_main_v3 (idx_main_v4 (ix4 N s h d)))))) = _
  rw [idx_path]
  exact (cell2_eq X _ rfl rfl).symm

/-! ## Blocks -/

theorem idx_block (N : Fin 16) (n : Fin 8) (r : Fin 128) (h : Fin 16) (d : Fin 64) :
    idx_main_v15 (ix5 N n r h d) = ix4 N ⟨n.val * 128 + r.val, by omega⟩ h d := by
  have hN := N.isLt; have hn := n.isLt; have hr := r.isLt; have hh := h.isLt; have hd := d.isLt
  funext a
  match a with
  | ⟨0, _⟩ => exact Fin.ext (by show ((((N.val * 8 + n.val) * 128 + r.val) * 16 + h.val) * 64 + d.val) / 1048576 = N.val; omega)
  | ⟨1, _⟩ => exact Fin.ext (by show ((((N.val * 8 + n.val) * 128 + r.val) * 16 + h.val) * 64 + d.val) / 1024 % 1024 = n.val * 128 + r.val; omega)
  | ⟨2, _⟩ => exact Fin.ext (by show ((((N.val * 8 + n.val) * 128 + r.val) * 16 + h.val) * 64 + d.val) / 64 % 16 = h.val; omega)
  | ⟨3, _⟩ => exact Fin.ext (by show ((((N.val * 8 + n.val) * 128 + r.val) * 16 + h.val) * 64 + d.val) % 64 = d.val; omega)

/-- A block's queries. -/
theorem queries_apply (N : Fin 16) (n : Fin 8) (r : Fin 128) (h : Fin 16) (d : Fin 64) :
    val_main_v15 (F := Ideal) X (ix5 N n r h d) = part X 4 1 (N.val / 4) (N.val % 4) 0 (n.val * 128 + r.val) (64 * h.val + d.val) := by
  rw [val_main_v15_apply, idx_block, v4_apply]

theorem keyBlock_apply (N : Fin 16) (n : Fin 8) (r : Fin 128) (h : Fin 16) (d : Fin 64) :
    val_main_v16 (F := Ideal) X (ix5 N n r h d) = part X 4 1 (N.val / 4) (N.val % 4) 1 (n.val * 128 + r.val) (64 * h.val + d.val) := by
  rw [val_main_v16_apply]
  show val_main_v9 (F := Ideal) X (idx_main_v15 (ix5 N n r h d)) = _
  rw [idx_block, v9_apply]

theorem valueBlock_apply (N : Fin 16) (n : Fin 8) (r : Fin 128) (h : Fin 16) (d : Fin 64) :
    val_main_v17 (F := Ideal) X (ix5 N n r h d) = part X 4 1 (N.val / 4) (N.val % 4) 2 (n.val * 128 + r.val) (64 * h.val + d.val) := by
  rw [val_main_v17_apply]
  show val_main_v14 (F := Ideal) X (idx_main_v15 (ix5 N n r h d)) = _
  rw [idx_block, v14_apply]

/-- A padded array of blocks one block late, read past its first block. -/
theorem late_apply (y : S16x8x128x16x64.Idx → EReal) (z : S_.Idx → EReal) (N : Fin 16) (n : Fin 8) (r : Fin 128) (h : Fin 16) (d : Fin 64) (hn : n.val ≠ 0) :
    pad S16x9x128x16x64 ![0, 1, 0, 0, 0] ![0, 0, 0, 0, 0] ![0, 0, 0, 0, 0] y z pads_S16x8x128x16x64_S16x9x128x16x64_000_100_000_000_000 h_S_
        (idx_main_v19 (ix5 N n r h d)) = y (ix5 N ⟨n.val - 1, by omega⟩ r h d) := by
  refine pad_apply_of_inside _ _ _ y z _ _ _ (ix5 N ⟨n.val - 1, by omega⟩ r h d) fun a => ?_
  match a with
  | ⟨0, _⟩ => show N.val = 0 + N.val * 1; omega
  | ⟨1, _⟩ => show n.val = 1 + (n.val - 1) * 1; omega
  | ⟨2, _⟩ => show r.val = 0 + r.val * 1; omega
  | ⟨3, _⟩ => show h.val = 0 + h.val * 1; omega
  | ⟨4, _⟩ => show d.val = 0 + d.val * 1; omega

/-- Two blocks one after the other along the rows. -/
theorem joined_apply (p y : S16x8x128x16x64.Idx → EReal) (N : Fin 16) (n : Fin 8) (c : Fin 256) (h : Fin 16) (d : Fin 64) :
    concatenate S16x8x256x16x64 2 [⟨S16x8x128x16x64, p⟩, ⟨S16x8x128x16x64, y⟩] concatenates_S16x8x128x16x64_S16x8x128x16x64_S16x8x256x16x64_d2 (ix5 N n c h d)
      = if hc : c.val < 128 then p (ix5 N n ⟨c.val, hc⟩ h d) else y (ix5 N n ⟨c.val - 128, by omega⟩ h d) := by
  split
  · next hc =>
    exact concatenate_pair_apply_left (t := S16x8x256x16x64) 2 p y concatenates_S16x8x128x16x64_S16x8x128x16x64_S16x8x256x16x64_d2 (ix5 N n c h d) rfl (ix5 N n ⟨c.val, hc⟩ h d)
      (fun b => by match b with | ⟨0, _⟩ => rfl | ⟨1, _⟩ => rfl | ⟨2, _⟩ => rfl | ⟨3, _⟩ => rfl | ⟨4, _⟩ => rfl)
  · next hc =>
    exact concatenate_pair_apply_right (t := S16x8x256x16x64) 2 p y concatenates_S16x8x128x16x64_S16x8x128x16x64_S16x8x256x16x64_d2 (ix5 N n c h d) rfl rfl (ix5 N n ⟨c.val - 128, by omega⟩ h d)
      (fun b hb => by match b with | ⟨0, _⟩ => rfl | ⟨1, _⟩ => rfl | ⟨2, _⟩ => exact absurd rfl hb | ⟨3, _⟩ => rfl | ⟨4, _⟩ => rfl)
      (by show c.val - 128 + 128 = c.val; omega)

/-- The keys of a block, at a place a row can see: `c - 128` positions from the block's first. -/
theorem keys_apply (N : Fin 16) (n : Fin 8) (c : Fin 256) (h : Fin 16) (d : Fin 64) (hs : n.val = 0 → 128 ≤ c.val) :
    val_main_v20 (F := Ideal) X (ix5 N n c h d) = part X 4 1 (N.val / 4) (N.val % 4) 1 (n.val * 128 + c.val - 128) (64 * h.val + d.val) := by
  refine (joined_apply (val_main_v19 (F := Ideal) X) (val_main_v16 (F := Ideal) X) N n c h d).trans ?_
  split
  · next hc =>
    have hn : n.val ≠ 0 := fun h0 => by have := hs h0; omega
    rw [val_main_v19_apply]
    refine (late_apply (val_main_v16 (F := Ideal) X) _ N n ⟨c.val, hc⟩ h d hn).trans ?_
    rw [keyBlock_apply]
    congr 1; show (n.val - 1) * 128 + c.val = _; omega
  · next hc => rw [keyBlock_apply]; congr 1; show n.val * 128 + (c.val - 128) = _; omega

/-- The values of a block, at a place a row can see. -/
theorem values_apply (N : Fin 16) (n : Fin 8) (c : Fin 256) (h : Fin 16) (d : Fin 64) (hs : n.val = 0 → 128 ≤ c.val) :
    val_main_v23 (F := Ideal) X (ix5 N n c h d) = part X 4 1 (N.val / 4) (N.val % 4) 2 (n.val * 128 + c.val - 128) (64 * h.val + d.val) := by
  refine (joined_apply (val_main_v22 (F := Ideal) X) (val_main_v17 (F := Ideal) X) N n c h d).trans ?_
  split
  · next hc =>
    have hn : n.val ≠ 0 := fun h0 => by have := hs h0; omega
    rw [val_main_v22_apply]
    refine (late_apply (val_main_v17 (F := Ideal) X) _ N n ⟨c.val, hc⟩ h d hn).trans ?_
    rw [valueBlock_apply]
    congr 1; show (n.val - 1) * 128 + c.val = _; omega
  · next hc => rw [valueBlock_apply]; congr 1; show n.val * 128 + (c.val - 128) = _; omega

end Cert.AttnRef1Ideal.Band

end
-- ==== Proof.Attn1.Reference.lean ====
/- The reference's two results, entry by entry. -/
module

public import proofs.«01_k».proof.Proof.Attn1.RefInputs

@[expose] public section

noncomputable section

namespace Cert.AttnRef1Ideal.Band

open Cert.AttnRef1Ideal Cert.AttnRef1Ideal.Gen Cert.AttnRef1Ideal.Read Idealize.ShloMosaic Idealize.ShloMosaic.ValueIdx
open Idealize.ShloMosaic.WordCmp Cert.Band

variable (X : TTokens.Idx → EReal)

/-! ## The mask -/

/-- Distance from query to key, as a signed word. -/
theorem dist_toInt (r : Fin 128) (c : Fin 256) :
    (BitVec.ofNat 32 r.val + 128#32 - BitVec.ofNat 32 c.val).toInt = 128 + (r.val : Int) - c.val := by
  rw [BitVec.add_comm]; exact Cert.Band.dist_toInt r c

/-- A key's position in its subsequence, as a signed word. -/
theorem pos_toInt (n : Fin 8) (c : Fin 256) :
    (BitVec.ofNat 32 n.val * 128#32 - 128#32 + BitVec.ofNat 32 c.val).toInt = (n.val : Int) * 128 - 128 + c.val := by
  have hn := n.isLt; have hc := c.isLt
  rw [BitVec.toInt_add, BitVec.toInt_sub, BitVec.toInt_mul, toInt_ofNat_of_lt (a := n.val) (by omega), toInt_ofNat_of_lt (a := c.val) (by omega)]
  simp only [BitVec.reduceToInt, Int.bmod]
  omega

/-- Whether a row may look at a key, by distance alone. -/
theorem near_apply (r : Fin 128) (c : Fin 256) :
    val_main_v48 (F := Ideal) (ix2 r c) = BitVec.ofBool (decide (r.val ≤ c.val ∧ c.val ≤ 128 + r.val)) := by
  show IntOp.andi (IntOp.cmpi .sge (val_main_v33 (F := Ideal) (ix2 r c)) (val_main_v44 (F := Ideal) (ix2 r c)))
    (IntOp.cmpi .sle (val_main_v33 (F := Ideal) (ix2 r c)) (val_main_v46 (F := Ideal) (ix2 r c))) = _
  have hd : val_main_v33 (F := Ideal) (ix2 r c) = BitVec.ofNat 32 r.val + 128#32 - BitVec.ofNat 32 c.val := by
    rw [val_main_v33_apply, val_main_v31_apply, val_main_v28_apply, val_main_v26_apply, val_main_v27_apply, val_main_v32_apply, val_main_v30_apply]
    rfl
  rw [hd, val_main_v44_apply, val_main_v46_apply, val_main_c_4_apply, val_main_c_5_apply, cmpi_sge_eq, cmpi_sle_eq, dist_toInt, andi_ofBool]
  refine congrArg BitVec.ofBool ?_
  rw [← Bool.decide_and, decide_eq_decide]
  simp only [BitVec.reduceToInt]
  omega

/-- Whether a key is at a position of the subsequence. -/
theorem inside_apply (n : Fin 8) (c : Fin 256) :
    val_main_v50 (F := Ideal) (ix3 n u0 c) = BitVec.ofBool (decide (n.val = 0 → 128 ≤ c.val)) := by
  show IntOp.cmpi .sge (val_main_v43 (F := Ideal) (ix3 n u0 c)) (val_main_v49 (F := Ideal) (ix3 n u0 c)) = _
  have hd : val_main_v43 (F := Ideal) (ix3 n u0 c) = BitVec.ofNat 32 n.val * 128#32 - 128#32 + BitVec.ofNat 32 c.val := by
    rw [val_main_v43_apply, val_main_v41_apply, val_main_v39_apply, val_main_v37_apply, val_main_v35_apply, val_main_v36_apply, val_main_v38_apply,
      val_main_v42_apply, val_main_v40_apply, val_main_v30_apply]
    rfl
  rw [hd, val_main_v49_apply, val_main_c_6_apply, cmpi_sge_eq, pos_toInt]
  refine congrArg BitVec.ofBool ?_
  rw [decide_eq_decide]
  simp only [BitVec.reduceToInt]
  omega

/-- The mask is whether the row sees the key. -/
theorem mask_apply (N : Fin 16) (n : Fin 8) (h : Fin 16) (r : Fin 128) (c : Fin 256) :
    val_main_call2_v1 (F := Ideal) (ix5 N n h r c) = BitVec.ofBool (decide (Sees n.val r.val c.val)) := by
  rw [val_main_call2_v1_apply, val_main_v55_apply]
  show IntOp.andi (val_main_v52 (F := Ideal) (ix3 n r c)) (val_main_v53 (F := Ideal) (ix3 n r c)) = _
  rw [val_main_v52_apply, val_main_v51_apply, val_main_v53_apply]
  have e1 : idx_main_v51 (idx_main_v52 (ix3 n r c)) = ix2 r c := by
    funext a; match a with | ⟨0, _⟩ => rfl | ⟨1, _⟩ => rfl
  have e2 : idx_main_v53 (ix3 n r c) = ix3 n u0 c := by
    funext a; match a with | ⟨0, _⟩ => rfl | ⟨1, _⟩ => rfl | ⟨2, _⟩ => rfl
  rw [e1, e2, near_apply, inside_apply, andi_ofBool]
  refine congrArg BitVec.ofBool ?_
  rw [← Bool.decide_and, decide_eq_decide, and_assoc]
  rfl

/-! ## Scores and weights -/

/-- The queries of a subsequence. -/
abbrev Q (N : Fin 16) := part X 4 1 (N.val / 4) (N.val % 4) 0
/-- The keys of a subsequence. -/
abbrev K (N : Fin 16) := part X 4 1 (N.val / 4) (N.val % 4) 1
/-- The values of a subsequence. -/
abbrev V (N : Fin 16) := part X 4 1 (N.val / 4) (N.val % 4) 2

/-- The scores of a row. -/
abbrev sc (N : Fin 16) (n : Fin 8) (h : Fin 16) (r : Fin 128) : Fin 256 → EReal := seqScores (Q X N) (K X N) (n.val * 128 + r.val) h.val

theorem scores_apply (N : Fin 16) (n : Fin 8) (h : Fin 16) (r : Fin 128) (c : Fin 256) :
    val_main_v56 (F := Ideal) X (ix5 N n h r c) = sc X N n h r c := by
  have hr := r.isLt
  show Scalar.select (val_main_call2_v1 (F := Ideal) (ix5 N n h r c)) (val_main_v24 (F := Ideal) X (ix5 N n h r c)) (val_main_call2_v2 (F := Ideal) (ix5 N n h r c)) = _
  have hb : val_main_call2_v2 (F := Ideal) (ix5 N n h r c) = ⊥ := by
    rw [val_main_call2_v2_apply]; exact neg_inf_word
  rw [mask_apply, Cert.Band.select_ofBool, hb]
  show _ = seqScores _ _ _ _ c
  unfold seqScores rowScores
  rw [show (n.val * 128 + r.val) / 128 = n.val by omega, show (n.val * 128 + r.val) % 128 = r.val by omega]
  by_cases hs : Sees n.val r.val c.val
  · rw [if_pos hs, if_pos hs, val_main_v24_apply]
    refine Finset.sum_congr rfl fun d _ => ?_
    have e1 : lidx_main_v24 (ix5 N n h r c) d = ix5 N n r h d := by
      funext a; match a with | ⟨0, _⟩ => rfl | ⟨1, _⟩ => rfl | ⟨2, _⟩ => rfl | ⟨3, _⟩ => rfl | ⟨4, _⟩ => rfl
    have e2 : ridx_main_v24 (ix5 N n h r c) d = ix5 N n c h d := by
      funext a; match a with | ⟨0, _⟩ => rfl | ⟨1, _⟩ => rfl | ⟨2, _⟩ => rfl | ⟨3, _⟩ => rfl | ⟨4, _⟩ => rfl
    rw [e1, e2, queries_apply, keys_apply X N n c h d hs.2.2]
  · rw [if_neg hs, if_neg hs]

theorem reduces_last : S16x8x16x128x256.Reduces [4] S16x8x16x128 := by decide

/-- The reference's maximum over the keys, of any array. -/
theorem reduce_max (Y : FVec Ideal S16x8x16x128x256 .f32) {N : Fin 16} {n : Fin 8} {h : Fin 16} {r : Fin 128} {s : Fin 256 → EReal}
    (hs : ∀ c, Y (ix5 N n h r c) = s c) :
    Host.reduce FloatOps.maximumf Y (val_main_cst_7 (F := Ideal)) reducesTo_S16x8x16x128x256_S16x8x16x128_d4 h_S_ (ix4 N n h r) = top s := by
  have e := hostReduce_maximumf_eq_multiReduction Y 0xFF800000#32 reducesTo_S16x8x16x128x256_S16x8x16x128_d4 h_S_
    reduces_last (.inl rfl) rfl
  refine (congrFun e (ix4 N n h r)).trans ?_
  refine (Ideal.multiReduction_maximumf_single Y 0xFF800000#32 reduces_last (.inl rfl) rfl (ix4 N n h r)).trans ?_
  rw [neg_inf_word]
  refine congrArg (fun f => Finset.univ.fold max ⊥ f) ?_
  funext c
  refine Eq.trans (congrArg Y ?_) (hs c)
  funext a; match a with | ⟨0, _⟩ => rfl | ⟨1, _⟩ => rfl | ⟨2, _⟩ => rfl | ⟨3, _⟩ => rfl | ⟨4, _⟩ => rfl

/-- A row's greatest score. -/
theorem max_apply (N : Fin 16) (n : Fin 8) (h : Fin 16) (r : Fin 128) : val_main_v57 (F := Ideal) X (ix4 N n h r) = top (sc X N n h r) := by
  have hs := scores_apply X N n h r
  unfold val_main_v57
  generalize val_main_v56 (F := Ideal) X = Y at hs ⊢
  generalize sc X N n h r = s at hs ⊢
  exact reduce_max Y hs

theorem max_col (N : Fin 16) (n : Fin 8) (h : Fin 16) (r : Fin 128) : val_main_v58 (F := Ideal) X (ix5 N n h r u0) = top (sc X N n h r) := by
  rw [val_main_v58_apply]
  refine Eq.trans (congrArg (val_main_v57 (F := Ideal) X) ?_) (max_apply X N n h r)
  funext a; match a with | ⟨0, _⟩ => rfl | ⟨1, _⟩ => rfl | ⟨2, _⟩ => rfl | ⟨3, _⟩ => rfl

theorem weights_apply (N : Fin 16) (n : Fin 8) (h : Fin 16) (r : Fin 128) (c : Fin 256) :
    val_main_v61 (F := Ideal) X (ix5 N n h r c) = weight (sc X N n h r) c := by
  show Ideal.exp (val_main_v56 (F := Ideal) X (ix5 N n h r c) - val_main_v59 (F := Ideal) X (ix5 N n h r c)) = _
  have e : val_main_v59 (F := Ideal) X (ix5 N n h r c) = top (sc X N n h r) := by
    rw [val_main_v59_apply]
    refine Eq.trans (congrArg (val_main_v58 (F := Ideal) X) ?_) (max_col X N n h r)
    funext a; match a with | ⟨0, _⟩ => rfl | ⟨1, _⟩ => rfl | ⟨2, _⟩ => rfl | ⟨3, _⟩ => rfl | ⟨4, _⟩ => rfl
  rw [scores_apply, e]; rfl

theorem total_apply (N : Fin 16) (n : Fin 8) (h : Fin 16) (r : Fin 128) : val_main_v62 (F := Ideal) X (ix4 N n h r) = total (sc X N n h r) := by
  rw [val_main_v62_apply]
  have e0 : (val_main_cst_8 (F := Ideal)) (Shape.Idx.first h_S_) = 0 := zero_word
  rw [e0, zero_add]
  refine Finset.sum_congr rfl fun c _ => ?_
  refine Eq.trans (congrArg (val_main_v61 (F := Ideal) X) ?_) (weights_apply X N n h r c)
  funext a; match a with | ⟨0, _⟩ => rfl | ⟨1, _⟩ => rfl | ⟨2, _⟩ => rfl | ⟨3, _⟩ => rfl | ⟨4, _⟩ => rfl

theorem total_col (N : Fin 16) (n : Fin 8) (h : Fin 16) (r : Fin 128) : val_main_v63 (F := Ideal) X (ix5 N n h r u0) = total (sc X N n h r) := by
  rw [val_main_v63_apply]
  refine Eq.trans (congrArg (val_main_v62 (F := Ideal) X) ?_) (total_apply X N n h r)
  funext a; match a with | ⟨0, _⟩ => rfl | ⟨1, _⟩ => rfl | ⟨2, _⟩ => rfl | ⟨3, _⟩ => rfl

/-- The normalised weights. -/
theorem normalised_apply (N : Fin 16) (n : Fin 8) (h : Fin 16) (r : Fin 128) (c : Fin 256) :
    val_main_v65 (F := Ideal) X (ix5 N n h r c) = Ideal.div (weight (sc X N n h r) c) (total (sc X N n h r)) := by
  show Ideal.div (val_main_v61 (F := Ideal) X (ix5 N n h r c)) (val_main_v64 (F := Ideal) X (ix5 N n h r c)) = _
  have e : val_main_v64 (F := Ideal) X (ix5 N n h r c) = total (sc X N n h r) := by
    rw [val_main_v64_apply]
    refine Eq.trans (congrArg (val_main_v63 (F := Ideal) X) ?_) (total_col X N n h r)
    funext a; match a with | ⟨0, _⟩ => rfl | ⟨1, _⟩ => rfl | ⟨2, _⟩ => rfl | ⟨3, _⟩ => rfl | ⟨4, _⟩ => rfl
  rw [weights_apply, e]

/-! ## The results of a block -/

/-- Finite tokens make finite queries and keys. -/
theorem part_finite (hX : ∀ i, X i ≠ ⊤ ∧ X i ≠ ⊥) (dil g b R p s col : Nat) : part X dil g b R p s col ≠ ⊤ ∧ part X dil g b R p s col ≠ ⊥ := by
  unfold part cell2
  split
  · exact hX _
  · exact ⟨EReal.zero_ne_top, EReal.zero_ne_bot⟩

/-- The attention's output at a row: with finite tokens, dividing the weights first is dividing the mean. -/
theorem out_apply (hX : ∀ i, X i ≠ ⊤ ∧ X i ≠ ⊥) (N : Fin 16) (n : Fin 8) (h : Fin 16) (d : Fin 64) (r : Fin 128) :
    val_main_v69 (F := Ideal) X (ix5 N n h d r) = seqOut (Q X N) (K X N) (V X N) (n.val * 128 + r.val) (64 * h.val + d.val) := by
  have hr := r.isLt; have hd := d.isLt
  rw [val_main_v69_apply]
  have e : ∀ c : Fin 256, val_main_v23 (F := Ideal) X (lidx_main_v69 (ix5 N n h d r) c) * val_main_v65 (F := Ideal) X (ridx_main_v69 (ix5 N n h d r) c)
      = Ideal.div (weight (sc X N n h r) c) (total (sc X N n h r)) * val_main_v23 (F := Ideal) X (ix5 N n c h d) := by
    intro c
    have e1 : lidx_main_v69 (ix5 N n h d r) c = ix5 N n c h d := by
      funext a; match a with | ⟨0, _⟩ => rfl | ⟨1, _⟩ => rfl | ⟨2, _⟩ => rfl | ⟨3, _⟩ => rfl | ⟨4, _⟩ => rfl
    have e2 : ridx_main_v69 (ix5 N n h d r) c = ix5 N n h r c := by
      funext a; match a with | ⟨0, _⟩ => rfl | ⟨1, _⟩ => rfl | ⟨2, _⟩ => rfl | ⟨3, _⟩ => rfl | ⟨4, _⟩ => rfl
    rw [e1, e2, normalised_apply, mul_comm]
  rw [Finset.sum_congr rfl fun c _ => e c]
  show meanOfNormalised (sc X N n h r) (fun c => val_main_v23 (F := Ideal) X (ix5 N n c h d)) = _
  have hf := scores_finite n.val r (q := fun d => Q X N (n.val * 128 + r.val) (64 * h.val + d.val))
    (K := fun c d => K X N (n.val * 128 + c.val - 128) (64 * h.val + d.val)) (fun d => part_finite X hX _ _ _ _ _ _ _) (fun c d => part_finite X hX _ _ _ _ _ _ _)
  have es : sc X N n h r = rowScores n.val r.val (fun d => Q X N (n.val * 128 + r.val) (64 * h.val + d.val))
      (fun c d => K X N (n.val * 128 + c.val - 128) (64 * h.val + d.val)) := by
    show seqScores _ _ _ _ = _
    unfold seqScores
    rw [show (n.val * 128 + r.val) / 128 = n.val by omega, show (n.val * 128 + r.val) % 128 = r.val by omega]
  unfold seqOut
  rw [show (64 * h.val + d.val) / 64 = h.val by omega]
  show _ = mean (sc X N n h r) _
  rw [es, mean_eq _ hf.1 hf.2, show (n.val * 128 + r.val) / 128 = n.val by omega]
  exact mean_congr _ _ _ _ fun c hc => values_apply X N n c h d hc.2.2

theorem idx_unit (N : Fin 16) (n : Fin 8) (h : Fin 16) (r : Fin 128) : idx_main_v68 (ix4 N n h r) = ix5 N n h r u0 := by
  have hN := N.isLt; have hn := n.isLt; have hh := h.isLt; have hr := r.isLt
  funext a
  match a with
  | ⟨0, _⟩ => exact Fin.ext (by show (((N.val * 8 + n.val) * 16 + h.val) * 128 + r.val) / 16384 = N.val; omega)
  | ⟨1, _⟩ => exact Fin.ext (by show (((N.val * 8 + n.val) * 16 + h.val) * 128 + r.val) / 2048 % 8 = n.val; omega)
  | ⟨2, _⟩ => exact Fin.ext (by show (((N.val * 8 + n.val) * 16 + h.val) * 128 + r.val) / 128 % 16 = h.val; omega)
  | ⟨3, _⟩ => exact Fin.ext (by show (((N.val * 8 + n.val) * 16 + h.val) * 128 + r.val) / 1 % 128 = r.val; omega)
  | ⟨4, _⟩ => rfl

theorem lse_col (N : Fin 16) (n : Fin 8) (h : Fin 16) (r : Fin 128) :
    val_main_v67 (F := Ideal) X (ix5 N n h r u0) = logSum (sc X N n h r) := by
  rw [val_main_v67_apply, val_main_v66_apply, max_col, total_col]
  unfold logSum
  generalize top _ = a
  generalize total _ = b
  rfl

/-- The logarithm of the sum at a row. -/
theorem lse_apply (N : Fin 16) (n : Fin 8) (h : Fin 16) (r : Fin 128) :
    val_main_v68 (F := Ideal) X (ix4 N n h r) = logSum (sc X N n h r) := by
  rw [val_main_v68_apply, idx_unit, lse_col]

end Cert.AttnRef1Ideal.Band

end
-- ==== Proof.Attn1.Results.lean ====
/- The reference's two result arrays at an index. -/
module

public import proofs.«01_k».proof.Proof.Attn1.Reference

@[expose] public section

noncomputable section

namespace Cert.AttnRef1Ideal.Band

open Cert.AttnRef1Ideal Cert.AttnRef1Ideal.Gen Cert.AttnRef1Ideal.Read Idealize.ShloMosaic Idealize.ShloMosaic.ValueIdx
open Cert.Band

variable (X : TTokens.Idx → EReal)

/-- A result's last axis holds the residues one after the other. -/
theorem idx_out (b : Fin 4) (s : Fin 1024) (l : Fin 4096) :
    idx_main_v73 (idx_main_v74 (ix3 b s l)) = ix4 b ⟨l.val / 1024, by omega⟩ s ⟨l.val % 1024, by omega⟩ := by
  have hb := b.isLt; have hs := s.isLt; have hl := l.isLt
  funext a
  match a with
  | ⟨0, _⟩ => exact Fin.ext (by show ((b.val * 1024 + s.val) * 4096 + l.val) / 4194304 = b.val; omega)
  | ⟨1, _⟩ => exact Fin.ext (by show ((b.val * 1024 + s.val) * 4096 + l.val) / 1024 % 4 = l.val / 1024; omega)
  | ⟨2, _⟩ => exact Fin.ext (by show ((b.val * 1024 + s.val) * 4096 + l.val) / 4096 % 1024 = s.val; omega)
  | ⟨3, _⟩ => exact Fin.ext (by show ((b.val * 1024 + s.val) * 4096 + l.val) % 1024 = l.val % 1024; omega)

/-- Block and row of a position, head and lane of a column. -/
theorem idx_out_block (b R : Fin 4) (s : Fin 1024) (l : Fin 1024) :
    idx_main_v72 (ix4 b R s l)
      = ix5 ⟨b.val * 4 + R.val, by omega⟩ ⟨s.val / 128, by omega⟩ ⟨s.val % 128, by omega⟩ ⟨l.val / 64, by omega⟩ ⟨l.val % 64, by omega⟩ := by
  have hb := b.isLt; have hR := R.isLt; have hs := s.isLt; have hl := l.isLt
  funext a
  match a with
  | ⟨0, _⟩ => exact Fin.ext (by show (((b.val * 4 + R.val) * 1024 + s.val) * 1024 + l.val) / 1048576 = b.val * 4 + R.val; omega)
  | ⟨1, _⟩ => exact Fin.ext (by show (((b.val * 4 + R.val) * 1024 + s.val) * 1024 + l.val) / 131072 % 8 = s.val / 128; omega)
  | ⟨2, _⟩ => exact Fin.ext (by show (((b.val * 4 + R.val) * 1024 + s.val) * 1024 + l.val) / 1024 % 128 = s.val % 128; omega)
  | ⟨3, _⟩ => exact Fin.ext (by show (((b.val * 4 + R.val) * 1024 + s.val) * 1024 + l.val) / 64 % 16 = l.val / 64; omega)
  | ⟨4, _⟩ => exact Fin.ext (by show (((b.val * 4 + R.val) * 1024 + s.val) * 1024 + l.val) % 64 = l.val % 64; omega)

/-- The reference's first result is the banded attention of each residue's subsequence. -/
theorem v74_apply (hX : ∀ i, X i ≠ ⊤ ∧ X i ≠ ⊥) (b : Fin 4) (s : Fin 1024) (l : Fin 4096) :
    val_main_v74 (F := Ideal) X (ix3 b s l) = attnOut X 4 1 b.val (l.val / 1024) s.val (l.val % 1024) := by
  have hb := b.isLt; have hs := s.isLt; have hl := l.isLt
  rw [val_main_v74_apply, val_main_v73_apply, idx_out, val_main_v72_apply, idx_out_block, val_main_v70_apply]
  have e : ∀ (N : Fin 16) (n : Fin 8) (r : Fin 128) (h : Fin 16) (d : Fin 64), idx_main_v70 (ix5 N n r h d) = ix5 N n h d r := by
    intro N n r h d
    funext a; match a with | ⟨0, _⟩ => rfl | ⟨1, _⟩ => rfl | ⟨2, _⟩ => rfl | ⟨3, _⟩ => rfl | ⟨4, _⟩ => rfl
  rw [e, out_apply X hX]
  unfold attnOut Q K V
  dsimp only
  rw [show (s.val / 128 * 128 + s.val % 128) = s.val by omega, show 64 * (l.val % 1024 / 64) + l.val % 1024 % 64 = l.val % 1024 by omega,
    show (b.val * 4 + l.val / 1024) / 4 = b.val by omega, show (b.val * 4 + l.val / 1024) % 4 = l.val / 1024 by omega]

/-- The same for the logarithms' array. -/
theorem idx_lse (b : Fin 4) (s : Fin 1024) (l : Fin 512) :
    idx_main_v78 (ix3 b s l) = ix4 b s ⟨l.val / 128, by omega⟩ ⟨l.val % 128, by omega⟩ := by
  have hb := b.isLt; have hs := s.isLt; have hl := l.isLt
  funext a
  match a with
  | ⟨0, _⟩ => exact Fin.ext (by show ((b.val * 1024 + s.val) * 512 + l.val) / 524288 = b.val; omega)
  | ⟨1, _⟩ => exact Fin.ext (by show ((b.val * 1024 + s.val) * 512 + l.val) / 512 % 1024 = s.val; omega)
  | ⟨2, _⟩ => exact Fin.ext (by show ((b.val * 1024 + s.val) * 512 + l.val) / 128 % 4 = l.val / 128; omega)
  | ⟨3, _⟩ => exact Fin.ext (by show ((b.val * 1024 + s.val) * 512 + l.val) % 128 = l.val % 128; omega)

/-- Block and row of a position, for the logarithms. -/
theorem idx_lse_block (b R : Fin 4) (s : Fin 1024) (h : Fin 16) :
    idx_main_v75 (ix4 b R s h) = ix4 ⟨b.val * 4 + R.val, by omega⟩ ⟨s.val / 128, by omega⟩ ⟨s.val % 128, by omega⟩ h := by
  have hb := b.isLt; have hR := R.isLt; have hs := s.isLt; have hh := h.isLt
  funext a
  match a with
  | ⟨0, _⟩ => exact Fin.ext (by show (((b.val * 4 + R.val) * 1024 + s.val) * 16 + h.val) / 16384 = b.val * 4 + R.val; omega)
  | ⟨1, _⟩ => exact Fin.ext (by show (((b.val * 4 + R.val) * 1024 + s.val) * 16 + h.val) / 2048 % 8 = s.val / 128; omega)
  | ⟨2, _⟩ => exact Fin.ext (by show (((b.val * 4 + R.val) * 1024 + s.val) * 16 + h.val) / 16 % 128 = s.val % 128; omega)
  | ⟨3, _⟩ => exact Fin.ext (by show (((b.val * 4 + R.val) * 1024 + s.val) * 16 + h.val) % 16 = h.val; omega)

/-- A logarithm of a sum before the lanes are filled up. -/
theorem v76_apply (b : Fin 4) (s : Fin 1024) (R : Fin 4) (h : Fin 16) :
    val_main_v76 (F := Ideal) X (ix4 b s R h) = attnLse X 4 1 b.val R.val s.val h.val := by
  have hb := b.isLt; have hs := s.isLt; have hR := R.isLt; have hh := h.isLt
  rw [val_main_v76_apply]
  have e : idx_main_v76 (ix4 b s R h) = ix4 b R s h := by
    funext a; match a with | ⟨0, _⟩ => rfl | ⟨1, _⟩ => rfl | ⟨2, _⟩ => rfl | ⟨3, _⟩ => rfl
  rw [e, val_main_v75_apply, idx_lse_block, val_main_v71_apply]
  have e : idx_main_v71 (ix4 ⟨b.val * 4 + R.val, by omega⟩ ⟨s.val / 128, by omega⟩ ⟨s.val % 128, by omega⟩ h)
      = ix4 ⟨b.val * 4 + R.val, by omega⟩ ⟨s.val / 128, by omega⟩ h ⟨s.val % 128, by omega⟩ := by
    funext a; match a with | ⟨0, _⟩ => rfl | ⟨1, _⟩ => rfl | ⟨2, _⟩ => rfl | ⟨3, _⟩ => rfl
  rw [e, lse_apply]
  unfold attnLse seqLse
  rw [if_pos hh]
  unfold sc Q K
  dsimp only
  rw [show (s.val / 128 * 128 + s.val % 128) = s.val by omega, show (b.val * 4 + R.val) / 4 = b.val by omega, show (b.val * 4 + R.val) % 4 = R.val by omega]

/-- The reference's second result: the logarithms in the first lanes, zero in the others. -/
theorem v78_apply (b : Fin 4) (s : Fin 1024) (l : Fin 512) :
    val_main_v78 (F := Ideal) X (ix3 b s l) = attnLse X 4 1 b.val (l.val / 128) s.val (l.val % 128) := by
  have hl := l.isLt
  rw [val_main_v78_apply, idx_lse]
  unfold val_main_v77
  by_cases h : l.val % 128 < 16
  · refine (pad_apply_of_inside _ _ _ (val_main_v76 (F := Ideal) X) (val_main_call3_v0 (F := Ideal)) _ _ _
      (ix4 b s ⟨l.val / 128, by omega⟩ ⟨l.val % 128, h⟩) fun a => ?_).trans (v76_apply X _ _ _ _)
    match a with
    | ⟨0, _⟩ => show b.val = 0 + b.val * 1; omega
    | ⟨1, _⟩ => show s.val = 0 + s.val * 1; omega
    | ⟨2, _⟩ => show l.val / 128 = 0 + l.val / 128 * 1; omega
    | ⟨3, _⟩ => show l.val % 128 = 0 + l.val % 128 * 1; omega
  · refine (pad_apply_of_not_inside _ _ _ (val_main_v76 (F := Ideal) X) (val_main_call3_v0 (F := Ideal)) _ _ _ ⟨3, by decide⟩ ?_).trans ?_
    · show ¬(0 ≤ l.val % 128 ∧ (l.val % 128 - 0) % 1 = 0 ∧ (l.val % 128 - 0) / 1 < 16)
      omega
    · unfold attnLse seqLse
      rw [if_neg h]
      show ((((0#32 : BitVec 32).toInt : ℝ)) : EReal) = 0
      simp

end Cert.AttnRef1Ideal.Band

end
-- ==== Proof.Attn1.Claims.lean ====
/- The claims about the attention at dilation 4. -/
module

public import proofs.«01_k».proof.Defs
public import proofs.«01_k».proof.Proof.Gen.Attn1.Frame
public import proofs.«01_k».proof.Proof.Gen.Attn1Ideal.Frame
public import proofs.«01_k».proof.Proof.Gen.AttnRef1Ideal.Run
public import proofs.«01_k».proof.Proof.Attn1.Array
public import proofs.«01_k».proof.Proof.Attn1.Results

@[expose] public section

noncomputable section

namespace Cert.Attn1Claims

open Idealize.ShloMosaic Idealize.SL.Sem Idealize.ShloMosaic.ValueIdx Cert.Band

/-- The precondition's one side condition. -/
theorem facts_pre : Cert.Pre_qkv_finite.Facts := ⟨by decide⟩

/-- A number whose absolute value compares below infinity is neither infinity. -/
theorem finite_of_abs_lt (x : Ideal .f32)
    (h : FloatOps.cmpf .olt (FloatOps.hostAbsf x) (FloatOps.ofBits (F := Ideal) .f32 0x7F800000#32) = 1#1) : (x : EReal) ≠ ⊤ ∧ (x : EReal) ≠ ⊥ := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  refine ⟨fun e => ?_, fun e => ?_⟩ <;> (rw [e] at h'; simp at h')

/-- Under the precondition every entry of the tokens is finite. -/
theorem tokens_finite [Cert.Pre_qkv_finite.Facts] (x : TTokens.Idx → EReal) (h : Cert.Pre_qkv_finite.fn (F := Ideal) x = fun _ => 1#1) (i : TTokens.Idx) :
    x i ≠ ⊤ ∧ x i ≠ ⊥ := finite_of_abs_lt (x i) (congrFun h i)

/-- The reference's frame: its run read at the argument; it declares no semaphore. -/
theorem frame_ref : Cert.quiescent_AttnRef1Ideal (hAttnRef1Ideal := Cert.AttnRef1Ideal.Gen.facts) := fun m ρ _ =>
  (θ_run Cert.AttnRef1Ideal.defs _ _).mono (fun r h => ⟨fun c => (h c).2.2, sem_eq_zero_of_no_sems (by decide) r.2⟩)
    (Cert.AttnRef1Ideal.Value.run (F := Ideal) m ρ)

/-- Kernel and reference agree: both result arrays are the banded attention of the tokens. -/
theorem algebraic : Cert.algebraic_Attn1Ideal_AttnRef1Ideal_pre_qkv_finite (hAttn1Ideal := Cert.Attn1Ideal.Gen.facts)
    (hAttnRef1Ideal := Cert.AttnRef1Ideal.Gen.facts) (hPre_qkv_finite := facts_pre) := by
  intro m ρ m' ρ' hpre hagree
  refine ⟨fun c => Cert.Attn1Ideal.Out.outSpec m c, fun c => Cert.Attn1Ideal.Out.lseSpec m c, ?_, ?_⟩
  · exact (θ_run Cert.Attn1Ideal.defs _ _).mono
      (fun r h c => ⟨(h c).1.trans (Cert.Attn1Ideal.Out.final5 m c), (h c).2.1.trans (Cert.Attn1Ideal.Out.final6 m c), (h c).2.2⟩)
      (Cert.Attn1Ideal.Value.run_blocks m ρ)
  · refine (θ_run Cert.AttnRef1Ideal.defs _ _).mono
      (fun r h c => ⟨(h c).1.trans ?_, (h c).2.1.trans ?_, (h c).2.2⟩) (Cert.AttnRef1Ideal.Value.run (F := Ideal) m' ρ')
    · have hX := @tokens_finite facts_pre _ (hpre c)
      refine (Cert.AttnRef1Ideal.Read.val_main_v74_eq m' c).trans ?_
      rw [hagree c]
      funext i
      obtain ⟨b, s, l, rfl⟩ : ∃ b s l, i = ix3 b s l := ⟨_, _, _, eq_ix3 i⟩
      exact Cert.AttnRef1Ideal.Band.v74_apply _ hX b s l
    · refine (Cert.AttnRef1Ideal.Read.val_main_v78_eq m' c).trans ?_
      rw [hagree c]
      funext i
      obtain ⟨b, s, l, rfl⟩ : ∃ b s l, i = ix3 b s l := ⟨_, _, _, eq_ix3 i⟩
      exact Cert.AttnRef1Ideal.Band.v78_apply _ b s l

end Cert.Attn1Claims

end
-- ==== Proof.Rope.Body.lean ====
/- The projection's body as whole-vector expressions at the extended reals: the normalised rows, their product with a tile
   of weights, and the head norm and rotation of one 128-lane chunk (two heads) of that product.

   The kernel's body runs the last computation for the eight chunks of a tile. This module names it once, over literal
   shapes, so that the printed payloads of every chunk are instances of it. -/
module

public import Idealize.ShloMosaic.Lib.Pipeline.Value
public import Idealize.ShloMosaic.Lib.ValueIdx
public import Idealize.ShloMosaic.PureOps.Ideal.Laws

@[expose] public section

noncomputable section

namespace Cert.Rope

open Idealize.ShloMosaic

abbrev TTile : Shape := ⟨2, ![512, 1024]⟩
abbrev TSquare : Shape := ⟨2, ![1024, 1024]⟩
abbrev TRow : Shape := ⟨2, ![1, 1024]⟩
abbrev TVec : Shape := ⟨1, ![512]⟩
abbrev TCol : Shape := ⟨2, ![512, 1]⟩
abbrev TLanes : Shape := ⟨2, ![512, 128]⟩
abbrev TMix : Shape := ⟨2, ![128, 128]⟩
abbrev TGain : Shape := ⟨2, ![1, 128]⟩

theorem bits_lt : FTy.bits .bf16 < FTy.bits .f32 := by decide
theorem casts_row : TRow.ShapeCasts TRow := by decide
theorem casts_tile : TTile.ShapeCasts TTile := by decide
theorem casts_square : TSquare.ShapeCasts TSquare := by decide
theorem casts_vec_col : TVec.ShapeCasts TCol := by decide
theorem casts_gain : TGain.ShapeCasts TGain := by decide
theorem casts_lanes : TLanes.ShapeCasts TLanes := by decide
theorem casts_mix : TMix.ShapeCasts TMix := by decide
theorem reduces_tile : TTile.Reduces [1] TVec := by decide
theorem bcast_col : TCol.Broadcasts TTile := by decide
theorem bcast_row : TRow.Broadcasts TTile := by decide
theorem bcast_gain : TGain.Broadcasts TLanes := by decide
theorem iota_lanes : TLanes.Iotas .tc 32 [1] := by decide
theorem rotates_lanes : TLanes.Rotates 1 none := by decide
theorem dotW_wf : DotDims.WF TTile TSquare TTile [1] [0] [0] [1] [] [] := by decide
theorem dotMix_wf : DotDims.WF TLanes TMix TLanes [1] [0] [0] [1] [] [] := by decide

/-- A chunk is a slice of the tile. -/
theorem slices_chunk (j : Nat) (hj : j < 8) : TTile.Slices ![0, 128 * j] TLanes :=
  ⟨rfl, fun a => match a with
    | ⟨0, _⟩ => Nat.le_of_eq (Nat.zero_add 512)
    | ⟨1, _⟩ => by show 128 * j + 128 ≤ 1024; omega⟩

/-- Rows times weights. -/
def dotW : DotDims TTile TSquare TTile := ⟨[1], [0], [0], [1], [], [], dotW_wf⟩
/-- A chunk's rows times the matrix that averages over a head. -/
def dotMix : DotDims TLanes TMix TLanes := ⟨[1], [0], [0], [1], [], [], dotMix_wf⟩

/-- The rows, each divided by the root of its mean square and scaled by the gain. -/
def rows (x : Vec Ideal TTile .f32) (g : Vec Ideal TRow .f32) : FVec Ideal TTile .bf16 :=
  shapeCast TTile
    (truncf .bf16
      (mulf
        (mulf x
          (broadcastTo TTile
            (rsqrt
              (addf
                (divf (shapeCast TCol (multiReduction .add [1] TVec (mulf x x) 0x00000000#32 reduces_tile (.inl rfl) rfl) casts_vec_col)
                  (broadcast TCol (Scalar.ofBits .f32 0x44800000#32)))
                (broadcast TCol (Scalar.ofBits .f32 0x358637BD#32))))
            bcast_col))
        (broadcastTo TTile (shapeCast TRow g casts_row) bcast_row))
      bits_lt)
    casts_tile

/-- The rows' product with a tile of weights. -/
def prod (h : Vec Ideal TTile .bf16) (w : Vec Ideal TSquare .bf16) : FVec Ideal TTile .f32 :=
  matmul (φ₁ := .bf16) (φ₂ := .bf16) dotW none h (shapeCast TSquare w casts_square) (constant TTile .f32 0x00000000#32)

/-- The mean of a chunk's squares over each lane's head: the squares are split in a rounded part and the rest. -/
def meanSq (t : FVec Ideal TLanes .f32) (bd : FVec Ideal TMix .bf16) : FVec Ideal TLanes .f32 :=
  addf (matmul dotMix none (truncf .bf16 (mulf t t) bits_lt) bd (constant TLanes .f32 0x00000000#32))
    (matmul dotMix none (truncf .bf16 (subf (mulf t t) (extf .f32 (truncf .bf16 (mulf t t) bits_lt) bits_lt)) bits_lt) bd
      (constant TLanes .f32 0x00000000#32))

/-- A chunk with each head divided by the root of its mean square, scaled by the gain. -/
def normed (t : FVec Ideal TLanes .f32) (gain : FVec Ideal TGain .f32) (bd : FVec Ideal TMix .bf16) : FVec Ideal TLanes .f32 :=
  mulf (mulf t (rsqrt (addf (meanSq t bd) (broadcast TLanes (Scalar.ofBits .f32 0x358637BD#32))))) (broadcastTo TLanes gain bcast_gain)

/-- The lanes of the first half of a head. -/
def firstHalf : IVec TLanes 1 :=
  cmpi .eq (andi (iota .tc TLanes 32 [1] iota_lanes) (broadcast TLanes 32#32)) (broadcast TLanes 0#32)

/-- A normed chunk with each head's halves rotated against one another. -/
def turned (u cosf sins : FVec Ideal TLanes .f32) : FVec Ideal TLanes .f32 :=
  addf (mulf u cosf)
    (mulf (select firstHalf (dynamicRotate 1 96#32 none u rotates_lanes) (dynamicRotate 1 32#32 none u rotates_lanes)) sins)

/-- The gain of a tile: the queries' for the first tiles, the keys' for the others. -/
def gainOf (first : BitVec 1) (gq gk : Vec Ideal TGain .f32) : FVec Ideal TGain .f32 :=
  Scalar.select first (shapeCast TGain gq casts_gain) (shapeCast TGain gk casts_gain)

/-- One chunk of the result. -/
def chunk (y : FVec Ideal TTile .f32) (gain : FVec Ideal TGain .f32) (cosf sins : Vec Ideal TLanes .f32) (bd : Vec Ideal TMix .bf16)
    (j : Nat) (hj : j < 8) : FVec Ideal TLanes .f32 :=
  turned (normed (extractStridedSlice TLanes ![0, 128 * j] y (slices_chunk j hj)) gain (shapeCast TMix bd casts_mix))
    (shapeCast TLanes cosf casts_lanes) (shapeCast TLanes sins casts_lanes)

/-! ## The stores -/

theorem inb_chunk (j : Nat) (hj : j < 8) (a : Fin 2) : (![0, 128 * j] : Fin 2 → Nat) a + TLanes.size a ≤ TTile.size a := by
  match a with
  | ⟨0, _⟩ => show 0 + 512 ≤ 512; omega
  | ⟨1, _⟩ => show 128 * j + 128 ≤ 1024; omega

/-- The columns of the `j`-th chunk. -/
abbrev chunkRect (j : Nat) (hj : j < 8) : Rect TTile := Rect.unit (s := TTile) ![0, 128 * j] TLanes.size (inb_chunk j hj)

/-- The store of one chunk. -/
def piece (y : FVec Ideal TTile .f32) (gain : FVec Ideal TGain .f32) (cosf sins : Vec Ideal TLanes .f32) (bd : Vec Ideal TMix .bf16)
    (j : Nat) (hj : j < 8) : View.Piece (Elt Ideal) TTile .f32 :=
  ⟨chunkRect j hj, chunk y gain cosf sins bd j hj⟩

/-- The eight stores of a tile. -/
def pieces (y : FVec Ideal TTile .f32) (gain : FVec Ideal TGain .f32) (cosf sins : Vec Ideal TLanes .f32) (bd : Vec Ideal TMix .bf16) :
    List (View.Piece (Elt Ideal) TTile .f32) :=
  [piece y gain cosf sins bd 7 (by decide), piece y gain cosf sins bd 6 (by decide), piece y gain cosf sins bd 5 (by decide),
   piece y gain cosf sins bd 4 (by decide), piece y gain cosf sins bd 3 (by decide), piece y gain cosf sins bd 2 (by decide),
   piece y gain cosf sins bd 1 (by decide), piece y gain cosf sins bd 0 (by decide)]

end Cert.Rope

end
-- ==== Proof.Rope.Spec.lean ====
/- The norm of a row, the norm of a head and the rotation of a head's halves, as plain functions of extended reals.

   The kernel takes a head's mean square as a product with a matrix of 1/64 and adds the (zero) rest of a split of the
   squares; it scales queries in their gain where the reference divides the rotated queries (`rotated_scaled`). -/
module

public import Idealize.ShloMosaic.Lib.ValueIdx
public import Idealize.ShloMosaic.PureOps.Ideal.Laws

@[expose] public section

noncomputable section

namespace Cert.Rope

open Idealize.ShloMosaic
open scoped BigOperators

/-- The norms' small constant. -/
abbrev eps : EReal := Ideal.ofBits .f32 0x358637BD#32
/-- The word of 1024, the length of a row. -/
abbrev w1024 : EReal := Ideal.ofBits .f32 0x44800000#32
/-- The word of 64, the length of a head. -/
abbrev w64 : EReal := Ideal.ofBits .f32 0x42800000#32
/-- The word of 8, the root of a head's length. -/
abbrev w8 : EReal := Ideal.ofBits .f32 0x41000000#32

theorem w1024_eq : w1024 = ((1024 : ℝ) : EReal) := by simp [w1024, Ideal.ofBits, Ideal.ieee]; norm_num; rw [← EReal.coe_mul]; norm_num
theorem w64_eq : w64 = ((64 : ℝ) : EReal) := by simp [w64, Ideal.ofBits, Ideal.ieee]; norm_num; rw [← EReal.coe_mul]; norm_num
theorem w8_eq : w8 = ((8 : ℝ) : EReal) := by simp [w8, Ideal.ofBits, Ideal.ieee]; norm_num; rw [← EReal.coe_mul]; norm_num

/-- The small constant is a positive real. -/
theorem eps_pos : ∃ e : ℝ, 0 < e ∧ eps = (e : EReal) := by
  refine ⟨_, ?_, by simp only [eps, Ideal.ofBits, Ideal.ieee]; rfl⟩
  simp

/-- The reciprocal root of the mean square of a vector whose length has the word `n`. -/
def invRoot {k : Nat} (n : EReal) (f : Fin k → EReal) : EReal := Ideal.rsqrt (Ideal.div (∑ i, f i * f i) n + eps)

/-- Division by a positive real is multiplication by its reciprocal. -/
theorem div_real (x : EReal) {c : ℝ} (hc : 0 < c) : Ideal.div x (c : EReal) = x * ((c⁻¹ : ℝ) : EReal) := by
  unfold Ideal.div
  rw [if_neg (by exact_mod_cast hc.ne'), EReal.coe_inv]

/-- A sum times a nonnegative real, term by term. -/
theorem sum_mul_real {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- A finite number is a real. -/
theorem exists_real {x : EReal} (h : x ≠ ⊤ ∧ x ≠ ⊥) : ∃ a : ℝ, x = (a : EReal) := ⟨x.toReal, (EReal.coe_toReal h.1 h.2).symm⟩

/-- A finite sum of reals is real. -/
theorem sum_real {ι : Type} (s : Finset ι) (f : ι → EReal) (hf : ∀ i, ∃ a : ℝ, f i = (a : EReal)) : ∃ a : ℝ, ∑ i ∈ s, f i = (a : EReal) := by
  classical
  choose g hg using hf
  exact ⟨∑ i ∈ s, g i, by simp only [hg]; exact (map_sum (⟨⟨Real.toEReal, rfl⟩, EReal.coe_add⟩ : ℝ →+ EReal) g s).symm⟩

/-- The reciprocal root of a vector of reals is real. -/
theorem invRoot_real {k : Nat} {n : ℝ} (hn : 0 < n) (f : Fin k → EReal) (hf : ∀ i, ∃ a : ℝ, f i = (a : EReal)) :
    ∃ a : ℝ, invRoot (n : EReal) f = (a : EReal) := by
  choose g hg using hf
  obtain ⟨e, he, hee⟩ := eps_pos
  have hs : ∑ i, f i * f i = ((∑ i, g i * g i : ℝ) : EReal) := by
    simp only [hg, ← EReal.coe_mul]
    exact (map_sum (⟨⟨Real.toEReal, rfl⟩, EReal.coe_add⟩ : ℝ →+ EReal) (fun i => g i * g i) Finset.univ).symm
  have h0 : 0 ≤ ∑ i, g i * g i := Finset.sum_nonneg fun i _ => mul_self_nonneg _
  have hpos : 0 < (∑ i, g i * g i) * n⁻¹ + e := by positivity
  refine ⟨(Real.sqrt ((∑ i, g i * g i) * n⁻¹ + e))⁻¹, ?_⟩
  unfold invRoot
  rw [div_real _ hn, hs, hee, ← EReal.coe_mul, ← EReal.coe_add, Ideal.rsqrt_coe, if_neg (not_lt.2 hpos.le), if_neg hpos.ne']

/-! ## Heads -/

/-- Column `col` of a row `f`, divided by the root of its head's mean square, scaled by the gain. -/
def headNorm (f γ : Nat → EReal) (col : Nat) : EReal :=
  f col * invRoot w64 (fun d : Fin 64 => f (64 * (col / 64) + d.val)) * γ (col % 64)

/-- The halves of every head of a row `u` rotated against one another, by the cosines `c` and sines `s` of the row's position. -/
def rotated (u c s : Nat → EReal) (col : Nat) : EReal :=
  if col % 64 < 32 then u col * c (col % 32) - u (col + 32) * s (col % 32) else u col * c (col % 32) + u (col - 32) * s (col % 32)

/-- Scaling the gain by 1/8 divides the rotated heads by 8. -/
theorem rotated_scaled (f γ c s : Nat → EReal) (col : Nat) :
    rotated (headNorm f fun d => γ d * ((8⁻¹ : ℝ) : EReal)) c s col = Ideal.div (rotated (headNorm f γ) c s col) w8 := by
  have hn : ∀ col, headNorm f (fun d => γ d * ((8⁻¹ : ℝ) : EReal)) col = headNorm f γ col * ((8⁻¹ : ℝ) : EReal) := fun col => by
    unfold headNorm; rw [mul_assoc, mul_assoc, mul_assoc]
  have hd : ∀ x y : EReal, (x + y) * ((8⁻¹ : ℝ) : EReal) = x * ((8⁻¹ : ℝ) : EReal) + y * ((8⁻¹ : ℝ) : EReal) := fun x y =>
    EReal.right_distrib_of_nonneg_of_ne_top (EReal.coe_nonneg.mpr (by norm_num)) (EReal.coe_ne_top _) _ _
  rw [w8_eq, div_real _ (by norm_num)]
  unfold rotated
  split
  · rw [hn, hn, sub_eq_add_neg, sub_eq_add_neg, hd, EReal.neg_mul, mul_right_comm, mul_right_comm (headNorm f γ (col + 32))]
  · rw [hn, hn, hd, mul_right_comm, mul_right_comm (headNorm f γ (col - 32))]

/-- The split mean of the squares of two heads is the mean of the lane's own head. -/
theorem split_mean (t : Fin 128 → EReal) (ht : ∀ l, ∃ a : ℝ, t l = (a : EReal)) (l : Fin 128) (bd : Fin 128 → EReal)
    (hbd : ∀ l' : Fin 128, bd l' = if l'.val / 64 = l.val / 64 then ((64⁻¹ : ℝ) : EReal) else 0) :
    (∑ l', t l' * t l' * bd l') + (∑ l', (t l' * t l' - t l' * t l') * bd l')
      = Ideal.div (∑ d : Fin 64, t ⟨64 * (l.val / 64) + d.val, by omega⟩ * t ⟨64 * (l.val / 64) + d.val, by omega⟩) w64 := by
  have hz : ∀ l', t l' * t l' - t l' * t l' = 0 := fun l' => by
    obtain ⟨a, ha⟩ := ht l'
    rw [ha, ← EReal.coe_mul, ← EReal.coe_sub, sub_self, EReal.coe_zero]
  have hl := l.isLt
  have hsum : ∀ f : Fin 128 → EReal, ∑ l, f l = ∑ d : Fin 64, f ⟨d.val, by omega⟩ + ∑ d : Fin 64, f ⟨64 + d.val, by omega⟩ :=
    fun f => Fin.sum_univ_add (a := 64) (b := 64) f
  rw [Finset.sum_eq_zero (f := fun l' => (t l' * t l' - t l' * t l') * bd l') fun l' _ => by rw [hz, zero_mul], add_zero, w64_eq,
    div_real _ (by norm_num), sum_mul_real _ _ (by norm_num), hsum]
  have h0 : ∀ d : Fin 64, d.val / 64 = 0 := fun d => by have := d.isLt; omega
  have h1 : ∀ d : Fin 64, (64 + d.val) / 64 = 1 := fun d => by have := d.isLt; omega
  simp only [hbd, h0, h1]
  rcases (by omega : l.val / 64 = 0 ∨ l.val / 64 = 1) with h | h
  · simp only [h, if_true, Nat.one_ne_zero, if_false, mul_zero, Finset.sum_const_zero, add_zero, zero_add]
  · simp only [h, if_true, Nat.zero_ne_one, if_false, mul_zero, Finset.sum_const_zero, zero_add, mul_one]

end Cert.Rope

end
-- ==== Proof.Rope.BodyAt.lean ====
/- The projection's body read at an index. -/
module

public import proofs.«01_k».proof.Proof.Rope.Body
public import proofs.«01_k».proof.Proof.Rope.Spec
public import Idealize.ShloMosaic.Lib.WordCmp
public import Idealize.ShloMosaic.Lib.ValueIdxCoords
public import Idealize.ShloMosaic.Lib.ValueLayoutCasts
public import Idealize.ShloMosaic.Lib.Pipeline.ValueKit.Tiles

@[expose] public section

noncomputable section

namespace Cert.Rope

open Idealize.ShloMosaic Idealize.ShloMosaic.ValueIdx Idealize.ShloMosaic.WordCmp
open scoped BigOperators

/-! ## The rows and their product -/

/-- A row's sum of squares. -/
theorem sumSq_apply (x : FVec Ideal TTile .f32) (r : Fin 512) :
    shapeCast TCol (multiReduction .add [1] TVec (mulf x x) 0x00000000#32 reduces_tile (.inl rfl) rfl) casts_vec_col (ix2 r u0)
      = ∑ k : Fin 1024, x (ix2 r k) * x (ix2 r k) := by
  rw [shapeCast_a_a1_apply]
  refine (Ideal.multiReduction_add_single (mulf x x) 0x00000000#32 reduces_tile (.inl rfl) rfl (ix1 r)).trans ?_
  refine Finset.sum_congr rfl fun k _ => ?_
  refine congrArg (fun i : TTile.Idx => x i * x i) ?_
  funext a; match a with | ⟨0, _⟩ => rfl | ⟨1, _⟩ => rfl

theorem rows_apply (x : Vec Ideal TTile .f32) (g : Vec Ideal TRow .f32) (r : Fin 512) (k : Fin 1024) :
    rows x g (ix2 r k) = x (ix2 r k) * invRoot w1024 (fun k : Fin 1024 => x (ix2 r k)) * g (ix2 u0 k) := by
  unfold rows
  rw [shapeCast_self, shapeCast_self]
  show x (ix2 r k) * broadcastTo TTile _ bcast_col (ix2 r k) * broadcastTo TTile g bcast_row (ix2 r k) = _
  rw [broadcastTo_apply _ bcast_col (ix2 r k) (ix2 r u0) (fun a => by match a with | ⟨0, _⟩ => rfl | ⟨1, _⟩ => rfl),
    broadcastTo_apply g bcast_row (ix2 r k) (ix2 u0 k) (fun a => by match a with | ⟨0, _⟩ => rfl | ⟨1, _⟩ => rfl)]
  have e := sumSq_apply x r
  generalize shapeCast TCol (multiReduction .add [1] TVec (mulf (F := Ideal) (φ := .f32) x x) 0x00000000#32 reduces_tile (.inl rfl) rfl) casts_vec_col = Y at e ⊢
  show x (ix2 r k) * Ideal.rsqrt (Ideal.div (Y (ix2 r u0)) w1024 + eps) * g (ix2 u0 k) = _
  rw [e]; rfl

theorem prod_apply (h : Vec Ideal TTile .bf16) (w : Vec Ideal TSquare .bf16) (r : Fin 512) (c : Fin 1024) :
    prod h w (ix2 r c) = ∑ k : Fin 1024, h (ix2 r k) * w (ix2 k c) := by
  unfold prod
  rw [shapeCast_self]
  refine (Ideal.matmul_constant_zero_apply (φ₁ := .bf16) (φ₂ := .bf16) dotW none h w _).trans ?_
  refine (Equiv.sum_comp (contrEquiv1 dotW 1024 rfl rfl).symm _).symm.trans (Finset.sum_congr rfl fun k _ => ?_)
  refine congrArg₂ (fun a b => a * b) (congrArg h ?_) (congrArg w ?_)
  · funext a; match a with | ⟨0, _⟩ => rfl | ⟨1, _⟩ => rfl
  · funext a; match a with | ⟨0, _⟩ => rfl | ⟨1, _⟩ => rfl

/-! ## A chunk -/

theorem dotMix_apply (p : FVec Ideal TLanes .bf16) (bd : FVec Ideal TMix .bf16) (r : Fin 512) (l : Fin 128) :
    matmul dotMix none p bd (constant TLanes .f32 0x00000000#32) (ix2 r l) = ∑ k : Fin 128, p (ix2 r k) * bd (ix2 k l) := by
  refine (Ideal.matmul_constant_zero_apply _ none _ _ _).trans ?_
  refine (Equiv.sum_comp (contrEquiv1 dotMix 128 rfl rfl).symm _).symm.trans (Finset.sum_congr rfl fun k _ => ?_)
  refine congrArg₂ (fun a b => a * b) (congrArg p ?_) (congrArg bd ?_)
  · funext a; match a with | ⟨0, _⟩ => rfl | ⟨1, _⟩ => rfl
  · funext a; match a with | ⟨0, _⟩ => rfl | ⟨1, _⟩ => rfl

theorem meanSq_apply (t : FVec Ideal TLanes .f32) (bd : FVec Ideal TMix .bf16) (r : Fin 512) (l : Fin 128) :
    meanSq t bd (ix2 r l) = (∑ k : Fin 128, t (ix2 r k) * t (ix2 r k) * bd (ix2 k l))
      + ∑ k : Fin 128, (t (ix2 r k) * t (ix2 r k) - t (ix2 r k) * t (ix2 r k)) * bd (ix2 k l) := by
  unfold meanSq
  show matmul dotMix none _ bd (constant TLanes .f32 0x00000000#32) (ix2 r l) + matmul dotMix none _ bd (constant TLanes .f32 0x00000000#32) (ix2 r l) = _
  rw [dotMix_apply, dotMix_apply]
  rfl

theorem normed_apply (t : FVec Ideal TLanes .f32) (gain : FVec Ideal TGain .f32) (bd : FVec Ideal TMix .bf16) (r : Fin 512) (l : Fin 128) :
    normed t gain bd (ix2 r l) = t (ix2 r l) * Ideal.rsqrt (meanSq t bd (ix2 r l) + eps) * gain (ix2 u0 l) := by
  unfold normed
  show t (ix2 r l) * Ideal.rsqrt (meanSq t bd (ix2 r l) + eps) * broadcastTo TLanes gain bcast_gain (ix2 r l) = _
  rw [broadcastTo_apply gain bcast_gain (ix2 r l) (ix2 u0 l) (fun a => by match a with | ⟨0, _⟩ => rfl | ⟨1, _⟩ => rfl)]

/-- The lane's bit 5 tells the half of its head. -/
theorem half_word : ∀ l : Fin 128, IntOp.cmpi .eq (IntOp.andi (BitVec.ofNat 32 l.val) 32#32) 0#32 = BitVec.ofBool (decide (l.val % 64 < 32)) := by
  decide

theorem firstHalf_apply (r : Fin 512) (l : Fin 128) : firstHalf (ix2 r l) = BitVec.ofBool (decide (l.val % 64 < 32)) := by
  unfold firstHalf
  show IntOp.cmpi .eq (IntOp.andi (iota .tc TLanes 32 [1] iota_lanes (ix2 r l)) 32#32) 0#32 = _
  rw [iota_single_apply]
  exact half_word l

/-- A select by a decided condition. -/
theorem select_dec {α : Type} (p : Prop) [Decidable p] (a b : α) : Scalar.select (BitVec.ofBool (decide p)) a b = if p then a else b := by
  show (if BitVec.ofBool (decide p) = 1#1 then a else b) = _
  by_cases h : p <;> simp [h]

/-- A rotation of the lanes by a word, read at a lane. -/
theorem rotate_apply (n : BitVec 32) (u : FVec Ideal TLanes .f32) (r : Fin 512) (l l' : Fin 128) (h : (l.val + 128 - n.toNat % 128) % 128 = l'.val) :
    dynamicRotate 1 n none u rotates_lanes (ix2 r l) = u (ix2 r l') := by
  refine congrArg u ?_
  funext a
  match a with
  | ⟨0, _⟩ => rfl
  | ⟨1, _⟩ => exact Fin.ext h

theorem turned_apply (u cosf sins : FVec Ideal TLanes .f32) (r : Fin 512) (l : Fin 128) :
    turned u cosf sins (ix2 r l) = u (ix2 r l) * cosf (ix2 r l)
      + (if h : l.val % 64 < 32 then u (ix2 r ⟨l.val + 32, by omega⟩) else u (ix2 r ⟨l.val - 32, by omega⟩)) * sins (ix2 r l) := by
  have hl := l.isLt
  unfold turned
  show u (ix2 r l) * cosf (ix2 r l) + Scalar.select (firstHalf (ix2 r l)) (dynamicRotate 1 96#32 none u rotates_lanes (ix2 r l))
    (dynamicRotate 1 32#32 none u rotates_lanes (ix2 r l)) * sins (ix2 r l) = _
  rw [firstHalf_apply, select_dec]
  by_cases h : l.val % 64 < 32
  · rw [if_pos h, dif_pos h]
    rw [rotate_apply 96#32 u r l ⟨l.val + 32, by omega⟩ (by show (l.val + 128 - 96 % 128) % 128 = l.val + 32; omega)]
  · rw [if_neg h, dif_neg h]
    rw [rotate_apply 32#32 u r l ⟨l.val - 32, by omega⟩ (by show (l.val + 128 - 32 % 128) % 128 = l.val - 32; omega)]

/-- A chunk's entry is the tile's. -/
theorem slice_apply (y : FVec Ideal TTile .f32) (j : Nat) (hj : j < 8) (r : Fin 512) (l : Fin 128) :
    extractStridedSlice TLanes ![0, 128 * j] y (slices_chunk j hj) (ix2 r l) = y (ix2 r ⟨128 * j + l.val, by omega⟩) := by
  refine extractStridedSlice_apply _ y _ (ix2 r l) _ fun a => ?_
  match a with
  | ⟨0, _⟩ => exact (Nat.zero_add _).symm
  | ⟨1, _⟩ => rfl

/-! ## A tile -/

/-- What the inputs of a rotated tile hold: the product's rows `f` (finite), the gain `γ` of a head, the cosines `c` and
    sines `s` of each row's position, and the matrix that averages over a head. -/
structure TileOf (y : FVec Ideal TTile .f32) (gain : FVec Ideal TGain .f32) (cosf sins : Vec Ideal TLanes .f32) (bd : Vec Ideal TMix .bf16)
    (f : Nat → Nat → EReal) (γ : Nat → EReal) (c s : Nat → Nat → EReal) : Prop where
  tile : ∀ (r : Fin 512) (k : Fin 1024), y (ix2 r k) = f r.val k.val
  real : ∀ (r : Fin 512) (k : Fin 1024), ∃ a : ℝ, f r.val k.val = (a : EReal)
  gain : ∀ l : Fin 128, gain (ix2 u0 l) = γ (l.val % 64)
  cosf : ∀ (r : Fin 512) (l : Fin 128), cosf (ix2 r l) = c r.val (l.val % 32)
  sins : ∀ (r : Fin 512) (l : Fin 128), sins (ix2 r l) = if l.val % 64 < 32 then -s r.val (l.val % 32) else s r.val (l.val % 32)
  mix : ∀ l' l : Fin 128, bd (ix2 l' l) = if l'.val / 64 = l.val / 64 then ((64⁻¹ : ℝ) : EReal) else 0

section
variable {y : FVec Ideal TTile .f32} {gain : FVec Ideal TGain .f32} {cosf sins : Vec Ideal TLanes .f32} {bd : Vec Ideal TMix .bf16}
variable {f : Nat → Nat → EReal} {γ : Nat → EReal} {c s : Nat → Nat → EReal}

/-- A normed chunk's entry. -/
theorem TileOf.normed (T : TileOf y gain cosf sins bd f γ c s) (j : Nat) (hj : j < 8) (r : Fin 512) (l : Fin 128) :
    normed (extractStridedSlice TLanes ![0, 128 * j] y (slices_chunk j hj)) gain bd (ix2 r l) = headNorm (f r.val) γ (128 * j + l.val) := by
  have hl := l.isLt
  have ht : ∀ l : Fin 128, extractStridedSlice TLanes ![0, 128 * j] y (slices_chunk j hj) (ix2 r l) = f r.val (128 * j + l.val) := fun l => by
    rw [slice_apply y j hj, T.tile]
  generalize extractStridedSlice TLanes ![0, 128 * j] y (slices_chunk j hj) = t at ht ⊢
  rw [normed_apply, meanSq_apply, split_mean (fun k => t (ix2 r k)) (fun k => by rw [ht]; exact T.real r ⟨128 * j + k.val, by omega⟩) l
    (fun k => bd (ix2 k l)) (fun k => T.mix k l), T.gain]
  unfold headNorm invRoot
  rw [ht, show (128 * j + l.val) % 64 = l.val % 64 by omega]
  simp only [ht]
  have hd : ∀ d : Nat, 128 * j + (64 * (l.val / 64) + d) = 64 * ((128 * j + l.val) / 64) + d := fun d => by omega
  simp only [hd]

/-- A chunk's entry. -/
theorem TileOf.chunk (T : TileOf y gain cosf sins bd f γ c s) (j : Nat) (hj : j < 8) (r : Fin 512) (l : Fin 128) :
    chunk y gain cosf sins bd j hj (ix2 r l) = rotated (headNorm (f r.val) γ) (c r.val) (s r.val) (128 * j + l.val) := by
  have hl := l.isLt
  unfold Rope.chunk
  rw [turned_apply, shapeCast_self, shapeCast_self, shapeCast_self, T.cosf, T.sins, T.normed j hj r l]
  unfold rotated
  rw [show (128 * j + l.val) % 64 = l.val % 64 by omega, show (128 * j + l.val) % 32 = l.val % 32 by omega]
  by_cases h : l.val % 64 < 32
  · rw [dif_pos h, if_pos h, if_pos h, T.normed j hj, mul_neg, ← sub_eq_add_neg]; rfl
  · rw [dif_neg h, if_neg h, if_neg h, T.normed j hj, show 128 * j + (l.val - 32) = 128 * j + l.val - 32 by omega]

/-- What the eight stores leave in the tile. -/
theorem TileOf.stores (T : TileOf y gain cosf sins bd f γ c s) (r : Fin 512) (k : Fin 1024) :
    View.canon (pieces y gain cosf sins bd) (ix2 r k) = rotated (headNorm (f r.val) γ) (c r.val) (s r.val) k.val := by
  have hk := k.isLt
  refine View.canon_apply_of_pieces (Val := Elt Ideal) (e := .f32)
    (fun i : TTile.Idx => rotated (headNorm (f (i 0).val) γ) (c (i 0).val) (s (i 0).val) (i 1).val) _ ?_ (ix2 r k) ?_
  · intro p hp
    obtain ⟨j, hj, rfl⟩ : ∃ (j : Nat) (hj : j < 8), p = piece y gain cosf sins bd j hj := by
      simp only [pieces, List.mem_cons, List.not_mem_nil, or_false] at hp
      rcases hp with h | h | h | h | h | h | h | h <;> exact ⟨_, _, h⟩
    intro x
    obtain ⟨r, l, rfl⟩ : ∃ (r : Fin 512) (l : Fin 128), x = ix2 r l := ⟨x 0, x 1, eq_ix2 x⟩
    have e0 : (((chunkRect j hj).emb (ix2 r l)) 0).val = r.val := (Rect.idx_unit_val _ _ _ _ 0).trans (Nat.zero_add _)
    have e1 : (((chunkRect j hj).emb (ix2 r l)) 1).val = 128 * j + l.val := Rect.idx_unit_val _ _ _ _ 1
    refine (T.chunk j hj r l).trans ?_
    show _ = rotated (headNorm (f (((chunkRect j hj).emb (ix2 r l)) 0).val) γ) (c (((chunkRect j hj).emb (ix2 r l)) 0).val)
      (s (((chunkRect j hj).emb (ix2 r l)) 0).val) (((chunkRect j hj).emb (ix2 r l)) 1).val
    rw [e0, e1]
  · have hj : k.val / 128 < 8 := by omega
    refine ⟨piece y gain cosf sins bd (k.val / 128) hj, ?_, ?_⟩
    · unfold pieces
      generalize k.val / 128 = q at hj ⊢
      interval_cases q <;> simp
    · refine (Rect.mem_set_unit (inb := inb_chunk _ hj)).2 fun a => ?_
      match a with
      | ⟨0, _⟩ => exact ⟨Nat.zero_le _, by have := r.isLt; show r.val < 0 + 512; omega⟩
      | ⟨1, _⟩ => exact ⟨by show 128 * _ ≤ k.val; omega, by show k.val < 128 * _ + 128; omega⟩

end

end Cert.Rope

end
-- ==== Proof.Proj.Out.lean ====
/- The projection: what one grid point's body leaves in its output block and in the scratch that carries the rows. -/
module

public import proofs.«01_k».proof.Proof.Rope.BodyAt
public import proofs.«01_k».proof.Proof.Gen.ProjIdeal.Value

@[expose] public section

noncomputable section

namespace Cert.ProjIdeal.Out

open Cert.ProjIdeal Cert.ProjIdeal.Gen Idealize.ShloMosaic Idealize.ShloMosaic.ValueIdx

theorem hz : (![0, 0] : Fin 2 → Nat) = fun _ => 0 := funext fun a => by fin_cases a <;> rfl

section
variable (c : Dev nD) (i : grid0.Coords)
variable (a2 : Memref sig .tc .vmem S512x1024 .f32) (h2 : a2.IsWhole) (a3 : Memref sig .tc .vmem S1x1024 .f32) (h3 : a3.IsWhole)
variable (a4 : Memref sig .tc .vmem S1024x1024 .bf16) (h4 : a4.IsWhole) (a5 : Memref sig .tc .vmem S1x128 .f32) (h5 : a5.IsWhole)
variable (a6 : Memref sig .tc .vmem S1x128 .f32) (h6 : a6.IsWhole) (a7 : Memref sig .tc .vmem S512x128 .f32) (h7 : a7.IsWhole)
variable (a8 : Memref sig .tc .vmem S512x128 .f32) (h8 : a8.IsWhole) (a9 : Memref sig .tc .vmem S128x128 .bf16) (h9 : a9.IsWhole)
variable (a10 : Memref sig .tc .vmem S512x1024 .f32) (h10 : a10.IsWhole) (a11 : Memref sig .tc .vmem S512x1024 .bf16) (h11 : a11.IsWhole)
variable (x0 : Vec Ideal S512x1024 .f32) (x1 : Vec Ideal S1x1024 .f32) (x2 : Vec Ideal S1024x1024 .bf16) (x3 : Vec Ideal S1x128 .f32)
variable (x4 : Vec Ideal S1x128 .f32) (x5 : Vec Ideal S512x128 .f32) (x6 : Vec Ideal S512x128 .f32) (x7 : Vec Ideal S128x128 .bf16)
variable (xs : Vec Ideal S512x1024 .bf16)

/-- The first tile of a block of rows leaves the normalised rows in the scratch. -/
theorem scratch_A (hc0 : cond0_0 i) (hc1 : cond0_1 i) (hc2 : ¬cond0_2 i) :
    sout0_A_0 c i a2 h2 a3 h3 a4 h4 a5 h5 a6 h6 a7 h7 a8 h8 a9 h9 a10 h10 a11 h11 hc0 hc1 hc2 x0 x1 x2 x3 x4 x5 x6 x7 = Rope.rows x0 x1 := by
  unfold sout0_A_0
  rw [View.read_writes_eq_canon _ _ _ (scover0_A_0 c i a2 h2 a3 h3 a4 h4 a5 h5 a6 h6 a7 h7 a8 h8 a9 h9 a10 h10 a11 h11 hc0 hc1 hc2 x0 x1 x2 x3 x4 x5 x6 x7)]
  unfold kernelRun0_A
  dsimp only
  sl_unfold_words
  rw [View.canon_unit_zero (S := S512x1024) hz]
  simp only [View.readAt_eq_ld, h2.read_unread, h3.read_unread, View.ld_unit_zero (S := S512x1024) hz, View.ld_unit_zero (S := S1x1024) hz]
  rfl

/-- A tile that needs no head norm is the product. -/
theorem out_C (hc0 : ¬cond0_0 i) (hc1 : ¬cond0_1 i) (hc2 : cond0_2 i) :
    out0_C_8 c i a2 h2 a3 h3 a4 h4 a5 h5 a6 h6 a7 h7 a8 h8 a9 h9 a10 h10 a11 h11 hc0 hc1 hc2 x0 x1 x2 x3 x4 x5 x6 x7 xs = Rope.prod xs x2 := by
  unfold out0_C_8
  rw [View.read_writes_eq_canon _ _ _ (cover0_C_8 c i a2 h2 a3 h3 a4 h4 a5 h5 a6 h6 a7 h7 a8 h8 a9 h9 a10 h10 a11 h11 hc0 hc1 hc2 x0 x1 x2 x3 x4 x5 x6 x7 xs)]
  unfold kernelRun0_C
  dsimp only
  rw [View.canon_unit_zero (S := S512x1024) hz]
  simp only [View.readAt_eq_ld, h4.read_unread, h11.read_unread, View.ld_unit_zero (S := S512x1024) hz, View.ld_unit_zero (S := S1024x1024) hz]
  rfl

/-- A normed tile, from the rows in the scratch. -/
theorem out_B (hc0 : ¬cond0_0 i) (hc1 : cond0_1 i) (hc2 : ¬cond0_2 i) :
    out0_B_8 c i a2 h2 a3 h3 a4 h4 a5 h5 a6 h6 a7 h7 a8 h8 a9 h9 a10 h10 a11 h11 hc0 hc1 hc2 x0 x1 x2 x3 x4 x5 x6 x7 xs
      = View.canon (Rope.pieces (Rope.prod xs x2) (Rope.gainOf (Scalar.cmpi .slt (BitVec.ofNat 32 (i 1).val) 3#32) x3 x4) x5 x6 x7) := by
  unfold out0_B_8
  rw [View.read_writes_eq_canon _ _ _ (cover0_B_8 c i a2 h2 a3 h3 a4 h4 a5 h5 a6 h6 a7 h7 a8 h8 a9 h9 a10 h10 a11 h11 hc0 hc1 hc2 x0 x1 x2 x3 x4 x5 x6 x7 xs)]
  unfold kernelRun0_B
  dsimp only
  sl_unfold_words
  simp only [View.readAt_eq_ld, h4.read_unread, h5.read_unread, h6.read_unread, h7.read_unread, h8.read_unread, h9.read_unread, h11.read_unread, View.ld_unit_zero (S := S512x1024) hz, View.ld_unit_zero (S := S1024x1024) hz, View.ld_unit_zero (S := S1x128) hz, View.ld_unit_zero (S := S512x128) hz, View.ld_unit_zero (S := S128x128) hz]
  rfl

/-- The first tile of a block of rows. -/
theorem out_A (hc0 : cond0_0 i) (hc1 : cond0_1 i) (hc2 : ¬cond0_2 i) :
    out0_A_8 c i a2 h2 a3 h3 a4 h4 a5 h5 a6 h6 a7 h7 a8 h8 a9 h9 a10 h10 a11 h11 hc0 hc1 hc2 x0 x1 x2 x3 x4 x5 x6 x7
      = View.canon (Rope.pieces (Rope.prod (Rope.rows x0 x1) x2) (Rope.gainOf (Scalar.cmpi .slt (BitVec.ofNat 32 (i 1).val) 3#32) x3 x4) x5 x6 x7) := by
  unfold out0_A_8
  rw [View.read_writes_eq_canon _ _ _ (cover0_A_8 c i a2 h2 a3 h3 a4 h4 a5 h5 a6 h6 a7 h7 a8 h8 a9 h9 a10 h10 a11 h11 hc0 hc1 hc2 x0 x1 x2 x3 x4 x5 x6 x7)]
  unfold kernelRun0_A
  dsimp only
  sl_unfold_words
  simp only [View.readCov_unit_zero (S := S512x1024) _ hz]
  simp only [View.readAt_eq_ld, h4.read_unread, h5.read_unread, h6.read_unread, h7.read_unread, h8.read_unread, h9.read_unread, h2.read_unread, h3.read_unread, View.ld_unit_zero (S := S512x1024) hz, View.ld_unit_zero (S := S1x1024) hz, View.ld_unit_zero (S := S1024x1024) hz, View.ld_unit_zero (S := S1x128) hz, View.ld_unit_zero (S := S512x128) hz, View.ld_unit_zero (S := S128x128) hz]
  rfl

end

end Cert.ProjIdeal.Out

end
-- ==== Proof.Rope.Layer.lean ====
/- The projection of a block of rows onto queries, keys and values, as a plain function of row and column. -/
module

public import proofs.«01_k».proof.Proof.Rope.Spec

@[expose] public section

noncomputable section

namespace Cert.Rope

open Idealize.ShloMosaic
open scoped BigOperators

/-- The angle of position `p` and pair `d` of a head. -/
def angle (p d : Nat) : EReal :=
  FloatOps.mulf (F := Ideal) (φ := .f32) (FloatOps.sitofp .f32 (BitVec.ofNat 32 p))
    (FloatOps.hostPowf (FloatOps.ofBits .f32 0x461C4000#32)
      (FloatOps.hostDivf (FloatOps.hostNegf (FloatOps.sitofp .f32 (BitVec.ofNat 32 d))) (FloatOps.ofBits .f32 0x42000000#32)))

def cosOf (p d : Nat) : EReal := FloatOps.hostUnary (F := Ideal) (φ := .f32) .cos (angle p d)
def sinOf (p d : Nat) : EReal := FloatOps.hostUnary (F := Ideal) (φ := .f32) .sin (angle p d)

/-- An entry of a normalised row. -/
def hidden (x : Nat → Nat → EReal) (g : Nat → EReal) (R k : Nat) : EReal :=
  x R k * invRoot w1024 (fun k : Fin 1024 => x R k.val) * g k

/-- An entry of the product with the weights. -/
def linear (x : Nat → Nat → EReal) (g : Nat → EReal) (w : Nat → Nat → EReal) (R col : Nat) : EReal :=
  ∑ k : Fin 1024, hidden x g R k.val * w k.val col

/-- An entry of the product with each head of it normed and rotated. -/
def turnedAt (y : Nat → EReal) (γ : Nat → EReal) (p col : Nat) : EReal := rotated (headNorm y γ) (cosOf p) (sinOf p) col

/-- An entry of the layer's result: queries, keys, values. -/
def layerAt (y : Nat → EReal) (γq γk : Nat → EReal) (p col : Nat) : EReal :=
  if col < 3072 then Ideal.div (turnedAt y γq p col) w8 else if col < 6144 then turnedAt y γk p col else y col

/-- A product of finite rows and weights is finite. -/
theorem linear_real (x : Nat → Nat → EReal) (g : Nat → EReal) (w : Nat → Nat → EReal) (R col : Nat)
    (hx : ∀ k, ∃ a : ℝ, x R k = (a : EReal)) (hg : ∀ k, ∃ a : ℝ, g k = (a : EReal)) (hw : ∀ k, ∃ a : ℝ, w k col = (a : EReal)) :
    ∃ a : ℝ, linear x g w R col = (a : EReal) := by
  refine sum_real _ _ fun k => ?_
  obtain ⟨a, ha⟩ := hx k.val
  obtain ⟨b, hb⟩ := hg k.val
  obtain ⟨d, hd⟩ := hw k.val
  obtain ⟨r, hr⟩ := invRoot_real (n := 1024) (by norm_num) (fun k : Fin 1024 => x R k.val) fun k => hx k.val
  refine ⟨a * r * b * d, ?_⟩
  unfold hidden
  rw [w1024_eq, hr, ha, hb, hd, EReal.coe_mul, EReal.coe_mul, EReal.coe_mul]

/-- A head's norm does not see a shift of the row by whole tiles. -/
theorem headNorm_shift (y γ : Nat → EReal) (j col : Nat) : headNorm (fun k => y (1024 * j + k)) γ col = headNorm y γ (1024 * j + col) := by
  unfold headNorm
  rw [show (1024 * j + col) % 64 = col % 64 by omega]
  have hd : ∀ d : Nat, 64 * ((1024 * j + col) / 64) + d = 1024 * j + (64 * (col / 64) + d) := fun d => by omega
  simp only [hd]

/-- Nor does the rotation. -/
theorem rotated_shift (u c s : Nat → EReal) (j col : Nat) : rotated (fun k => u (1024 * j + k)) c s col = rotated u c s (1024 * j + col) := by
  unfold rotated
  rw [show (1024 * j + col) % 64 = col % 64 by omega, show (1024 * j + col) % 32 = col % 32 by omega]
  by_cases h : col % 64 < 32
  · rw [if_pos h, if_pos h]; dsimp only; rw [show 1024 * j + (col + 32) = 1024 * j + col + 32 by omega]
  · rw [if_neg h, if_neg h]; dsimp only; rw [show 1024 * j + (col - 32) = 1024 * j + col - 32 by omega]

theorem turnedAt_shift (y γ : Nat → EReal) (j p col : Nat) :
    rotated (headNorm (fun k => y (1024 * j + k)) γ) (cosOf p) (sinOf p) col = turnedAt y γ p (1024 * j + col) := by
  rw [show headNorm (fun k => y (1024 * j + k)) γ = fun k => headNorm y γ (1024 * j + k) from funext (headNorm_shift y γ j)]
  exact rotated_shift _ _ _ j col

end Cert.Rope

end
-- ==== Proof.Proj.Host.lean ====
/- The projection: what the kernel's host code hands its windows. -/
module

public import proofs.«01_k».proof.Proof.Rope.Layer
public import proofs.«01_k».proof.Proof.Rope.BodyAt
public import proofs.«01_k».proof.Proof.Gen.ProjIdeal.Value

@[expose] public section

noncomputable section

namespace Cert.ProjIdeal.Out

open Cert.ProjIdeal Cert.ProjIdeal.Gen Idealize.ShloMosaic Idealize.ShloMosaic.ValueIdx Idealize.ShloMosaic.TcCoe

variable (m : (ℓ : Loc nD τ sig) → Buf (Elt Ideal) ℓ) (c : Dev nD)

/-! ## Weights and gains -/

/-- The weights reach the kernel as launched. -/
theorem v43_eq : (V m c main_v43 : S1024x9216.Idx → EReal) = m ((c : Thread nD τ).loc main_arg2) := by
  rfl

/-- A gain of the rows, as a row. -/
theorem asRow_apply (g : S1024.Idx → EReal) (k : Fin 1024) : shapeCast S1x1024 g shapeCasts_S1024_S1x1024 (ix2 u0 k) = g (ix1 k) := by
  refine shapeCast_apply _ _ (ix2 u0 k) (ix1 k) ?_
  rw [Shape.rowMajor_val_one, Shape.rowMajor_val_two]
  show k.val = 0 * 1024 + k.val
  omega

/-- The rows' gain, as a row. -/
theorem v44_apply (k : Fin 1024) : (V m c main_v44 : S1x1024.Idx → EReal) (ix2 u0 k) = (m ((c : Thread nD τ).loc main_arg1) : S1024.Idx → EReal) (ix1 k) := by
  have e : (V m c main_v44 : S1x1024.Idx → EReal) = shapeCast S1x1024 (m ((c : Thread nD τ).loc main_arg1) : S1024.Idx → EReal) shapeCasts_S1024_S1x1024 := by rfl
  rw [e, asRow_apply]

/-- A head's gain twice. -/
theorem twice_apply (g : S64.Idx → EReal) (h : Shape.Concatenates [S64, S64] S128 0) (l : Fin 128) :
    concatenate S128 0 [⟨S64, g⟩, ⟨S64, g⟩] h (ix1 l) = g (ix1 ⟨l.val % 64, Nat.mod_lt _ (by decide)⟩) := by
  by_cases hl : l.val < 64
  · refine concatenate_pair_apply_left (t := S128) 0 g g h (ix1 l) rfl _ (fun b => ?_)
    match b with
    | ⟨0, _⟩ => show l.val % 64 = l.val; omega
  · refine concatenate_pair_apply_right (t := S128) 0 g g h (ix1 l) rfl rfl _ (fun b hb => ?_) ?_
    · match b with
      | ⟨0, _⟩ => exact absurd rfl hb
    · show l.val % 64 + 64 = l.val; omega

/-- The queries' and the keys' gains as launched. -/
abbrev gq (c : Dev nD) : S64.Idx → EReal := m ((c : Thread nD τ).loc main_arg3)
abbrev gk (c : Dev nD) : S64.Idx → EReal := m ((c : Thread nD τ).loc main_arg4)

/-- The doubled gain of the heads times a constant, as a row. -/
def gainRow (g : S64.Idx → EReal) (b : BitVec 32) : FVec Ideal S1x128 .f32 :=
  shapeCast S1x128 (mulf (F := Ideal) (φ := .f32) (concatenate S128 0 [⟨S64, g⟩, ⟨S64, g⟩] concatenates_S64_S64_S128_d0)
    (broadcastInDim S128 ![] bcast_S_S128 (constant (F := Ideal) S_ .f32 b))) shapeCasts_S128_S1x128

theorem gainRow_apply (g : S64.Idx → EReal) (b : BitVec 32) (l : Fin 128) :
    gainRow g b (ix2 u0 l) = g (ix1 ⟨l.val % 64, Nat.mod_lt _ (by decide)⟩) * Ideal.ofBits .f32 b := by
  unfold gainRow
  refine (shapeCast_apply _ _ (ix2 u0 l) (ix1 l) ?_).trans ?_
  · rw [Shape.rowMajor_val_one, Shape.rowMajor_val_two]
    show l.val = 0 * 128 + l.val
    omega
  · rw [← twice_apply g concatenates_S64_S64_S128_d0 l]; rfl

/-- The words of 1/8, 1 and 1/64. -/
theorem eighth_eq : Ideal.ofBits .f32 0x3E000000#32 = ((8⁻¹ : ℝ) : EReal) := by
  simp [Ideal.ofBits, Ideal.ieee]; norm_num; rw [← EReal.coe_mul]; norm_num
theorem one_eq : Ideal.ofBits .f32 0x3F800000#32 = 1 := by
  simp [Ideal.ofBits, Ideal.ieee]; norm_num; rw [← EReal.coe_mul]; norm_num
theorem mean_eq : Ideal.ofBits .f32 0x3C800000#32 = ((64⁻¹ : ℝ) : EReal) := by
  simp [Ideal.ofBits, Ideal.ieee]; norm_num; rw [← EReal.coe_mul]; norm_num

/-- The queries' gain, scaled by 1/8. -/
theorem v38_apply (l : Fin 128) : (V m c main_v38 : S1x128.Idx → EReal) (ix2 u0 l)
    = gq m c (ix1 ⟨l.val % 64, Nat.mod_lt _ (by decide)⟩) * ((8⁻¹ : ℝ) : EReal) := by
  have e : (V m c main_v38 : S1x128.Idx → EReal) = gainRow (gq m c) 0x3E000000#32 := by rfl
  rw [e, gainRow_apply, eighth_eq]

/-- The keys' gain. -/
theorem v42_apply (l : Fin 128) : (V m c main_v42 : S1x128.Idx → EReal) (ix2 u0 l)
    = gk m c (ix1 ⟨l.val % 64, Nat.mod_lt _ (by decide)⟩) := by
  have e : (V m c main_v42 : S1x128.Idx → EReal) = gainRow (gk m c) 0x3F800000#32 := by rfl
  rw [e, gainRow_apply, one_eq, mul_one]

/-! ## The rotation's tables -/

/-- The angle of each position and pair of lanes. -/
def angles : FVec Ideal S4096x32 .f32 :=
  mulf (broadcastInDim S4096x32 ![0, 1] bcast_S4096x1_S4096x32_0_1 (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

theorem angles_apply (p : Fin 4096) (d : Fin 32) : angles (ix2 p d) = Rope.angle p.val d.val := by
  unfold angles
  refine congrArg₂ (FloatOps.mulf (F := Ideal) (φ := .f32))
    ((broadcastInDim_apply _ bcast_S4096x1_S4096x32_0_1 _ (ix2 p d) (ix2 p u0) (fun a => by match a with | ⟨0, _⟩ => rfl | ⟨1, _⟩ => rfl)).trans
      (broadcastInDim_apply _ bcast_S4096_S4096x1_0 _ (ix2 p u0) (ix1 p) (fun a => by match a with | ⟨0, _⟩ => rfl)))
    ((broadcastInDim_apply _ bcast_S1x32_S4096x32_0_1 _ (ix2 p d) (ix2 u0 d) (fun a => by match a with | ⟨0, _⟩ => rfl | ⟨1, _⟩ => rfl)).trans
      ((broadcastInDim_apply _ bcast_S32_S1x32_1 _ (ix2 u0 d) (ix1 d) (fun a => by match a with | ⟨0, _⟩ => rfl)).trans rfl))

/-- Four tables side by side, read at a lane. -/
theorem quad_apply (a0 a1 a2 a3 : S4096x32.Idx → EReal) (h : Shape.Concatenates [S4096x32, S4096x32, S4096x32, S4096x32] S4096x128 1) (p : Fin 4096) (l : Fin 128) :
    concatenate S4096x128 1 [⟨S4096x32, a0⟩, ⟨S4096x32, a1⟩, ⟨S4096x32, a2⟩, ⟨S4096x32, a3⟩] h (ix2 p l)
      = (if l.val / 32 = 0 then a0 else if l.val / 32 = 1 then a1 else if l.val / 32 = 2 then a2 else a3) (ix2 p ⟨l.val % 32, Nat.mod_lt _ (by decide)⟩) := by
  have hl := l.isLt
  have key : ∀ (k : Nat) (hk : k < 4) (x : S4096x32.Idx → EReal),
      ([⟨S4096x32, a0⟩, ⟨S4096x32, a1⟩, ⟨S4096x32, a2⟩, ⟨S4096x32, a3⟩] : List ((s : Shape) × (s.Idx → EReal)))[k] = ⟨S4096x32, x⟩ → l.val / 32 = k →
      concatenate S4096x128 1 [⟨S4096x32, a0⟩, ⟨S4096x32, a1⟩, ⟨S4096x32, a2⟩, ⟨S4096x32, a3⟩] h (ix2 p l) = x (ix2 p ⟨l.val % 32, Nat.mod_lt _ (by decide)⟩) := by
    intro k hk x hx hlk
    refine concatenate_apply_piece (t := S4096x128) 1 [⟨S4096x32, a0⟩, ⟨S4096x32, a1⟩, ⟨S4096x32, a2⟩, ⟨S4096x32, a3⟩] h (ix2 p l) k hk S4096x32 x hx rfl (32 * k) ?_ _ (fun b hb => ?_) ?_
    · interval_cases k <;> rfl
    · match b with
      | ⟨0, _⟩ => rfl
      | ⟨1, _⟩ => exact absurd rfl hb
    · show 32 * k + l.val % 32 = l.val
      omega
  by_cases h0 : l.val / 32 = 0
  · rw [if_pos h0]; exact key 0 (by decide) a0 rfl h0
  rw [if_neg h0]
  by_cases h1 : l.val / 32 = 1
  · rw [if_pos h1]; exact key 1 (by decide) a1 rfl h1
  rw [if_neg h1]
  by_cases h2 : l.val / 32 = 2
  · rw [if_pos h2]; exact key 2 (by decide) a2 rfl h2
  rw [if_neg h2]
  exact key 3 (by decide) a3 rfl (by omega)

/-- A table repeated once. -/
def once (x : FVec Ideal S4096x128 .f32) : FVec Ideal S4096x128 .f32 :=
  shapeCast S4096x128 (broadcastInDim S1x4096x1x128 ![0, 1, 2, 3] bcast_S1x4096x1x128_S1x4096x1x128_0_1_2_3
    (shapeCast S1x4096x1x128 x shapeCasts_S4096x128_S1x4096x1x128)) shapeCasts_S1x4096x1x128_S4096x128

/-- It is itself. -/
theorem once_apply (x : FVec Ideal S4096x128 .f32) (p : Fin 4096) (l : Fin 128) : once x (ix2 p l) = x (ix2 p l) := by
  unfold once
  refine (shapeCast_apply _ _ (ix2 p l) (ix4 u0 p u0 l) ?_).trans ?_
  · rw [Shape.rowMajor_val_two, Shape.rowMajor_val_four]
    show ((0 * 4096 + p.val) * 1 + 0) * 128 + l.val = p.val * 128 + l.val
    omega
  rw [broadcastInDim_apply _ bcast_S1x4096x1x128_S1x4096x1x128_0_1_2_3 _ (ix4 u0 p u0 l) (ix4 u0 p u0 l)
    (fun a => by match a with | ⟨0, _⟩ => rfl | ⟨1, _⟩ => rfl | ⟨2, _⟩ => rfl | ⟨3, _⟩ => rfl)]
  refine shapeCast_apply _ _ (ix4 u0 p u0 l) (ix2 p l) ?_
  rw [Shape.rowMajor_val_two, Shape.rowMajor_val_four]
  show p.val * 128 + l.val = ((0 * 4096 + p.val) * 1 + 0) * 128 + l.val
  omega

/-- The table of cosines. -/
def cosTable : FVec Ideal S4096x128 .f32 :=
  once (concatenate (t := S4096x128) 1 [⟨S4096x32, Host.cos angles⟩, ⟨S4096x32, Host.cos angles⟩, ⟨S4096x32, Host.cos angles⟩, ⟨S4096x32, Host.cos angles⟩] (by decide))

theorem cosTable_apply (p : Fin 4096) (l : Fin 128) : cosTable (ix2 p l) = Rope.cosOf p.val (l.val % 32) := by
  unfold cosTable
  rw [once_apply, quad_apply]
  simp only [ite_self]
  show FloatOps.hostUnary (F := Ideal) (φ := .f32) .cos (angles _) = _
  rw [angles_apply]
  rfl

/-- The table of sines, negated for the first half of a head. -/
def sinTable : FVec Ideal S4096x128 .f32 :=
  once (concatenate (t := S4096x128) 1 [⟨S4096x32, Host.negf (Host.sin angles)⟩, ⟨S4096x32, Host.sin angles⟩,
    ⟨S4096x32, Host.negf (Host.sin angles)⟩, ⟨S4096x32, Host.sin angles⟩] (by decide))

theorem sinTable_apply (p : Fin 4096) (l : Fin 128) :
    sinTable (ix2 p l) = if l.val % 64 < 32 then -Rope.sinOf p.val (l.val % 32) else Rope.sinOf p.val (l.val % 32) := by
  have hl := l.isLt
  have hs : Host.sin angles (ix2 p ⟨l.val % 32, Nat.mod_lt _ (by decide)⟩) = Rope.sinOf p.val (l.val % 32) := by
    show FloatOps.hostUnary (F := Ideal) (φ := .f32) .sin (angles _) = _
    rw [angles_apply]
    rfl
  have hn : Host.negf (Host.sin angles) (ix2 p ⟨l.val % 32, Nat.mod_lt _ (by decide)⟩) = -Rope.sinOf p.val (l.val % 32) := by
    rw [← hs]; rfl
  unfold sinTable
  rw [once_apply, quad_apply]
  by_cases h : l.val % 64 < 32
  · rw [if_pos h]
    rcases (by omega : l.val / 32 = 0 ∨ l.val / 32 = 2) with h0 | h0
    · rw [h0]; exact hn
    · rw [h0]; exact hn
  · rw [if_neg h]
    rcases (by omega : l.val / 32 = 1 ∨ l.val / 32 = 3) with h0 | h0
    · rw [h0]; exact hs
    · rw [h0]; exact hs

/-- What the kernel is handed. -/
theorem v31_apply (p : Fin 4096) (l : Fin 128) : (V m c main_v31 : S4096x128.Idx → EReal) (ix2 p l) = Rope.cosOf p.val (l.val % 32) := by
  have e : (V m c main_v31 : S4096x128.Idx → EReal) = cosTable := by rfl
  rw [e, cosTable_apply]

theorem v34_apply (p : Fin 4096) (l : Fin 128) : (V m c main_v34 : S4096x128.Idx → EReal) (ix2 p l)
    = if l.val % 64 < 32 then -Rope.sinOf p.val (l.val % 32) else Rope.sinOf p.val (l.val % 32) := by
  have e : (V m c main_v34 : S4096x128.Idx → EReal) = sinTable := by rfl
  rw [e, sinTable_apply]

/-! ## The matrix that averages over a head -/

/-- The sign of a word, as a word. -/
def signWord (x : BitVec 32) : BitVec 32 := if x = 0 then 0 else if x.msb then -1 else 1

/-- The host's floor division of a lane by 64. -/
def headWord (x : BitVec 32) : BitVec 32 :=
  Scalar.select (IntOp.andi (IntOp.cmpi .ne (signWord x) (signWord 64#32))
      (IntOp.cmpi .ne (IntOp.remsi .host x 64#32) 0#32))
    (IntOp.subi (IntOp.divsi .host x 64#32) 1#32) (IntOp.divsi .host x 64#32)

/-- The same of an array of lanes. -/
def headOf {s : Shape} (hb : Shape.BroadcastsInDim S_ s ![]) (x : IVec s 32) : IVec s 32 :=
  select (andi (cmpi .ne (signi x) (broadcastInDim s ![] hb (signi (constantI S_ 32 64#32))))
      (cmpi .ne (Host.remsi x (broadcastInDim s ![] hb (constantI S_ 32 64#32))) (broadcastInDim s ![] hb (constantI S_ 32 0#32))))
    (subi (Host.divsi x (broadcastInDim s ![] hb (constantI S_ 32 64#32))) (broadcastInDim s ![] hb (constantI S_ 32 1#32)))
    (Host.divsi x (broadcastInDim s ![] hb (constantI S_ 32 64#32)))

theorem headOf_apply {s : Shape} (hb : Shape.BroadcastsInDim S_ s ![]) (x : IVec s 32) (i : s.Idx) : headOf hb x i = headWord (x i) := rfl

/-- The lanes down and across. -/
def down : IVec S128x1 32 := broadcastInDim S128x1 ![0] bcast_S128_S128x1_0 (iotaInDim S128 32 0)
def across : IVec S1x128 32 := broadcastInDim S1x128 ![1] bcast_S128_S1x128_1 (iotaInDim S128 32 0)

theorem headWord_eq : ∀ l : Fin 128, headWord (BitVec.ofNat 32 l.val) = BitVec.ofNat 32 (l.val / 64) := by
  decide +kernel

theorem same_head : ∀ a b : Fin 2, IntOp.cmpi .eq (BitVec.ofNat 32 a.val) (BitVec.ofNat 32 b.val) = BitVec.ofBool (decide (a.val = b.val)) := by
  decide

/-- 1/64 where two lanes are of the same head. -/
def headMatrix : FVec Ideal S128x128 .f32 := select (cmpi .eq
    (broadcastInDim S128x128 ![0, 1] bcast_S128x1_S128x128_0_1 (headOf bcast_S_S128x1 down))
    (broadcastInDim S128x128 ![0, 1] bcast_S1x128_S128x128_0_1 (headOf bcast_S_S1x128 across)))
  (broadcastInDim S128x128 ![] bcast_S_S128x128 (constant (F := Ideal) S_ .f32 0x3C800000#32))
  (broadcastInDim S128x128 ![] bcast_S_S128x128 (constant (F := Ideal) S_ .f32 0x00000000#32))

theorem headMatrix_apply (l' l : Fin 128) : headMatrix (ix2 l' l) = if l'.val / 64 = l.val / 64 then ((64⁻¹ : ℝ) : EReal) else 0 := by
  have e2 : broadcastInDim S128x128 ![0, 1] bcast_S128x1_S128x128_0_1 (headOf bcast_S_S128x1 down) (ix2 l' l) = BitVec.ofNat 32 (l'.val / 64) := by
    rw [broadcastInDim_apply _ bcast_S128x1_S128x128_0_1 _ (ix2 l' l) (ix2 l' u0) (fun a => by match a with | ⟨0, _⟩ => rfl | ⟨1, _⟩ => rfl),
      headOf_apply, ← headWord_eq]
    exact congrArg headWord (broadcastInDim_apply _ bcast_S128_S128x1_0 _ (ix2 l' u0) (ix1 l') (fun a => by match a with | ⟨0, _⟩ => rfl))
  have e4 : broadcastInDim S128x128 ![0, 1] bcast_S1x128_S128x128_0_1 (headOf bcast_S_S1x128 across) (ix2 l' l) = BitVec.ofNat 32 (l.val / 64) := by
    rw [broadcastInDim_apply _ bcast_S1x128_S128x128_0_1 _ (ix2 l' l) (ix2 u0 l) (fun a => by match a with | ⟨0, _⟩ => rfl | ⟨1, _⟩ => rfl),
      headOf_apply, ← headWord_eq]
    exact congrArg headWord (broadcastInDim_apply _ bcast_S128_S1x128_1 _ (ix2 u0 l) (ix1 l) (fun a => by match a with | ⟨0, _⟩ => rfl))
  unfold headMatrix
  refine (congrArg (fun b : BitVec 1 => Scalar.select b (Ideal.ofBits .f32 0x3C800000#32) (Ideal.ofBits .f32 0x00000000#32))
    ((congrArg₂ (IntOp.cmpi .eq) e2 e4).trans (same_head ⟨l'.val / 64, by omega⟩ ⟨l.val / 64, by omega⟩))).trans ?_
  dsimp only
  rw [Rope.select_dec, mean_eq, show Ideal.ofBits .f32 0x00000000#32 = 0 by simp [Ideal.ofBits, Ideal.ieee]]

theorem v9_apply (l' l : Fin 128) : (V m c main_v9 : S128x128.Idx → EReal) (ix2 l' l) = if l'.val / 64 = l.val / 64 then ((64⁻¹ : ℝ) : EReal) else 0 := by
  have e : (V m c main_v9 : S128x128.Idx → EReal) = headMatrix := by rfl
  rw [e, headMatrix_apply]

end Cert.ProjIdeal.Out

end
-- ==== Proof.Rope.Project.lean ====
/- The projection of all rows, as an array over literal shapes. -/
module

public import proofs.«01_k».proof.Proof.Rope.Layer
public import proofs.«01_k».proof.Proof.Band.Block

@[expose] public section

noncomputable section

namespace Cert.Rope

open Idealize.ShloMosaic Idealize.ShloMosaic.ValueIdx
open Cert.Band (cell2 cell2_eq)

/-- A rank-1 array at a natural, zero outside. -/
def cell1 {a : Nat} (x : (⟨1, ![a]⟩ : Shape).Idx → EReal) (i : Nat) : EReal := if h : i < a then x (ix1 ⟨i, h⟩) else 0

/-- At an index's own coordinate it is the array there. -/
theorem cell1_eq {a : Nat} (x : (⟨1, ![a]⟩ : Shape).Idx → EReal) (k : Fin a) : cell1 x k.val = x (ix1 k) := by
  unfold cell1
  rw [dif_pos k.isLt]

/-- A finite extended real is a real. -/
theorem real_of_finite (x : EReal) (h : x ≠ ⊤ ∧ x ≠ ⊥) : ∃ a : ℝ, x = (a : EReal) := ⟨x.toReal, (EReal.coe_toReal h.1 h.2).symm⟩

theorem cell1_real {a : Nat} (x : (⟨1, ![a]⟩ : Shape).Idx → EReal) (hx : ∀ i, x i ≠ ⊤ ∧ x i ≠ ⊥) (k : Nat) : ∃ r : ℝ, cell1 x k = (r : EReal) := by
  unfold cell1
  by_cases h : k < a
  · rw [dif_pos h]; exact real_of_finite _ (hx _)
  · rw [dif_neg h]; exact ⟨0, EReal.coe_zero.symm⟩

theorem cell2_real {a b : Nat} (x : (⟨2, ![a, b]⟩ : Shape).Idx → EReal) (hx : ∀ i, x i ≠ ⊤ ∧ x i ≠ ⊥) (k l : Nat) : ∃ r : ℝ, cell2 x k l = (r : EReal) := by
  unfold Cert.Band.cell2
  by_cases h : k < a ∧ l < b
  · rw [dif_pos h]; exact real_of_finite _ (hx _)
  · rw [dif_neg h]; exact ⟨0, EReal.coe_zero.symm⟩

abbrev TX : Shape := ⟨2, ![16384, 1024]⟩
abbrev TG : Shape := ⟨1, ![1024]⟩
abbrev TW : Shape := ⟨2, ![1024, 9216]⟩
abbrev TH : Shape := ⟨1, ![64]⟩
abbrev TOut : Shape := ⟨2, ![16384, 9216]⟩

/-- A row of the product. -/
def rowOf (x : TX.Idx → EReal) (g : TG.Idx → EReal) (w : TW.Idx → EReal) (R : Nat) : Nat → EReal := linear (cell2 x) (cell1 g) (cell2 w) R

/-- The whole result: row `R` belongs to position `R % 4096` of its batch entry. -/
def projected (x : TX.Idx → EReal) (g : TG.Idx → EReal) (w : TW.Idx → EReal) (q k : TH.Idx → EReal) : TOut.Idx → EReal := fun i =>
  layerAt (rowOf x g w (i 0).val) (cell1 q) (cell1 k) ((i 0).val % 4096) (i 1).val

/-- The product of finite rows and weights is finite. -/
theorem rowOf_real (x : TX.Idx → EReal) (g : TG.Idx → EReal) (w : TW.Idx → EReal) (hx : ∀ i, x i ≠ ⊤ ∧ x i ≠ ⊥) (hg : ∀ i, g i ≠ ⊤ ∧ g i ≠ ⊥)
    (hw : ∀ i, w i ≠ ⊤ ∧ w i ≠ ⊥) (R col : Nat) : ∃ a : ℝ, rowOf x g w R col = (a : EReal) :=
  linear_real _ _ _ R col (fun k => cell2_real x hx R k) (fun k => cell1_real g hg k) (fun k => cell2_real w hw k col)

end Cert.Rope

end
-- ==== Proof.Proj.Array.lean ====
/- The projection: the result array, entry by entry. -/
module

public import proofs.«01_k».proof.Proof.Proj.Out
public import proofs.«01_k».proof.Proof.Proj.Host
public import proofs.«01_k».proof.Proof.Rope.Project

@[expose] public section

noncomputable section

namespace Cert.ProjIdeal.Out

open Cert.ProjIdeal Cert.ProjIdeal.Gen Idealize.ShloMosaic Idealize.ShloMosaic.ValueIdx Idealize.ShloMosaic.TcCoe
open Idealize.ShloMosaic.Pipeline (Dat)
open Cert.Rope (TX TG TW TH cell1 cell1_eq rowOf hidden cosOf sinOf)
open Cert.Band (cell2 cell2_eq)

variable (m : (ℓ : Loc nD τ sig) → Buf (Elt Ideal) ℓ) (c : Dev nD)

/-- The arguments as launched. -/
abbrev ax : TX.Idx → EReal := m ((c : Thread nD τ).loc main_arg0)
abbrev ag : TG.Idx → EReal := m ((c : Thread nD τ).loc main_arg1)
abbrev aw : TW.Idx → EReal := m ((c : Thread nD τ).loc main_arg2)

/-! ## The index maps: point `t` is column tile `t % 9` of row block `t / 9` -/

theorem coord1 : ∀ t : Fin cfg0.N, (grid0.coords t 1).val = t.val % 9 :=
  (by decide +kernel : ∀ t : Fin grid0.N, (grid0.coords t 1).val = t.val % 9)

theorem index0 : ∀ t : Fin cfg0.N, win0_0.index t 0 = t.val / 9 ∧ win0_0.index t 1 = 0 :=
  (by decide +kernel : ∀ t : Fin grid0.N, win0_0.index t 0 = t.val / 9 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = t.val % 9 :=
  (by decide +kernel : ∀ t : Fin grid0.N, win0_2.index t 0 = 0 ∧ win0_2.index t 1 = t.val % 9)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = t.val / 9 % 8 ∧ win0_5.index t 1 = 0 :=
  (by decide +kernel : ∀ t : Fin grid0.N, win0_5.index t 0 = t.val / 9 % 8 ∧ win0_5.index t 1 = 0)
theorem index6 : ∀ t : Fin cfg0.N, win0_6.index t 0 = t.val / 9 % 8 ∧ win0_6.index t 1 = 0 :=
  (by decide +kernel : ∀ t : Fin grid0.N, win0_6.index t 0 = t.val / 9 % 8 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = t.val / 9 ∧ win0_8.index t 1 = t.val % 9 :=
  (by decide +kernel : ∀ t : Fin grid0.N, win0_8.index t 0 = t.val / 9 ∧ win0_8.index t 1 = t.val % 9)

/-! ## The input blocks -/

section
variable (t : Fin cfg0.N)

/-- Window 0: the block's rows. -/
theorem block0 (r : Fin 512) (k : Fin 1024) : (iblk m c 0 t : S512x1024.Idx → EReal) (ix2 r k) = cell2 (ax m c) (512 * (t.val / 9) + r.val) k.val := by
  obtain ⟨e0, e1⟩ := index0 t
  have e : (V m c main_arg0 : S16384x1024.Idx → EReal) = ax m c := by rfl
  refine Eq.trans ?_ (cell2_eq (ax m c) ((win0_0.rect t).emb (ix2 r k)) ?_ ?_).symm
  · rw [← e]; rfl
  · rw [win0_0.rect_emb_val t _ 0 rfl, e0]; exact congrArg (· + r.val) (Nat.mul_comm _ _)
  · rw [win0_0.rect_emb_val t _ 1 rfl, e1]; exact (congrArg (· + k.val) (Nat.zero_mul _)).trans (Nat.zero_add _)

/-- A window that is the whole of its array reads it. -/
theorem emb_whole {a b : Nat} (y : (⟨2, ![a, b]⟩ : Shape).Idx) (i : Fin a) (j : Fin b) (h0 : (y 0).val = i.val) (h1 : (y 1).val = j.val) : y = ix2 i j :=
  (eq_ix2 y).trans (congrArg₂ ix2 (Fin.ext h0) (Fin.ext h1))

/-- Window 1: the rows' gain. -/
theorem block1 (k : Fin 1024) : (iblk m c 1 t : S1x1024.Idx → EReal) (ix2 u0 k) = cell1 (ag m c) k.val := by
  obtain ⟨e0, e1⟩ := index1 t
  refine Eq.trans (congrArg (V m c main_v44 : S1x1024.Idx → EReal) (emb_whole ((win0_1.rect t).emb (ix2 u0 k)) u0 k ?_ ?_)) ((v44_apply m c k).trans (cell1_eq (ag m c) k).symm)
  · rw [win0_1.rect_emb_val t _ 0 rfl, e0]; rfl
  · rw [win0_1.rect_emb_val t _ 1 rfl, e1]; exact (congrArg (· + k.val) (Nat.zero_mul _)).trans (Nat.zero_add _)

/-- Window 2: the tile's columns of the weights. -/
theorem block2 (k l : Fin 1024) : (iblk m c 2 t : S1024x1024.Idx → EReal) (ix2 k l) = cell2 (aw m c) k.val (1024 * (t.val % 9) + l.val) := by
  obtain ⟨e0, e1⟩ := index2 t
  refine Eq.trans (congrFun (v43_eq m c) ((win0_2.rect t).emb (ix2 k l))) (cell2_eq (aw m c) ((win0_2.rect t).emb (ix2 k l)) ?_ ?_).symm
  · rw [win0_2.rect_emb_val t _ 0 rfl, e0]; exact (congrArg (· + k.val) (Nat.zero_mul _)).trans (Nat.zero_add _)
  · rw [win0_2.rect_emb_val t _ 1 rfl, e1]; exact congrArg (· + l.val) (Nat.mul_comm _ _)

/-- Window 3: the queries' gain. -/
theorem block3 (l : Fin 128) : (iblk m c 3 t : S1x128.Idx → EReal) (ix2 u0 l) = cell1 (gq m c) (l.val % 64) * ((8⁻¹ : ℝ) : EReal) := by
  obtain ⟨e0, e1⟩ := index3 t
  refine Eq.trans (congrArg (V m c main_v38 : S1x128.Idx → EReal) (emb_whole ((win0_3.rect t).emb (ix2 u0 l)) u0 l ?_ ?_))
    ((v38_apply m c l).trans (congrArg (fun a : EReal => a * ((8⁻¹ : ℝ) : EReal)) (cell1_eq (gq m c) ⟨l.val % 64, Nat.mod_lt _ (by decide)⟩).symm))
  · rw [win0_3.rect_emb_val t _ 0 rfl, e0]; rfl
  · rw [win0_3.rect_emb_val t _ 1 rfl, e1]; exact (congrArg (· + l.val) (Nat.zero_mul _)).trans (Nat.zero_add _)

/-- Window 4: the keys' gain. -/
theorem block4 (l : Fin 128) : (iblk m c 4 t : S1x128.Idx → EReal) (ix2 u0 l) = cell1 (gk m c) (l.val % 64) := by
  obtain ⟨e0, e1⟩ := index4 t
  refine Eq.trans (congrArg (V m c main_v42 : S1x128.Idx → EReal) (emb_whole ((win0_4.rect t).emb (ix2 u0 l)) u0 l ?_ ?_))
    ((v42_apply m c l).trans (cell1_eq (gk m c) ⟨l.val % 64, Nat.mod_lt _ (by decide)⟩).symm)
  · rw [win0_4.rect_emb_val t _ 0 rfl, e0]; rfl
  · rw [win0_4.rect_emb_val t _ 1 rfl, e1]; exact (congrArg (· + l.val) (Nat.zero_mul _)).trans (Nat.zero_add _)

/-- The position of a row of the block. -/
theorem pos_eq (r : Fin 512) : (512 * (t.val / 9) + r.val) % 4096 = t.val / 9 % 8 * 512 + r.val := by
  have := r.isLt; omega

theorem pos_lt (r : Fin 512) : (512 * (t.val / 9) + r.val) % 4096 < 4096 := Nat.mod_lt _ (by decide)

/-- Window 5: the cosines of the block's positions. -/
theorem block5 (r : Fin 512) (l : Fin 128) : (iblk m c 5 t : S512x128.Idx → EReal) (ix2 r l) = cosOf ((512 * (t.val / 9) + r.val) % 4096) (l.val % 32) := by
  obtain ⟨e0, e1⟩ := index5 t
  refine Eq.trans (congrArg (V m c main_v31 : S4096x128.Idx → EReal) (emb_whole ((win0_5.rect t).emb (ix2 r l)) ⟨_, pos_lt t r⟩ l ?_ ?_)) (v31_apply m c ⟨_, pos_lt t r⟩ l)
  · rw [win0_5.rect_emb_val t _ 0 rfl, e0]; exact (pos_eq t r).symm
  · rw [win0_5.rect_emb_val t _ 1 rfl, e1]; exact (congrArg (· + l.val) (Nat.zero_mul _)).trans (Nat.zero_add _)

/-- Window 6: the signed sines of the block's positions. -/
theorem block6 (r : Fin 512) (l : Fin 128) : (iblk m c 6 t : S512x128.Idx → EReal) (ix2 r l)
    = if l.val % 64 < 32 then -sinOf ((512 * (t.val / 9) + r.val) % 4096) (l.val % 32) else sinOf ((512 * (t.val / 9) + r.val) % 4096) (l.val % 32) := by
  obtain ⟨e0, e1⟩ := index6 t
  refine Eq.trans (congrArg (V m c main_v34 : S4096x128.Idx → EReal) (emb_whole ((win0_6.rect t).emb (ix2 r l)) ⟨_, pos_lt t r⟩ l ?_ ?_)) (v34_apply m c ⟨_, pos_lt t r⟩ l)
  · rw [win0_6.rect_emb_val t _ 0 rfl, e0]; exact (pos_eq t r).symm
  · rw [win0_6.rect_emb_val t _ 1 rfl, e1]; exact (congrArg (· + l.val) (Nat.zero_mul _)).trans (Nat.zero_add _)

/-- Window 7: the matrix that averages over a head. -/
theorem block7 (l' l : Fin 128) : (iblk m c 7 t : S128x128.Idx → EReal) (ix2 l' l) = if l'.val / 64 = l.val / 64 then ((64⁻¹ : ℝ) : EReal) else 0 := by
  obtain ⟨e0, e1⟩ := index7 t
  refine Eq.trans (congrArg (V m c main_v9 : S128x128.Idx → EReal) (emb_whole ((win0_7.rect t).emb (ix2 l' l)) l' l ?_ ?_)) (v9_apply m c l' l)
  · rw [win0_7.rect_emb_val t _ 0 rfl, e0]; exact (congrArg (· + l'.val) (Nat.zero_mul _)).trans (Nat.zero_add _)
  · rw [win0_7.rect_emb_val t _ 1 rfl, e1]; exact (congrArg (· + l.val) (Nat.zero_mul _)).trans (Nat.zero_add _)

end

/-! ## The scratch -/

/-- The normalised rows of a block. -/
theorem rows_at (t : Fin cfg0.N) (r : Fin 512) (k : Fin 1024) :
    Rope.rows (iblk m c 0 t) (iblk m c 1 t) (ix2 r k) = hidden (cell2 (ax m c)) (cell1 (ag m c)) (512 * (t.val / 9) + r.val) k.val := by
  refine (Rope.rows_apply (iblk m c 0 t) (iblk m c 1 t) r k).trans ?_
  have h0 := fun k => block0 m c t r k
  have h1 := fun k => block1 m c t k
  generalize iblk m c 0 t = x0 at h0 ⊢
  generalize iblk m c 1 t = x1 at h1 ⊢
  unfold Rope.hidden
  simp only [h0, h1]

/-- After every point the scratch holds its row block's normalised rows. -/
theorem scratch_at : ∀ (n : Nat) (hn : n < cfg0.N) (r : Fin 512) (k : Fin 1024),
    (outsAt0 m c n hn).2 (ix2 r k) = hidden (cell2 (ax m c)) (cell1 (ag m c)) (512 * (n / 9) + r.val) k.val := by
  intro n
  induction n using Nat.strong_induction_on with
  | _ n ih =>
    intro hn r k
    by_cases h0 : n % 9 = 0
    · have e := congrArg (fun p => p.2 (ix2 r k)) (outsAt0_A m c ⟨n, hn⟩ h0 (by show n % 9 ≤ 5; omega) (by show ¬6 ≤ n % 9; omega))
      refine e.trans ?_
      dsimp only
      rw [scratch_A]
      exact rows_at m c ⟨n, hn⟩ r k
    · have hp : n - 1 < n := by omega
      have hd : (n - 1) / 9 = n / 9 := by omega
      have ih' := ih (n - 1) hp (by omega) r k
      rw [hd] at ih'
      by_cases h1 : n % 9 ≤ 5
      · have e := congrArg (fun p => p.2 (ix2 r k)) (outsAt0_B m c ⟨n, hn⟩ h0 h1 (by show ¬6 ≤ n % 9; omega))
        exact e.trans ih'
      · have e := congrArg (fun p => p.2 (ix2 r k)) (outsAt0_C m c ⟨n, hn⟩ h0 h1 (by show 6 ≤ n % 9; omega))
        exact e.trans ih'

/-! ## The tiles -/

/-- The gain of the first tiles and of the others. -/
theorem gainOf_first (a b : Vec Ideal S1x128 .f32) : Rope.gainOf 1#1 a b = a := by
  unfold Rope.gainOf
  rw [shapeCast_self, shapeCast_self]; rfl
theorem gainOf_later (a b : Vec Ideal S1x128 .f32) : Rope.gainOf 0#1 a b = b := by
  unfold Rope.gainOf
  rw [shapeCast_self, shapeCast_self]; rfl

section
variable (t : Fin cfg0.N) (s : Vec Ideal S512x1024 .bf16)
variable (hs : ∀ (r : Fin 512) (k : Fin 1024), s (ix2 r k) = hidden (cell2 (ax m c)) (cell1 (ag m c)) (512 * (t.val / 9) + r.val) k.val)
include hs

/-- A tile of the product. -/
theorem prod_at (r : Fin 512) (l : Fin 1024) :
    Rope.prod s (iblk m c 2 t) (ix2 r l) = rowOf (ax m c) (ag m c) (aw m c) (512 * (t.val / 9) + r.val) (1024 * (t.val % 9) + l.val) := by
  refine (Rope.prod_apply s (iblk m c 2 t) r l).trans ?_
  unfold Rope.rowOf Rope.linear
  refine Finset.sum_congr rfl fun k _ => ?_
  rw [hs]
  exact congrArg (fun a : EReal => hidden (cell2 (ax m c)) (cell1 (ag m c)) (512 * (t.val / 9) + r.val) k.val * a) (block2 m c t k l)

variable (hx : ∀ i, ax m c i ≠ ⊤ ∧ ax m c i ≠ ⊥) (hg : ∀ i, ag m c i ≠ ⊤ ∧ ag m c i ≠ ⊥) (hw : ∀ i, aw m c i ≠ ⊤ ∧ aw m c i ≠ ⊥)
include hx hg hw

/-- A normed tile is of the form the body's lemma asks for. -/
theorem tile_at (gain : Vec Ideal S1x128 .f32) (γ : Nat → EReal) (hγ : ∀ l : Fin 128, gain (ix2 u0 l) = γ (l.val % 64)) :
    Rope.TileOf (Rope.prod s (iblk m c 2 t)) gain (iblk m c 5 t) (iblk m c 6 t) (iblk m c 7 t)
      (fun r k => rowOf (ax m c) (ag m c) (aw m c) (512 * (t.val / 9) + r) (1024 * (t.val % 9) + k)) γ
      (fun r => cosOf ((512 * (t.val / 9) + r) % 4096)) (fun r => sinOf ((512 * (t.val / 9) + r) % 4096)) where
  tile := fun r k => prod_at m c t s hs r k
  real := fun r k => Rope.rowOf_real _ _ _ hx hg hw _ _
  gain := hγ
  cosf := fun r l => block5 m c t r l
  sins := fun r l => block6 m c t r l
  mix := fun l' l => block7 m c t l' l

/-- What a normed tile stores. -/
theorem normed_at (h : t.val % 9 ≤ 5) (r : Fin 512) (k : Fin 1024) :
    View.canon (Rope.pieces (Rope.prod s (iblk m c 2 t)) (Rope.gainOf (Scalar.cmpi .slt (BitVec.ofNat 32 (grid0.coords t 1).val) 3#32) (iblk m c 3 t) (iblk m c 4 t))
        (iblk m c 5 t) (iblk m c 6 t) (iblk m c 7 t)) (ix2 r k)
      = Rope.layerAt (rowOf (ax m c) (ag m c) (aw m c) (512 * (t.val / 9) + r.val)) (cell1 (gq m c)) (cell1 (gk m c))
        ((512 * (t.val / 9) + r.val) % 4096) (1024 * (t.val % 9) + k.val) := by
  have hk := k.isLt
  rw [coord1]
  unfold Rope.layerAt
  by_cases h3 : t.val % 9 < 3
  · have hc : Scalar.cmpi .slt (BitVec.ofNat 32 (t.val % 9)) 3#32 = 1#1 :=
      (by decide : ∀ j : Fin 3, Scalar.cmpi .slt (BitVec.ofNat 32 j.val) 3#32 = 1#1) ⟨t.val % 9, h3⟩
    rw [hc, gainOf_first, if_pos (by omega)]
    refine (Rope.TileOf.stores (tile_at m c t s hs hx hg hw _ (fun d => cell1 (gq m c) d * ((8⁻¹ : ℝ) : EReal)) (fun l => ?_)) r k).trans ?_
    · exact block3 m c t l
    · rw [Rope.rotated_scaled, Rope.turnedAt_shift]
  · have hc : Scalar.cmpi .slt (BitVec.ofNat 32 (t.val % 9)) 3#32 = 0#1 :=
      (by decide : ∀ j : Fin 9, ¬j.val < 3 → Scalar.cmpi .slt (BitVec.ofNat 32 j.val) 3#32 = 0#1) ⟨t.val % 9, Nat.mod_lt _ (by decide)⟩ h3
    rw [hc, gainOf_later, if_neg (by omega), if_pos (by omega)]
    refine (Rope.TileOf.stores (tile_at m c t s hs hx hg hw _ (cell1 (gk m c)) (fun l => ?_)) r k).trans ?_
    · exact block4 m c t l
    · exact Rope.turnedAt_shift _ _ _ _ _

end

/-! ## The result array -/

/-- What the result is shown to hold. -/
def outSpec : S16384x9216.Idx → EReal := Rope.projected (ax m c) (ag m c) (aw m c) (gq m c) (gk m c)

section
variable (hx : ∀ i, ax m c i ≠ ⊤ ∧ ax m c i ≠ ⊥) (hg : ∀ i, ag m c i ≠ ⊤ ∧ ag m c i ≠ ⊥) (hw : ∀ i, aw m c i ≠ ⊤ ∧ aw m c i ≠ ⊥)
include hx hg hw

/-- What point `t` leaves in its output block. -/
theorem out_at (t : Fin cfg0.N) (r : Fin 512) (k : Fin 1024) :
    (outsAt0 m c t.val t.isLt).1 (ix2 r k)
      = Rope.layerAt (rowOf (ax m c) (ag m c) (aw m c) (512 * (t.val / 9) + r.val)) (cell1 (gq m c)) (cell1 (gk m c))
        ((512 * (t.val / 9) + r.val) % 4096) (1024 * (t.val % 9) + k.val) := by
  have hk := k.isLt
  have hd : ¬t.val % 9 = 0 → (t.val - 1) / 9 = t.val / 9 := fun h => by omega
  by_cases h0 : t.val % 9 = 0
  · refine (congrArg (fun p => p.1 (ix2 r k)) (outsAt0_A m c t h0 (by omega) (by omega))).trans ?_
    dsimp only
    rw [out_A]
    exact normed_at m c t _ (rows_at m c t) hx hg hw (by omega) r k
  · have hs := scratch_at m c (t.val - 1) (Nat.lt_of_le_of_lt (Nat.sub_le _ _) t.isLt)
    rw [hd h0] at hs
    by_cases h1 : t.val % 9 ≤ 5
    · refine (congrArg (fun p => p.1 (ix2 r k)) (outsAt0_B m c t h0 h1 (by omega))).trans ?_
      dsimp only
      rw [out_B]
      exact normed_at m c t _ hs hx hg hw h1 r k
    · refine (congrArg (fun p => p.1 (ix2 r k)) (outsAt0_C m c t h0 h1 (by omega))).trans ?_
      dsimp only
      rw [out_C]
      refine (prod_at m c t _ hs r k).trans ?_
      unfold Rope.layerAt
      rw [if_neg (by omega), if_neg (by omega)]

/-- Point `t` writes back its block of the result. -/
theorem flushed8_spec (t : Fin cfg0.N) : (dats m 0 c).flushed 8 t = (win0_8.blk t).view.read (Elt Ideal) (outSpec m c) := by
  rw [Value.flushed8]
  funext y
  obtain ⟨e0, e1⟩ := index8 t
  have h0 : ((win0_8.rect t).emb y 0).val = 512 * (t.val / 9) + (y 0).val := by
    rw [win0_8.rect_emb_val t _ 0 rfl, e0]; exact congrArg (· + (y 0).val) (Nat.mul_comm _ _)
  have h1 : ((win0_8.rect t).emb y 1).val = 1024 * (t.val % 9) + (y 1).val := by
    rw [win0_8.rect_emb_val t _ 1 rfl, e1]; exact congrArg (· + (y 1).val) (Nat.mul_comm _ _)
  have hy : y = ix2 (y 0) (y 1) := eq_ix2 y
  refine Eq.trans (congrArg (outsAt0 m c t.val t.isLt).1 hy) ((out_at m c hx hg hw t (y 0) (y 1)).trans ?_)
  show _ = outSpec m c ((win0_8.rect t).emb y)
  unfold outSpec Rope.projected
  rw [h0, h1]

/-- The result array after the run. -/
theorem final_spec : (dats m 0 c).arrAt 8 cfg0.N = outSpec m c :=
  (dats m 0 c).arrAt_eq_of_cover 8 (outSpec m c) (fun t _ => flushed8_spec m c hx hg hw t) (fun i => (Value.covered_iff8 i).2 (by
    have h0 : (i 0).val < 16384 := (i 0).isLt
    have h1 : (i 1).val < 9216 := (i 1).isLt
    omega))

end

end Cert.ProjIdeal.Out

end
-- ==== Proof.Proj.Heads.lean ====
/- The projection's reference: the norm and the rotation of all heads, as functions of the array they are applied to. The
   reference does the same to its queries and to its keys. -/
module

public import proofs.«01_k».proof.Proof.Rope.Project
public import proofs.«01_k».proof.Proof.Gen.ProjRefIdeal.Read

@[expose] public section

noncomputable section

namespace Cert.ProjRefIdeal.Out

open Cert.ProjRefIdeal Cert.ProjRefIdeal.Gen Cert.ProjRefIdeal.Read Idealize.ShloMosaic Idealize.ShloMosaic.ValueIdx
open Cert.Rope (cell1 cell1_eq invRoot w64 eps cosOf sinOf headNorm rotated)

/-- Rows of 3072 columns as heads. -/
def headsOf (z : FVec Ideal S16384x3072 .f32) : FVec Ideal S4x4096x48x64 .f32 := shapeCast S4x4096x48x64 z shapeCasts_S16384x3072_S4x4096x48x64

/-- The sum of a head's squares. -/
def headSq (h : FVec Ideal S4x4096x48x64 .f32) : FVec Ideal S4x4096x48 .f32 :=
  Host.reduceAdd (mulf (F := Ideal) (φ := .f32) h h) (constant (F := Ideal) S_ .f32 0x00000000#32) reducesTo_S4x4096x48x64_S4x4096x48_d3 h_S_

/-- Each head divided by the root of its mean square and scaled by the gain. -/
def normedHeads (h : FVec Ideal S4x4096x48x64 .f32) (γ : FVec Ideal S64 .f32) : FVec Ideal S4x4096x48x64 .f32 :=
  mulf (mulf h (broadcastInDim S4x4096x48x64 ![0, 1, 2, 3] bcast_S4x4096x48x1_S4x4096x48x64_0_1_2_3
    (Host.rsqrt (addf (Host.divf (broadcastInDim S4x4096x48x1 ![0, 1, 2] bcast_S4x4096x48_S4x4096x48x1_0_1_2 (headSq h))
      (broadcastInDim S4x4096x48x1 ![] bcast_S_S4x4096x48x1 (constant S_ .f32 0x42800000#32)))
      (broadcastInDim S4x4096x48x1 ![] bcast_S_S4x4096x48x1 (constant S_ .f32 0x358637BD#32))))))
    (broadcastInDim S4x4096x48x64 ![0, 1, 2, 3] bcast_S1x1x1x64_S4x4096x48x64_0_1_2_3 (broadcastInDim S1x1x1x64 ![3] bcast_S64_S1x1x1x64_3 γ))

/-- The first and the second half of each head. -/
def lowHalf (u : FVec Ideal S4x4096x48x64 .f32) : FVec Ideal S4x4096x48x32 .f32 :=
  extractStridedSlice S4x4096x48x32 ![0, 0, 0, 0] u slices_S4x4096x48x64_S4x4096x48x32_0_0_0_0
def highHalf (u : FVec Ideal S4x4096x48x64 .f32) : FVec Ideal S4x4096x48x32 .f32 :=
  extractStridedSlice S4x4096x48x32 ![0, 0, 0, 32] u slices_S4x4096x48x64_S4x4096x48x32_0_0_0_32

/-- The halves of each head rotated against one another. -/
def rotatedHeads (u : FVec Ideal S4x4096x48x64 .f32) : FVec Ideal S4x4096x48x64 .f32 :=
  concatenate S4x4096x48x64 3
    [⟨S4x4096x48x32, subf (mulf (lowHalf u) (val_main_v51 (F := Ideal))) (mulf (highHalf u) (val_main_v54 (F := Ideal)))⟩,
     ⟨S4x4096x48x32, addf (mulf (highHalf u) (val_main_v51 (F := Ideal))) (mulf (lowHalf u) (val_main_v54 (F := Ideal)))⟩]
    concatenates_S4x4096x48x32_S4x4096x48x32_S4x4096x48x64_d3

/-! ## Read at an index -/

variable (b : Fin 4) (p : Fin 4096) (n : Fin 48)

theorem headsOf_apply (z : FVec Ideal S16384x3072 .f32) (d : Fin 64) :
    headsOf z (ix4 b p n d) = z (ix2 ⟨b.val * 4096 + p.val, by omega⟩ ⟨64 * n.val + d.val, by omega⟩) := by
  unfold headsOf
  refine shapeCast_apply z _ (ix4 b p n d) _ ?_
  rw [Shape.rowMajor_val_two, Shape.rowMajor_val_four]
  show (b.val * 4096 + p.val) * 3072 + (64 * n.val + d.val) = ((b.val * 4096 + p.val) * 48 + n.val) * 64 + d.val
  omega

theorem headSq_apply (h : FVec Ideal S4x4096x48x64 .f32) : headSq h (ix3 b p n) = ∑ d : Fin 64, h (ix4 b p n d) * h (ix4 b p n d) := by
  unfold headSq
  have key : ∀ y : FVec Ideal S4x4096x48x64 .f32, Host.reduceAdd y (constant (F := Ideal) S_ .f32 0x00000000#32) reducesTo_S4x4096x48x64_S4x4096x48_d3 h_S_ (ix3 b p n)
      = ∑ d : Fin 64, y (ix4 b p n d) := fun y => by
    simp only [Host.reduceAdd, Ideal.hostReduceAdd_def]
    rw [Ideal.hostReduceAdd_single reducesTo_S4x4096x48x64_S4x4096x48_d3 (by decide)]
    refine Eq.trans (congrArg₂ (fun a c : EReal => a + c) (show Ideal.ofBits .f32 0x00000000#32 = 0 by simp [Ideal.ofBits, Ideal.ieee])
      (Finset.sum_congr rfl fun d _ => ?_)) (zero_add _)
    exact congrArg y (funext fun a => Fin.ext (by match a with | ⟨0, _⟩ => rfl | ⟨1, _⟩ => rfl | ⟨2, _⟩ => rfl | ⟨3, _⟩ => rfl))
  exact key _

theorem normedHeads_apply (h : FVec Ideal S4x4096x48x64 .f32) (γ : FVec Ideal S64 .f32) (d : Fin 64) :
    normedHeads h γ (ix4 b p n d) = h (ix4 b p n d) * invRoot w64 (fun d : Fin 64 => h (ix4 b p n d)) * γ (ix1 d) := by
  unfold normedHeads
  have e := headSq_apply b p n h
  generalize headSq h = q at e ⊢
  refine congrArg₂ (fun x y : EReal => x * y) (congrArg (fun x : EReal => h (ix4 b p n d) * x) ?_) ?_
  · refine (broadcastInDim_apply _ bcast_S4x4096x48x1_S4x4096x48x64_0_1_2_3 _ (ix4 b p n d) (ix4 b p n u0)
      (fun a => by match a with | ⟨0, _⟩ => rfl | ⟨1, _⟩ => rfl | ⟨2, _⟩ => rfl | ⟨3, _⟩ => rfl)).trans ?_
    have e' := (broadcastInDim_apply _ bcast_S4x4096x48_S4x4096x48x1_0_1_2 q (ix4 b p n u0) (ix3 b p n)
      (fun a => by match a with | ⟨0, _⟩ => rfl | ⟨1, _⟩ => rfl | ⟨2, _⟩ => rfl)).trans e
    exact congrArg (fun x : EReal => Ideal.rsqrt (Ideal.div x w64 + eps)) e'
  · exact (broadcastInDim_apply _ bcast_S1x1x1x64_S4x4096x48x64_0_1_2_3 _ (ix4 b p n d) (ix4 u0 u0 u0 d)
      (fun a => by match a with | ⟨0, _⟩ => rfl | ⟨1, _⟩ => rfl | ⟨2, _⟩ => rfl | ⟨3, _⟩ => rfl)).trans
      (broadcastInDim_apply _ bcast_S64_S1x1x1x64_3 γ (ix4 u0 u0 u0 d) (ix1 d) (fun a => by match a with | ⟨0, _⟩ => rfl))

theorem angle_apply (d : Fin 32) : val_main_v43 (F := Ideal) (ix2 p d) = Rope.angle p.val d.val := by
  rw [val_main_v43_apply, val_main_v41_apply, val_main_v39_apply, val_main_v38_apply, val_main_v0_apply, val_main_v42_apply, val_main_v40_apply,
    val_main_v37_apply, val_main_v36_apply, val_main_v35_apply, val_main_v34_apply, val_main_v33_apply, val_main_cst_5_apply, val_main_cst_6_apply]
  rfl

theorem cosines_apply (d : Fin 32) : val_main_v51 (F := Ideal) (ix4 b p n d) = cosOf p.val d.val := by
  rw [val_main_v51_apply, val_main_v50_apply, val_main_v45_apply, val_main_v44_apply]
  refine congrArg (FloatOps.hostUnary (F := Ideal) (φ := .f32) .cos) (Eq.trans (congrArg _ ?_) (angle_apply p d))
  exact eq_ix2 _

theorem sines_apply (d : Fin 32) : val_main_v54 (F := Ideal) (ix4 b p n d) = sinOf p.val d.val := by
  rw [val_main_v54_apply, val_main_v53_apply, val_main_v47_apply, val_main_v46_apply]
  refine congrArg (FloatOps.hostUnary (F := Ideal) (φ := .f32) .sin) (Eq.trans (congrArg _ ?_) (angle_apply p d))
  exact eq_ix2 _

theorem lowHalf_apply (u : FVec Ideal S4x4096x48x64 .f32) (d : Fin 32) : lowHalf u (ix4 b p n d) = u (ix4 b p n ⟨d.val, by omega⟩) := by
  unfold lowHalf
  exact extractStridedSlice_apply ![0, 0, 0, 0] u slices_S4x4096x48x64_S4x4096x48x32_0_0_0_0 (ix4 b p n d) (ix4 b p n ⟨d.val, by omega⟩) (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm)

theorem highHalf_apply (u : FVec Ideal S4x4096x48x64 .f32) (d : Fin 32) : highHalf u (ix4 b p n d) = u (ix4 b p n ⟨32 + d.val, by omega⟩) := by
  unfold highHalf
  exact extractStridedSlice_apply ![0, 0, 0, 32] u slices_S4x4096x48x64_S4x4096x48x32_0_0_0_32 (ix4 b p n d) (ix4 b p n ⟨32 + d.val, by omega⟩) (fun a => by
    match a with
    | ⟨0, _⟩ => exact (Nat.zero_add _).symm
    | ⟨1, _⟩ => exact (Nat.zero_add _).symm
    | ⟨2, _⟩ => exact (Nat.zero_add _).symm
    | ⟨3, _⟩ => rfl)

/-- The rotation of a head whose entries are known. -/
theorem rotatedHeads_apply (u : FVec Ideal S4x4096x48x64 .f32) (f : Nat → EReal) (hf : ∀ d : Fin 64, u (ix4 b p n d) = f (64 * n.val + d.val)) (d : Fin 64) :
    rotatedHeads u (ix4 b p n d) = rotated f (cosOf p.val) (sinOf p.val) (64 * n.val + d.val) := by
  have hd := d.isLt
  unfold rotatedHeads rotated
  rw [show (64 * n.val + d.val) % 64 = d.val by omega]
  by_cases h : d.val < 32
  · refine (concatenate_pair_apply_left (t := S4x4096x48x64) 3 _ _ concatenates_S4x4096x48x32_S4x4096x48x32_S4x4096x48x64_d3 (ix4 b p n d) rfl
      (ix4 b p n ⟨d.val, h⟩) (fun a => by match a with | ⟨0, _⟩ => rfl | ⟨1, _⟩ => rfl | ⟨2, _⟩ => rfl | ⟨3, _⟩ => rfl)).trans ?_
    rw [if_pos h, show (64 * n.val + d.val) % 32 = d.val by omega, ← hf d]
    have e2 : f (64 * n.val + d.val + 32) = u (ix4 b p n ⟨32 + d.val, by omega⟩) := by rw [hf]; congr 1; dsimp only; omega
    rw [e2, ← cosines_apply b p n ⟨d.val, h⟩, ← sines_apply b p n ⟨d.val, h⟩, ← lowHalf_apply b p n u ⟨d.val, h⟩, ← highHalf_apply b p n u ⟨d.val, h⟩]
    rfl
  · refine (concatenate_pair_apply_right (t := S4x4096x48x64) 3 _ _ concatenates_S4x4096x48x32_S4x4096x48x32_S4x4096x48x64_d3 (ix4 b p n d) rfl rfl
      (ix4 b p n ⟨d.val - 32, by omega⟩) (fun a ha => by
        match a with
        | ⟨0, _⟩ => rfl
        | ⟨1, _⟩ => rfl
        | ⟨2, _⟩ => rfl
        | ⟨3, _⟩ => exact absurd rfl ha) (by show d.val - 32 + 32 = d.val; omega)).trans ?_
    have hd' : d.val - 32 < 32 := by omega
    rw [if_neg h, show (64 * n.val + d.val) % 32 = d.val - 32 by omega]
    have e1 : f (64 * n.val + d.val) = u (ix4 b p n ⟨32 + (d.val - 32), by omega⟩) := by rw [hf]; congr 1; dsimp only; omega
    have e2 : f (64 * n.val + d.val - 32) = u (ix4 b p n ⟨d.val - 32, by omega⟩) := by rw [hf]; congr 1; dsimp only; omega
    rw [e1, e2, ← cosines_apply b p n ⟨d.val - 32, hd'⟩, ← sines_apply b p n ⟨d.val - 32, hd'⟩, ← lowHalf_apply b p n u ⟨d.val - 32, hd'⟩,
      ← highHalf_apply b p n u ⟨d.val - 32, hd'⟩]
    rfl

/-- Norm and rotation of rows whose entries are known. -/
theorem turnedHeads_apply (z : FVec Ideal S16384x3072 .f32) (γ : FVec Ideal S64 .f32) (f : Nat → Nat → EReal)
    (hz : ∀ (R : Fin 16384) (c : Fin 3072), z (ix2 R c) = f R.val c.val) (d : Fin 64) :
    rotatedHeads (normedHeads (headsOf z) γ) (ix4 b p n d)
      = rotated (headNorm (f (b.val * 4096 + p.val)) (cell1 γ)) (cosOf p.val) (sinOf p.val) (64 * n.val + d.val) := by
  refine rotatedHeads_apply b p n _ _ (fun d => ?_) d
  have hd := d.isLt
  rw [normedHeads_apply]
  unfold headNorm
  have hh : ∀ d : Fin 64, headsOf z (ix4 b p n d) = f (b.val * 4096 + p.val) (64 * n.val + d.val) := fun d => by rw [headsOf_apply, hz]
  simp only [hh]
  rw [show (64 * n.val + d.val) / 64 = n.val by omega, show (64 * n.val + d.val) % 64 = d.val by omega, cell1_eq]

end Cert.ProjRefIdeal.Out

end
-- ==== Proof.Proj.Reference.lean ====
/- The value of the projection's reference: the projected rows, queries and keys normalised and rotated head by head. -/
module

public import proofs.«01_k».proof.Proof.Proj.Heads

@[expose] public section

noncomputable section

namespace Cert.ProjRefIdeal.Out

open Cert.ProjRefIdeal Cert.ProjRefIdeal.Gen Cert.ProjRefIdeal.Read Idealize.ShloMosaic Idealize.ShloMosaic.ValueIdx
open Cert.Band (cell2 cell2_eq)
open Cert.Rope (cell1 cell1_eq invRoot w1024 w8 eps cosOf sinOf headNorm rotated rowOf turnedAt layerAt)

variable (x : FVec Ideal S16384x1024 .f32) (g : FVec Ideal S1024 .f32) (w : FVec Ideal S1024x9216 .f32) (gq gk : FVec Ideal S64 .f32)

/-- The sum of a row's squares. -/
theorem rowSq_apply (R : Fin 16384) : val_main_v2 (F := Ideal) x (ix1 R) = ∑ k : Fin 1024, x (ix2 R k) * x (ix2 R k) := by
  rw [val_main_v2_apply, val_main_cst_apply]
  refine Eq.trans (congrArg₂ (fun a c : EReal => a + c) (show Ideal.ofBits .f32 0x00000000#32 = 0 by simp [Ideal.ofBits, Ideal.ieee])
    (Finset.sum_congr rfl fun k _ => ?_)) (zero_add _)
  rw [val_main_v1_apply, show idx_main_v2 (ix1 R) k = ix2 R k from eq_ix2 _]
  rfl

/-- The normalised row times the gain. -/
theorem normed_apply (R : Fin 16384) (k : Fin 1024) : val_main_v13 (F := Ideal) x g (ix2 R k) = Rope.hidden (cell2 x) (cell1 g) R.val k.val := by
  have e9 : val_main_v9 (F := Ideal) x (ix2 R k) = invRoot w1024 (fun k : Fin 1024 => x (ix2 R k)) := by
    rw [val_main_v9_apply, val_main_v8_apply, val_main_v7_apply, val_main_v6_apply, val_main_v5_apply, val_main_v4_apply, val_main_v3_apply,
      val_main_cst_0_apply, val_main_cst_1_apply]
    have e : val_main_v2 (F := Ideal) x (idx_main_v3 (idx_main_v9 (ix2 R k))) = ∑ k : Fin 1024, x (ix2 R k) * x (ix2 R k) :=
      (congrArg (val_main_v2 (F := Ideal) x) (eq_ix1 _)).trans (rowSq_apply x R)
    exact congrArg (fun s : EReal => Ideal.rsqrt (Ideal.div s w1024 + eps)) e
  have e12 : val_main_v12 (F := Ideal) g (ix2 R k) = g (ix1 k) := by
    rw [val_main_v12_apply, val_main_v11_apply]
    exact congrArg g (eq_ix1 _)
  rw [val_main_v13_apply, val_main_v10_apply, e9, e12]
  unfold Rope.hidden
  have hc : ∀ k : Fin 1024, cell2 x R.val k.val = x (ix2 R k) := fun k => cell2_eq x (ix2 R k) rfl rfl
  simp only [hc, cell1_eq]
  rfl

/-- The projected rows. -/
theorem rows_apply (R : Fin 16384) (c : Fin 9216) : val_main_v14 (F := Ideal) x g w (ix2 R c) = rowOf x g w R.val c.val := by
  rw [val_main_v14_apply]
  unfold Rope.rowOf Rope.linear
  refine Finset.sum_congr rfl fun k _ => ?_
  rw [show lidx_main_v14 (ix2 R c) k = ix2 R k from eq_ix2 _, show ridx_main_v14 (ix2 R c) k = ix2 k c from eq_ix2 _, normed_apply]
  exact congrArg (fun z : EReal => Rope.hidden (cell2 x) (cell1 g) R.val k.val * z) (cell2_eq w (ix2 k c) rfl rfl).symm

/-! ## The three parts of the result -/

theorem queries_eq : val_main_v64 (F := Ideal) x g w gq = rotatedHeads (normedHeads (headsOf (val_main_v15 (F := Ideal) x g w)) gq) := rfl
theorem keys_eq : val_main_v113 (F := Ideal) x g w gk = rotatedHeads (normedHeads (headsOf (val_main_v16 (F := Ideal) x g w)) gk) := rfl

/-- An array of heads, read as rows. -/
theorem asRows_apply (u : FVec Ideal S4x4096x48x64 .f32) (R : Fin 16384) (c : Fin 3072) :
    shapeCast S16384x3072 u shapeCasts_S4x4096x48x64_S16384x3072 (ix2 R c)
      = u (ix4 ⟨R.val / 4096, by omega⟩ ⟨R.val % 4096, by omega⟩ ⟨c.val / 64, by omega⟩ ⟨c.val % 64, by omega⟩) := by
  refine shapeCast_apply u _ (ix2 R c) _ ?_
  rw [Shape.rowMajor_val_two, Shape.rowMajor_val_four]
  show ((R.val / 4096 * 4096 + R.val % 4096) * 48 + c.val / 64) * 64 + c.val % 64 = R.val * 3072 + c.val
  omega

theorem queries_apply (R : Fin 16384) (c : Fin 3072) :
    val_main_v114 (F := Ideal) x g w gq (ix2 R c) = Ideal.div (turnedAt (rowOf x g w R.val) (cell1 gq) (R.val % 4096) c.val) w8 := by
  have hz : ∀ (R : Fin 16384) (c : Fin 3072), val_main_v15 (F := Ideal) x g w (ix2 R c) = rowOf x g w R.val c.val := fun R c => by
    rw [val_main_v15_apply, show idx_main_v15 (ix2 R c) = ix2 R ⟨c.val, by omega⟩ from eq_ix2 _, rows_apply]
  refine (asRows_apply (val_main_v66 (F := Ideal) x g w gq) R c).trans ?_
  rw [val_main_v66_apply, queries_eq, turnedHeads_apply _ _ _ _ gq (rowOf x g w) hz, val_main_v65_apply, val_main_cst_7_apply]
  dsimp only
  rw [show R.val / 4096 * 4096 + R.val % 4096 = R.val by omega, show 64 * (c.val / 64) + c.val % 64 = c.val by omega]
  rfl

theorem keys_apply (R : Fin 16384) (c : Fin 3072) :
    val_main_v115 (F := Ideal) x g w gk (ix2 R c) = turnedAt (rowOf x g w R.val) (cell1 gk) (R.val % 4096) (3072 + c.val) := by
  have hz : ∀ (R : Fin 16384) (c : Fin 3072), val_main_v16 (F := Ideal) x g w (ix2 R c) = (fun R c => rowOf x g w R (1024 * 3 + c)) R.val c.val := fun R c => by
    rw [val_main_v16_apply, show idx_main_v16 (ix2 R c) = ix2 R ⟨3072 + c.val, by omega⟩ from eq_ix2 _, rows_apply]
  refine (asRows_apply (val_main_v113 (F := Ideal) x g w gk) R c).trans ?_
  rw [keys_eq, turnedHeads_apply _ _ _ _ gk (fun R c => rowOf x g w R (1024 * 3 + c)) hz]
  dsimp only
  rw [show R.val / 4096 * 4096 + R.val % 4096 = R.val by omega, show 64 * (c.val / 64) + c.val % 64 = c.val by omega]
  exact Rope.turnedAt_shift (rowOf x g w R.val) (cell1 gk) 3 (R.val % 4096) c.val

theorem values_apply (R : Fin 16384) (c : Fin 3072) : val_main_v17 (F := Ideal) x g w (ix2 R c) = rowOf x g w R.val (6144 + c.val) := by
  rw [val_main_v17_apply, show idx_main_v17 (ix2 R c) = ix2 R ⟨6144 + c.val, by omega⟩ from eq_ix2 _, rows_apply]

/-- The reference's result: every row projected, its queries and keys normalised and rotated head by head. -/
theorem result_eq : val_main_v116 (F := Ideal) x g w gq gk = Rope.projected x g w gq gk := by
  funext i
  obtain ⟨R, c, rfl⟩ : ∃ (R : Fin 16384) (c : Fin 9216), i = ix2 R c := ⟨_, _, eq_ix2 i⟩
  have hc := c.isLt
  unfold Rope.projected Rope.layerAt
  show val_main_v116 (F := Ideal) x g w gq gk (ix2 R c) = if c.val < 3072 then _ else if c.val < 6144 then _ else rowOf x g w R.val c.val
  have piece : ∀ (j : Nat) (hj : j < 3) (d : Fin 3072) (y : FVec Ideal S16384x3072 .f32),
      [val_main_v114 (F := Ideal) x g w gq, val_main_v115 (F := Ideal) x g w gk, val_main_v17 (F := Ideal) x g w][j] = y →
      3072 * j + d.val = c.val → val_main_v116 (F := Ideal) x g w gq gk (ix2 R c) = y (ix2 R d) := fun j hj d y hy hd => by
    refine concatenate_apply_piece (t := S16384x9216) 1
      [⟨S16384x3072, val_main_v114 (F := Ideal) x g w gq⟩, ⟨S16384x3072, val_main_v115 (F := Ideal) x g w gk⟩, ⟨S16384x3072, val_main_v17 (F := Ideal) x g w⟩]
      concatenates_S16384x3072_S16384x3072_S16384x3072_S16384x9216_d1 (ix2 R c) j hj S16384x3072 y ?_ rfl (3072 * j) ?_ (ix2 R d) ?_ ?_
    · match j, hj with
      | 0, _ => exact congrArg _ hy
      | 1, _ => exact congrArg _ hy
      | 2, _ => exact congrArg _ hy
    · match j, hj with
      | 0, _ => rfl
      | 1, _ => rfl
      | 2, _ => rfl
    · intro a ha
      match a with
      | ⟨0, _⟩ => rfl
      | ⟨1, _⟩ => exact absurd rfl ha
    · exact hd
  by_cases h1 : c.val < 3072
  · rw [if_pos h1, piece 0 (by omega) ⟨c.val, h1⟩ (val_main_v114 (F := Ideal) x g w gq) rfl (by dsimp only; omega), queries_apply]
  · rw [if_neg h1]
    by_cases h2 : c.val < 6144
    · rw [if_pos h2, piece 1 (by omega) ⟨c.val - 3072, by omega⟩ (val_main_v115 (F := Ideal) x g w gk) rfl (by dsimp only; omega), keys_apply]
      dsimp only
      rw [show 3072 + (c.val - 3072) = c.val by omega]
    · rw [if_neg h2, piece 2 (by omega) ⟨c.val - 6144, by omega⟩ (val_main_v17 (F := Ideal) x g w) rfl (by dsimp only; omega), values_apply]
      dsimp only
      rw [show 6144 + (c.val - 6144) = c.val by omega]

end Cert.ProjRefIdeal.Out

end
-- ==== Proof.Proj.Claims.lean ====
/- The claims about the projection. -/
module

public import proofs.«01_k».proof.Defs
public import proofs.«01_k».proof.Proof.Gen.Proj.Frame
public import proofs.«01_k».proof.Proof.Gen.ProjIdeal.Frame
public import proofs.«01_k».proof.Proof.Gen.ProjRefIdeal.Run
public import proofs.«01_k».proof.Proof.Attn1.Claims
public import proofs.«01_k».proof.Proof.Proj.Array
public import proofs.«01_k».proof.Proof.Proj.Reference

@[expose] public section

noncomputable section

namespace Cert.ProjClaims

open Idealize.ShloMosaic Idealize.SL.Sem Idealize.ShloMosaic.ValueIdx Cert.Rope
open Cert.Attn1Claims (finite_of_abs_lt)

/-- The precondition's side conditions. -/
theorem facts_pre : Cert.Pre_proj_finite.Facts := ⟨by decide, by decide, by decide⟩

/-- The reference's frame: its run read at the arguments; it declares no semaphore. -/
theorem frame_ref : Cert.quiescent_ProjRefIdeal (hProjRefIdeal := Cert.ProjRefIdeal.Gen.facts) := fun m ρ _ =>
  (θ_run Cert.ProjRefIdeal.defs _ _).mono (fun r h => ⟨fun c => (h c).2, sem_eq_zero_of_no_sems (by decide) r.2⟩)
    (Cert.ProjRefIdeal.Value.run (F := Ideal) m ρ)

/-- Kernel and reference agree: both results are the projected rows, queries and keys normalised and rotated. -/
theorem algebraic : Cert.algebraic_ProjIdeal_ProjRefIdeal_pre_proj_finite (hProjIdeal := Cert.ProjIdeal.Gen.facts)
    (hProjRefIdeal := Cert.ProjRefIdeal.Gen.facts) (hPre_proj_finite := facts_pre) := by
  intro m ρ m' ρ' hpre hagree
  refine ⟨fun c => Cert.ProjIdeal.Out.outSpec m c, ?_, ?_⟩
  · refine (θ_run Cert.ProjIdeal.defs _ _).mono (fun r h c => ⟨(h c).1.trans ?_, (h c).2⟩) (Cert.ProjIdeal.Value.run_blocks m ρ)
    exact Cert.ProjIdeal.Out.final_spec m c (fun i => finite_of_abs_lt _ (congrFun (hpre c).1 i))
      (fun i => finite_of_abs_lt _ (congrFun (hpre c).2.1 i)) (fun i => finite_of_abs_lt _ (congrFun (hpre c).2.2 i))
  · refine (θ_run Cert.ProjRefIdeal.defs _ _).mono (fun r h c => ⟨(h c).1.trans ?_, (h c).2⟩) (Cert.ProjRefIdeal.Value.run (F := Ideal) m' ρ')
    refine (Cert.ProjRefIdeal.Read.val_main_v116_eq m' c).trans ?_
    rw [(hagree c).1, (hagree c).2.1, (hagree c).2.2.1, (hagree c).2.2.2.1, (hagree c).2.2.2.2]
    exact Cert.ProjRefIdeal.Out.result_eq _ _ _ _ _

end Cert.ProjClaims

end
-- ==== Proof.OutB.Array.lean ====
/- The output product with the residual: the result array, entry by entry. -/
module

public import proofs.«01_k».proof.Proof.Gen.OutBIdeal.Value
public import proofs.«01_k».proof.Proof.Rope.BodyAt
public import proofs.«01_k».proof.Proof.Band.Block

@[expose] public section

noncomputable section

namespace Cert.OutBIdeal.Out

open Cert.OutBIdeal Cert.OutBIdeal.Gen Idealize.ShloMosaic Idealize.ShloMosaic.ValueIdx Idealize.ShloMosaic.TcCoe
open Idealize.ShloMosaic.Pipeline (Dat)
open Cert.Band (cell2 cell2_eq)

variable (m : (ℓ : Loc nD τ sig) → Buf (Elt Ideal) ℓ) (c : Dev nD)

/-- The arguments as launched: the residual, the heads' outputs, the weights. -/
abbrev ax : S16384x1024.Idx → EReal := m ((c : Thread nD τ).loc main_arg0)
abbrev aa : S16384x1024.Idx → EReal := m ((c : Thread nD τ).loc main_arg1)
abbrev aw : S1024x1024.Idx → EReal := m ((c : Thread nD τ).loc main_arg2)

/-- Every entry of the result: the residual and the row's product with a column. -/
def outSpec : S16384x1024.Idx → EReal := fun i =>
  ax m c i + ∑ k : Fin 1024, aa m c (ix2 (i 0) k) * aw m c (ix2 k (i 1))

/-! ## The body at an entry -/

theorem offset_zero : (![0, 0] : Fin 2 → Nat) = fun _ => 0 := by
  funext a; match a with | ⟨0, _⟩ => rfl | ⟨1, _⟩ => rfl

theorem pay_apply (x a : S512x1024.Idx → EReal) (w : S1024x1024.Idx → EReal) (r : Fin 512) (l : Fin 1024) :
    (k0_pay1 (F := Ideal) x a w : S512x1024.Idx → EReal) (ix2 r l) = x (ix2 r l) + ∑ k : Fin 1024, a (ix2 r k) * w (ix2 k l) :=
  congrArg (fun s : EReal => x (ix2 r l) + s) (Rope.prod_apply (truncf (F := Ideal) .bf16 a bitsLt_bf16_f32) w r l)

theorem out_apply (x a : S512x1024.Idx → EReal) (w : S1024x1024.Idx → EReal) (r : Fin 512) (l : Fin 1024) :
    (out0_3 (F := Ideal) x a w : S512x1024.Idx → EReal) (ix2 r l) = x (ix2 r l) + ∑ k : Fin 1024, a (ix2 r k) * w (ix2 k l) := by
  unfold out0_3 r0_0 r0_1
  rw [View.canon_unit_zero (S := S512x1024) offset_zero, View.ld_unit_zero (S := S512x1024) offset_zero,
    View.ld_unit_zero (S := S512x1024) offset_zero, View.ld_unit_zero (S := S1024x1024) offset_zero]
  exact pay_apply x a w r l

/-! ## The index maps -/

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)

/-! ## The input blocks -/

section
variable (t : Fin cfg0.N)

/-- Window 0: the residual's rows. -/
theorem block0 (r : Fin 512) (k : Fin 1024) : (iblk m c 0 t : S512x1024.Idx → EReal) (ix2 r k) = cell2 (ax m c) (t.val * 512 + r.val) k.val := by
  obtain ⟨e0, e1⟩ := index0 t
  have e : (V m c main_arg0 : S16384x1024.Idx → EReal) = ax m c := by rfl
  refine Eq.trans ?_ (cell2_eq (ax m c) ((win0_0.rect t).emb (ix2 r k)) ?_ ?_).symm
  · rw [← e]; rfl
  · rw [win0_0.rect_emb_val t _ 0 rfl, e0]; rfl
  · rw [win0_0.rect_emb_val t _ 1 rfl, e1]; exact (congrArg (· + k.val) (Nat.zero_mul _)).trans (Nat.zero_add _)

/-- Window 1: the heads' rows. -/
theorem block1 (r : Fin 512) (k : Fin 1024) : (iblk m c 1 t : S512x1024.Idx → EReal) (ix2 r k) = cell2 (aa m c) (t.val * 512 + r.val) k.val := by
  obtain ⟨e0, e1⟩ := index1 t
  have e : (V m c main_arg1 : S16384x1024.Idx → EReal) = aa m c := by rfl
  refine Eq.trans ?_ (cell2_eq (aa m c) ((win0_1.rect t).emb (ix2 r k)) ?_ ?_).symm
  · rw [← e]; rfl
  · rw [win0_1.rect_emb_val t _ 0 rfl, e0]; rfl
  · rw [win0_1.rect_emb_val t _ 1 rfl, e1]; exact (congrArg (· + k.val) (Nat.zero_mul _)).trans (Nat.zero_add _)

/-- Window 2: the weights, whole; the host's rounding is the identity. -/
theorem block2 (k l : Fin 1024) : (iblk m c 2 t : S1024x1024.Idx → EReal) (ix2 k l) = cell2 (aw m c) k.val l.val := by
  obtain ⟨e0, e1⟩ := index2 t
  have e : (V m c main_v0 : S1024x1024.Idx → EReal) = aw m c := by rfl
  refine Eq.trans ?_ (cell2_eq (aw m c) ((win0_2.rect t).emb (ix2 k l)) ?_ ?_).symm
  · rw [← e]; rfl
  · rw [win0_2.rect_emb_val t _ 0 rfl, e0]; exact (congrArg (· + k.val) (Nat.zero_mul _)).trans (Nat.zero_add _)
  · rw [win0_2.rect_emb_val t _ 1 rfl, e1]; exact (congrArg (· + l.val) (Nat.zero_mul _)).trans (Nat.zero_add _)

end

/-! ## The result -/

/-- Point `t` writes back its rows of the result. -/
theorem flushed_eq (t : Fin cfg0.N) : (dats m 0 c).flushed 3 t = (win0_3.blk t).view.read (Elt Ideal) (outSpec m c) := by
  rw [Value.flushed3]
  funext y
  obtain ⟨r, l, rfl⟩ : ∃ (r : Fin 512) (l : Fin 1024), y = ix2 r l := ⟨y 0, y 1, eq_ix2 y⟩
  obtain ⟨e0, e1⟩ := index3 t
  have h0 : ((win0_3.rect t).emb (ix2 r l) 0).val = t.val * 512 + r.val := by rw [win0_3.rect_emb_val t _ 0 rfl, e0]; rfl
  have h1 : ((win0_3.rect t).emb (ix2 r l) 1).val = l.val := by
    rw [win0_3.rect_emb_val t _ 1 rfl, e1]; exact (congrArg (· + l.val) (Nat.zero_mul _)).trans (Nat.zero_add _)
  refine (out_apply (iblk m c 0 t) (iblk m c 1 t) (iblk m c 2 t) r l).trans ?_
  show _ = outSpec m c ((win0_3.rect t).emb (ix2 r l))
  unfold outSpec
  refine congrArg₂ (fun a b : EReal => a + b) ?_ (Finset.sum_congr rfl fun k _ => congrArg₂ (fun a b : EReal => a * b) ?_ ?_)
  · exact (block0 m c t r l).trans (cell2_eq (ax m c) _ h0 h1)
  · exact (block1 m c t r k).trans (cell2_eq (aa m c) (ix2 _ k) h0 rfl)
  · exact (block2 m c t k l).trans (cell2_eq (aw m c) (ix2 k _) rfl h1)

/-- Every entry is in a block. -/
theorem cover (i : S16384x1024.Idx) : ∃ t : Fin cfg0.N, (cfg0.win 3).flush t = true ∧ i ∈ ((cfg0.win 3).blk t).view.set := by
  have h0 : (i 0).val < 16384 := (i 0).isLt
  have h1 : (i 1).val < 1024 := (i 1).isLt
  have hN : cfg0.N = 32 := N_0
  refine ⟨⟨(i 0).val / 512, by omega⟩, flush0_3 _, ?_⟩
  generalize ht : (⟨(i 0).val / 512, _⟩ : Fin cfg0.N) = t
  have hv : (i 0).val / 512 = t.val := congrArg Fin.val ht
  obtain ⟨e0, e1⟩ := index3 t
  show i ∈ ((View.whole main_v1).slice (win0_3.rect t)).set
  rw [View.set_slice_whole]
  refine Rect.mem_set_unit.2 fun a => ?_
  match a with
  | ⟨0, _⟩ => show win0_3.index t 0 * 512 ≤ (i 0).val ∧ (i 0).val < win0_3.index t 0 * 512 + 512; rw [e0]; omega
  | ⟨1, _⟩ => show win0_3.index t 1 * 1024 ≤ (i 1).val ∧ (i 1).val < win0_3.index t 1 * 1024 + 1024; rw [e1]; omega

/-- The result array after the run. -/
theorem final_spec : (dats m 0 c).arrAt 3 cfg0.N = outSpec m c :=
  (dats m 0 c).arrAt_eq_of_cover 3 (outSpec m c) (fun t _ => flushed_eq m c t) cover

end Cert.OutBIdeal.Out

end
-- ==== Proof.OutB.Claims.lean ====
/- The claims about the output product with the residual. -/
module

public import proofs.«01_k».proof.Defs
public import proofs.«01_k».proof.Proof.Gen.OutB.Frame
public import proofs.«01_k».proof.Proof.Gen.OutBIdeal.Frame
public import proofs.«01_k».proof.Proof.Gen.OutBRefIdeal.Run
public import proofs.«01_k».proof.Proof.Gen.OutBRefIdeal.Read
public import proofs.«01_k».proof.Proof.OutB.Array

@[expose] public section

noncomputable section

namespace Cert.OutBClaims

open Idealize.ShloMosaic Idealize.SL.Sem Idealize.ShloMosaic.ValueIdx

/-- The reference's frame: its run read at the arguments; it declares no semaphore. -/
theorem frame_ref : Cert.quiescent_OutBRefIdeal (hOutBRefIdeal := Cert.OutBRefIdeal.Gen.facts) := fun m ρ _ =>
  (θ_run Cert.OutBRefIdeal.defs _ _).mono (fun r h => ⟨fun c => (h c).2, sem_eq_zero_of_no_sems (by decide) r.2⟩)
    (Cert.OutBRefIdeal.Value.run (F := Ideal) m ρ)

/-- The reference's result at an entry: the residual and the row's product with a column. -/
theorem reference_apply (x a : Cert.OutBRefIdeal.S16384x1024.Idx → EReal) (w : Cert.OutBRefIdeal.S1024x1024.Idx → EReal) (i : Cert.OutBRefIdeal.S16384x1024.Idx) :
    (Cert.OutBRefIdeal.Read.val_main_v1 (F := Ideal) x a w : Cert.OutBRefIdeal.S16384x1024.Idx → EReal) i
      = x i + ∑ k : Fin 1024, a (ix2 (i 0) k) * w (ix2 k (i 1)) := by
  show x i + (Cert.OutBRefIdeal.Read.val_main_v0 (F := Ideal) a w : Cert.OutBRefIdeal.S16384x1024.Idx → EReal) i = _
  refine congrArg (fun s : EReal => x i + s) ?_
  refine (Cert.OutBRefIdeal.Read.val_main_v0_apply a w i).trans (Finset.sum_congr rfl fun k _ => ?_)
  exact congrArg₂ (fun p q : EReal => p * q) (congrArg a (eq_ix2 _)) (congrArg w (eq_ix2 _))

/-- The value claim: kernel and reference end with the same result. -/
theorem algebraic : Cert.algebraic_OutBIdeal_OutBRefIdeal (hOutBIdeal := Cert.OutBIdeal.Gen.facts) (hOutBRefIdeal := Cert.OutBRefIdeal.Gen.facts) := by
  intro m ρ m' ρ' _ hagree
  refine ⟨fun c => Cert.OutBIdeal.Out.outSpec m c, ?_, ?_⟩
  · refine (θ_run Cert.OutBIdeal.defs _ _).mono (fun r h c => ⟨(h c).1.trans ?_, (h c).2⟩) (Cert.OutBIdeal.Value.run_blocks m ρ)
    exact Cert.OutBIdeal.Out.final_spec m c
  · refine (θ_run Cert.OutBRefIdeal.defs _ _).mono (fun r h c => ⟨(h c).1.trans ?_, (h c).2⟩) (Cert.OutBRefIdeal.Value.run (F := Ideal) m' ρ')
    refine (Cert.OutBRefIdeal.Read.val_main_v1_eq (F := Ideal) _ _ _).trans ?_
    rw [(hagree c).1, (hagree c).2.1, (hagree c).2.2]
    exact funext fun i => reference_apply _ _ _ i

end Cert.OutBClaims

end
-- ==== Proof.OutA.Merge.lean ====
/- The merge of three attentions by their logs of sums: what it computes at an entry, and the kernel's body at an entry. -/
module

public import proofs.«01_k».proof.Proof.Gen.OutAIdeal.Value
public import proofs.«01_k».proof.Proof.Rope.BodyAt
public import proofs.«01_k».proof.Proof.Band.Spec

@[expose] public section

noncomputable section

namespace Cert.OutA

open Cert.OutAIdeal Cert.OutAIdeal.Gen Idealize.ShloMosaic Idealize.ShloMosaic.ValueIdx

/-! ## The shares -/

/-- The greatest of three logs. -/
def top3 (a b c : EReal) : EReal := max (max a b) c

/-- The sum of three exponentials, shifted by the greatest. -/
def total3 (a b c : EReal) : EReal :=
  Ideal.exp (a - top3 a b c) + Ideal.exp (b - top3 a b c) + Ideal.exp (c - top3 a b c)

/-- The share of the log `s` among three logs. -/
def share (a b c s : EReal) : EReal := Ideal.div (Ideal.exp (s - top3 a b c)) (total3 a b c)

/-- The three shares' mix of three numbers. -/
def mix (a b c x y z : EReal) : EReal := share a b c a * x + share a b c b * y + share a b c c * z

/-- The exponential of a number not above zero is a nonnegative real. -/
theorem exp_real {x : EReal} (h : x ≤ 0) : ∃ r : ℝ, 0 ≤ r ∧ Ideal.exp x = (r : EReal) := by
  induction x with
  | bot => exact ⟨0, le_refl _, rfl⟩
  | top => exact absurd h (by simp)
  | coe r => exact ⟨Real.exp r, (Real.exp_pos r).le, rfl⟩

/-- A log less a greater one is not above zero. -/
theorem sub_top_nonpos {s t : EReal} (h : s ≤ t) : s - t ≤ 0 :=
  (EReal.sub_le_sub h (le_refl t)).trans EReal.sub_self_le_zero

/-- A quotient of nonnegative reals, the divisor not below the dividend, is not `⊤`. -/
theorem div_ne_top {r z : ℝ} (hr : 0 ≤ r) (hz : r ≤ z) : Ideal.div (r : EReal) (z : EReal) ≠ ⊤ := by
  unfold Ideal.div
  by_cases h : (z : EReal) = 0
  · have hz0 : z = 0 := by exact_mod_cast h
    have hr0 : r = 0 := le_antisymm (hz.trans hz0.le) hr
    rw [if_pos h, hr0]
    simp
  · rw [if_neg h, ← EReal.coe_inv, ← EReal.coe_mul]
    exact EReal.coe_ne_top _

/-- A share is never `⊤`. -/
theorem share_ne_top (a b c s : EReal) (h : s = a ∨ s = b ∨ s = c) : share a b c s ≠ ⊤ := by
  obtain ⟨p, hp, ep⟩ := exp_real (sub_top_nonpos (s := a) (t := top3 a b c) ((le_max_left a b).trans (le_max_left _ c)))
  obtain ⟨q, hq, eq⟩ := exp_real (sub_top_nonpos (s := b) (t := top3 a b c) ((le_max_right a b).trans (le_max_left _ c)))
  obtain ⟨r, hr, er⟩ := exp_real (sub_top_nonpos (s := c) (t := top3 a b c) (le_max_right _ c))
  have ez : total3 a b c = ((p + q + r : ℝ) : EReal) := by
    unfold total3
    rw [ep, eq, er, ← EReal.coe_add, ← EReal.coe_add]
  unfold share
  rw [ez]
  rcases h with h | h | h
  · rw [h, ep]; exact div_ne_top hp (by linarith)
  · rw [h, eq]; exact div_ne_top hq (by linarith)
  · rw [h, er]; exact div_ne_top hr (by linarith)

/-- A number that is not `⊤` and its remainder after rounding to itself add up to it. -/
theorem add_sub_self {x : EReal} (h : x ≠ ⊤) : x + (x - x) = x := by
  induction x with
  | bot => rfl
  | top => exact absurd rfl h
  | coe r => rw [← EReal.coe_sub, sub_self, EReal.coe_zero, add_zero]

/-! ## Spreading a head's share over its lanes -/

/-- The product of 128 columns with the matrix that spreads them over 1024 lanes. -/
abbrev dotSpread : DotDims S512x128 S128x1024 S512x1024 := dot_S512x128_S128x1024_S512x1024_1_0_0_1_n_n

/-- The product at an entry. -/
theorem dotSpread_apply (p : FVec Ideal S512x128 .bf16) (ex : FVec Ideal S128x1024 .bf16) (r : Fin 512) (l : Fin 1024) :
    (matmul dotSpread none p ex (constant S512x1024 .f32 0x00000000#32) : S512x1024.Idx → EReal) (ix2 r l) = ∑ h : Fin 128, p (ix2 r h) * ex (ix2 h l) := by
  refine (Ideal.matmul_constant_zero_apply (φ₁ := .bf16) (φ₂ := .bf16) dotSpread none p ex _).trans ?_
  refine (Equiv.sum_comp (contrEquiv1 dotSpread 128 rfl rfl).symm _).symm.trans (Finset.sum_congr rfl fun k _ => ?_)
  refine congrArg₂ (fun a b => a * b) (congrArg p ?_) (congrArg ex ?_)
  · funext a; match a with | ⟨0, _⟩ => rfl | ⟨1, _⟩ => rfl
  · funext a; match a with | ⟨0, _⟩ => rfl | ⟨1, _⟩ => rfl

/-- The spread: the product of the rounded columns and that of what rounding left. -/
def spread (a : FVec Ideal S512x128 .f32) (ex : FVec Ideal S128x1024 .bf16) : FVec Ideal S512x1024 .f32 :=
  addf (matmul dotSpread none (truncf .bf16 a bitsLt_bf16_f32) (shapeCast S128x1024 ex shapeCasts_S128x1024_S128x1024) (constant S512x1024 .f32 0x00000000#32))
    (matmul dotSpread none (truncf .bf16 (subf a (extf .f32 (truncf .bf16 a bitsLt_bf16_f32) bitsLt_bf16_f32)) bitsLt_bf16_f32)
      (shapeCast S128x1024 ex shapeCasts_S128x1024_S128x1024) (constant S512x1024 .f32 0x00000000#32))

/-- The head of a lane. -/
abbrev headLane (l : Fin 1024) : Fin 128 := ⟨l.val / 64, by have := l.isLt; omega⟩

/-- The spreading matrix: a head's row is one on its 64 lanes and zero elsewhere. -/
def Spreads (ex : FVec Ideal S128x1024 .bf16) : Prop :=
  ∀ (h : Fin 128) (l : Fin 1024), (ex (ix2 h l) : EReal) = if h = headLane l then 1 else 0

/-- A product with the spreading matrix picks the lane's head. -/
theorem pick (ex : FVec Ideal S128x1024 .bf16) (he : Spreads ex) (l : Fin 1024) (f : Fin 128 → EReal) :
    ∑ h : Fin 128, f h * (ex (ix2 h l) : EReal) = f (headLane l) := by
  refine (Finset.sum_eq_single (headLane l) (fun h _ hne => ?_) (fun h => absurd (Finset.mem_univ _) h)).trans ?_
  · rw [he, if_neg hne, mul_zero]
  · rw [he, if_pos rfl, mul_one]

/-- The spread at an entry is the lane's head's number. -/
theorem spread_apply (a : FVec Ideal S512x128 .f32) (ex : FVec Ideal S128x1024 .bf16) (he : Spreads ex) (r : Fin 512) (l : Fin 1024)
    (ha : (a (ix2 r (headLane l)) : EReal) ≠ ⊤) : (spread a ex (ix2 r l) : EReal) = a (ix2 r (headLane l)) := by
  unfold spread
  rw [shapeCast_self]
  refine (congrArg₂ (fun p q : EReal => p + q) ((dotSpread_apply _ ex r l).trans (pick ex he l fun h => a (ix2 r h)))
    ((dotSpread_apply _ ex r l).trans (pick ex he l fun h => (a (ix2 r h) : EReal) - a (ix2 r h)))).trans ?_
  exact add_sub_self ha

/-! ## The body -/

section
variable (x o1 o2 o3 : FVec Ideal S512x1024 .f32) (l1 l2 l3 : FVec Ideal S512x128 .f32) (ex : FVec Ideal S128x1024 .bf16) (w : FVec Ideal S1024x1024 .bf16)

/-- The mixed rows. -/
def mixed : FVec Ideal S512x1024 .f32 :=
  addf (addf (mulf (spread (divf (k0_pay3 l1 l2 l3) (k0_pay6 l1 l2 l3)) ex) o1) (mulf (spread (divf (k0_pay4 l1 l2 l3) (k0_pay6 l1 l2 l3)) ex) o2))
    (mulf (spread (divf (k0_pay5 l1 l2 l3) (k0_pay6 l1 l2 l3)) ex) o3)

/-- What the body stores. -/
theorem stored_eq : k0_pay1 (F := Ideal) (k0_pay7 l1 l2 l3 ex o1 ex o2) (k0_pay8 l1 l2 l3) ex o3 x w
    = addf x (Rope.prod (truncf .bf16 (mixed o1 o2 o3 l1 l2 l3 ex) bitsLt_bf16_f32) w) := rfl

/-- The mixed rows at an entry. -/
theorem mixed_apply (he : Spreads ex) (r : Fin 512) (k : Fin 1024) : (mixed o1 o2 o3 l1 l2 l3 ex (ix2 r k) : EReal)
    = mix (l1 (ix2 r (headLane k))) (l2 (ix2 r (headLane k))) (l3 (ix2 r (headLane k))) (o1 (ix2 r k)) (o2 (ix2 r k)) (o3 (ix2 r k)) := by
  refine congrArg₂ (fun p q : EReal => p + q) (congrArg₂ (fun p q : EReal => p + q) ?_ ?_) ?_
  · exact congrArg (fun p : EReal => p * o1 (ix2 r k)) (spread_apply _ ex he r k (share_ne_top _ _ _ _ (Or.inl rfl)))
  · exact congrArg (fun p : EReal => p * o2 (ix2 r k)) (spread_apply _ ex he r k (share_ne_top _ _ _ _ (Or.inr (Or.inl rfl))))
  · exact congrArg (fun p : EReal => p * o3 (ix2 r k)) (spread_apply _ ex he r k (share_ne_top _ _ _ _ (Or.inr (Or.inr rfl))))

/-- What the body stores, at an entry. -/
theorem stored_apply (he : Spreads ex) (r : Fin 512) (l : Fin 1024) :
    (k0_pay1 (F := Ideal) (k0_pay7 l1 l2 l3 ex o1 ex o2) (k0_pay8 l1 l2 l3) ex o3 x w (ix2 r l) : EReal)
      = x (ix2 r l) + ∑ k : Fin 1024, mix (l1 (ix2 r (headLane k))) (l2 (ix2 r (headLane k))) (l3 (ix2 r (headLane k)))
          (o1 (ix2 r k)) (o2 (ix2 r k)) (o3 (ix2 r k)) * w (ix2 k l) := by
  rw [stored_eq]
  refine congrArg (fun s : EReal => x (ix2 r l) + s) ((Rope.prod_apply _ w r l).trans (Finset.sum_congr rfl fun k _ => ?_))
  exact congrArg (fun s : EReal => s * w (ix2 k l)) (mixed_apply o1 o2 o3 l1 l2 l3 ex he r k)

theorem offset_zero : (![0, 0] : Fin 2 → Nat) = fun _ => 0 := by
  funext a; match a with | ⟨0, _⟩ => rfl | ⟨1, _⟩ => rfl

/-- What the body leaves in the output's block, at an entry. -/
theorem out_apply (he : Spreads ex) (r : Fin 512) (l : Fin 1024) :
    (out0_9 (F := Ideal) x o1 o2 o3 l1 l2 l3 ex w (ix2 r l) : EReal)
      = x (ix2 r l) + ∑ k : Fin 1024, mix (l1 (ix2 r (headLane k))) (l2 (ix2 r (headLane k))) (l3 (ix2 r (headLane k)))
          (o1 (ix2 r k)) (o2 (ix2 r k)) (o3 (ix2 r k)) * w (ix2 k l) := by
  unfold out0_9 r0_0 r0_1 r0_2 r0_3
  simp only [View.canon_unit_zero (S := S512x1024) offset_zero, View.ld_unit_zero (S := S512x1024) offset_zero,
    View.ld_unit_zero (S := S512x128) offset_zero, View.ld_unit_zero (S := S128x1024) offset_zero, View.ld_unit_zero (S := S1024x1024) offset_zero]
  exact stored_apply x o1 o2 o3 l1 l2 l3 ex w he r l

end

end Cert.OutA

end
-- ==== Proof.OutA.Array.lean ====
/- The merge and its output product: the result array, entry by entry. -/
module

public import proofs.«01_k».proof.Proof.OutA.Merge
public import proofs.«01_k».proof.Proof.Proj.Array
public import proofs.«01_k».proof.Proof.Band.Block

@[expose] public section

noncomputable section

namespace Cert.OutA

open Cert.OutAIdeal Cert.OutAIdeal.Gen Idealize.ShloMosaic Idealize.ShloMosaic.ValueIdx Idealize.ShloMosaic.TcCoe
open Idealize.ShloMosaic.Pipeline (Dat)
open Cert.Band (cell2 cell2_eq)
open Cert.ProjIdeal.Out (headOf headWord headOf_apply emb_whole)

variable (m : (ℓ : Loc nD τ sig) → Buf (Elt Ideal) ℓ) (c : Dev nD)

/-- The arguments as launched: the residual, three attentions' outputs, their logs of sums, the weights. -/
abbrev ax : S16384x1024.Idx → EReal := m ((c : Thread nD τ).loc main_arg0)
abbrev ao1 : S16384x1024.Idx → EReal := m ((c : Thread nD τ).loc main_arg1)
abbrev ao2 : S16384x1024.Idx → EReal := m ((c : Thread nD τ).loc main_arg2)
abbrev ao3 : S16384x1024.Idx → EReal := m ((c : Thread nD τ).loc main_arg3)
abbrev al1 : S16384x128.Idx → EReal := m ((c : Thread nD τ).loc main_arg4)
abbrev al2 : S16384x128.Idx → EReal := m ((c : Thread nD τ).loc main_arg5)
abbrev al3 : S16384x128.Idx → EReal := m ((c : Thread nD τ).loc main_arg6)
abbrev aw : S1024x1024.Idx → EReal := m ((c : Thread nD τ).loc main_arg7)

/-- The merge and its product with the residual, at every entry. -/
def merged (x o1 o2 o3 : S16384x1024.Idx → EReal) (l1 l2 l3 : S16384x128.Idx → EReal) (w : S1024x1024.Idx → EReal) : S16384x1024.Idx → EReal := fun i =>
  x i + ∑ k : Fin 1024, mix (l1 (ix2 (i 0) (headLane k))) (l2 (ix2 (i 0) (headLane k))) (l3 (ix2 (i 0) (headLane k)))
    (o1 (ix2 (i 0) k)) (o2 (ix2 (i 0) k)) (o3 (ix2 (i 0) k)) * w (ix2 k (i 1))

/-- The result. -/
def outSpec : S16384x1024.Idx → EReal :=
  merged (ax m c) (ao1 m c) (ao2 m c) (ao3 m c) (al1 m c) (al2 m c) (al3 m c) (aw m c)

/-! ## The spreading matrix -/

/-- The heads down, the lanes across. -/
def downHeads : IVec S128x1 32 := broadcastInDim S128x1 ![0] bcast_S128_S128x1_0 (iotaInDim S128 32 0)
def acrossLanes : IVec S1x1024 32 := broadcastInDim S1x1024 ![1] bcast_S1024_S1x1024_1 (iotaInDim S1024 32 0)

theorem v4_eq : (V m c main_v4 : S1x1024.Idx → BitVec 32) = headOf bcast_S_S1x1024 acrossLanes := by rfl

/-- The host's floor division of each lane by 64 is the lane's head. -/
theorem headWord_lane : ∀ l : Fin 1024, headWord (BitVec.ofNat 32 l.val) = BitVec.ofNat 32 (l.val / 64) := by
  decide +kernel

/-- Heads compare as their words. -/
theorem same_word (a b : Fin 128) : IntOp.cmpi .eq (BitVec.ofNat 32 a.val) (BitVec.ofNat 32 b.val) = BitVec.ofBool (decide (a = b)) := by
  have e : (BitVec.ofNat 32 a.val == BitVec.ofNat 32 b.val) = decide (a = b) := by
    have ha := a.isLt
    have hb := b.isLt
    by_cases h : a = b
    · rw [h]; simp
    · have : BitVec.ofNat 32 a.val ≠ BitVec.ofNat 32 b.val := by
        intro hh
        have := congrArg BitVec.toNat hh
        simp only [BitVec.toNat_ofNat] at this
        exact h (Fin.ext (by omega))
      simp [h, this]
  show BitVec.ofBool (BitVec.ofNat 32 a.val == BitVec.ofNat 32 b.val) = _
  rw [e]

/-- A truth value as a number. -/
theorem number_of (p : Prop) [Decidable p] : (FloatOps.uitofp (F := Ideal) .bf16 (BitVec.ofBool (decide p)) : EReal) = if p then 1 else 0 := by
  by_cases h : p
  · rw [if_pos h, decide_eq_true h]
    show (((BitVec.ofBool true).toNat : ℝ) : EReal) = 1
    simp
  · rw [if_neg h, decide_eq_false h]
    show (((BitVec.ofBool false).toNat : ℝ) : EReal) = 0
    simp

/-- The matrix the host builds spreads a head over its lanes. -/
theorem v8_spreads : Spreads (V m c main_v8 : S128x1024.Idx → EReal) := by
  intro h l
  have e : (V m c main_v8 : S128x1024.Idx → EReal) = uitofp (F := Ideal) .bf16 (cmpi .eq
      (broadcastInDim S128x1024 ![0, 1] bcast_S128x1_S128x1024_0_1 downHeads)
      (broadcastInDim S128x1024 ![0, 1] bcast_S1x1024_S128x1024_0_1 (headOf bcast_S_S1x1024 acrossLanes))) := by rfl
  have e2 : broadcastInDim S128x1024 ![0, 1] bcast_S128x1_S128x1024_0_1 downHeads (ix2 h l) = BitVec.ofNat 32 h.val := by
    rw [broadcastInDim_apply _ bcast_S128x1_S128x1024_0_1 _ (ix2 h l) (ix2 h u0) (fun a => by match a with | ⟨0, _⟩ => rfl | ⟨1, _⟩ => rfl)]
    exact broadcastInDim_apply _ bcast_S128_S128x1_0 _ (ix2 h u0) (ix1 h) (fun a => by match a with | ⟨0, _⟩ => rfl)
  have e4 : broadcastInDim S128x1024 ![0, 1] bcast_S1x1024_S128x1024_0_1 (headOf bcast_S_S1x1024 acrossLanes) (ix2 h l) = BitVec.ofNat 32 (headLane l).val := by
    rw [broadcastInDim_apply _ bcast_S1x1024_S128x1024_0_1 _ (ix2 h l) (ix2 u0 l) (fun a => by match a with | ⟨0, _⟩ => rfl | ⟨1, _⟩ => rfl),
      headOf_apply, ← headWord_lane]
    exact congrArg headWord (broadcastInDim_apply _ bcast_S1024_S1x1024_1 _ (ix2 u0 l) (ix1 l) (fun a => by match a with | ⟨0, _⟩ => rfl))
  rw [e]
  exact (congrArg (FloatOps.uitofp (F := Ideal) .bf16) ((congrArg₂ (IntOp.cmpi .eq) e2 e4).trans (same_word h (headLane l)))).trans (number_of _)

/-! ## The index maps -/

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)
theorem index9 : ∀ t : Fin cfg0.N, win0_9.index t 0 = t.val ∧ win0_9.index t 1 = 0 :=
  (by decide +kernel : ∀ t : Fin grid0.N, win0_9.index t 0 = t.val ∧ win0_9.index t 1 = 0)

/-! ## The input blocks -/

section
variable (t : Fin cfg0.N)

/-- A row of block `t`. -/
abbrev rowAt (r : Fin 512) : Fin 16384 := ⟨t.val * 512 + r.val, by have := t.isLt; have hN : cfg0.N = 32 := N_0; have := r.isLt; omega⟩

theorem zero_block {n : Nat} (k : Nat) : 0 * n + k = k := by omega

/-- Window 0: the residual's rows. -/
theorem block0 (r : Fin 512) (k : Fin 1024) : (iblk m c 0 t : S512x1024.Idx → EReal) (ix2 r k) = ax m c (ix2 (rowAt t r) k) := by
  obtain ⟨e0, e1⟩ := index0 t
  have e : (V m c main_arg0 : S16384x1024.Idx → EReal) = ax m c := by rfl
  refine Eq.trans ?_ (congrArg (ax m c) (emb_whole ((win0_0.rect t).emb (ix2 r k)) (rowAt t r) k ?_ ?_))
  · rw [← e]; rfl
  · rw [win0_0.rect_emb_val t _ 0 rfl, e0]; rfl
  · rw [win0_0.rect_emb_val t _ 1 rfl, e1]; exact zero_block k.val

/-- Windows 1 to 3: the attentions' rows. -/
theorem block1 (r : Fin 512) (k : Fin 1024) : (iblk m c 1 t : S512x1024.Idx → EReal) (ix2 r k) = ao1 m c (ix2 (rowAt t r) k) := by
  obtain ⟨e0, e1⟩ := index1 t
  have e : (V m c main_arg1 : S16384x1024.Idx → EReal) = ao1 m c := by rfl
  refine Eq.trans ?_ (congrArg (ao1 m c) (emb_whole ((win0_1.rect t).emb (ix2 r k)) (rowAt t r) k ?_ ?_))
  · rw [← e]; rfl
  · rw [win0_1.rect_emb_val t _ 0 rfl, e0]; rfl
  · rw [win0_1.rect_emb_val t _ 1 rfl, e1]; exact zero_block k.val

theorem block2 (r : Fin 512) (k : Fin 1024) : (iblk m c 2 t : S512x1024.Idx → EReal) (ix2 r k) = ao2 m c (ix2 (rowAt t r) k) := by
  obtain ⟨e0, e1⟩ := index2 t
  have e : (V m c main_arg2 : S16384x1024.Idx → EReal) = ao2 m c := by rfl
  refine Eq.trans ?_ (congrArg (ao2 m c) (emb_whole ((win0_2.rect t).emb (ix2 r k)) (rowAt t r) k ?_ ?_))
  · rw [← e]; rfl
  · rw [win0_2.rect_emb_val t _ 0 rfl, e0]; rfl
  · rw [win0_2.rect_emb_val t _ 1 rfl, e1]; exact zero_block k.val

theorem block3 (r : Fin 512) (k : Fin 1024) : (iblk m c 3 t : S512x1024.Idx → EReal) (ix2 r k) = ao3 m c (ix2 (rowAt t r) k) := by
  obtain ⟨e0, e1⟩ := index3 t
  have e : (V m c main_arg3 : S16384x1024.Idx → EReal) = ao3 m c := by rfl
  refine Eq.trans ?_ (congrArg (ao3 m c) (emb_whole ((win0_3.rect t).emb (ix2 r k)) (rowAt t r) k ?_ ?_))
  · rw [← e]; rfl
  · rw [win0_3.rect_emb_val t _ 0 rfl, e0]; rfl
  · rw [win0_3.rect_emb_val t _ 1 rfl, e1]; exact zero_block k.val

/-- Windows 4 to 6: the logs of sums. -/
theorem block4 (r : Fin 512) (h : Fin 128) : (iblk m c 4 t : S512x128.Idx → EReal) (ix2 r h) = al1 m c (ix2 (rowAt t r) h) := by
  obtain ⟨e0, e1⟩ := index4 t
  have e : (V m c main_arg4 : S16384x128.Idx → EReal) = al1 m c := by rfl
  refine Eq.trans ?_ (congrArg (al1 m c) (emb_whole ((win0_4.rect t).emb (ix2 r h)) (rowAt t r) h ?_ ?_))
  · rw [← e]; rfl
  · rw [win0_4.rect_emb_val t _ 0 rfl, e0]; rfl
  · rw [win0_4.rect_emb_val t _ 1 rfl, e1]; exact zero_block h.val

theorem block5 (r : Fin 512) (h : Fin 128) : (iblk m c 5 t : S512x128.Idx → EReal) (ix2 r h) = al2 m c (ix2 (rowAt t r) h) := by
  obtain ⟨e0, e1⟩ := index5 t
  have e : (V m c main_arg5 : S16384x128.Idx → EReal) = al2 m c := by rfl
  refine Eq.trans ?_ (congrArg (al2 m c) (emb_whole ((win0_5.rect t).emb (ix2 r h)) (rowAt t r) h ?_ ?_))
  · rw [← e]; rfl
  · rw [win0_5.rect_emb_val t _ 0 rfl, e0]; rfl
  · rw [win0_5.rect_emb_val t _ 1 rfl, e1]; exact zero_block h.val

theorem block6 (r : Fin 512) (h : Fin 128) : (iblk m c 6 t : S512x128.Idx → EReal) (ix2 r h) = al3 m c (ix2 (rowAt t r) h) := by
  obtain ⟨e0, e1⟩ := index6 t
  have e : (V m c main_arg6 : S16384x128.Idx → EReal) = al3 m c := by rfl
  refine Eq.trans ?_ (congrArg (al3 m c) (emb_whole ((win0_6.rect t).emb (ix2 r h)) (rowAt t r) h ?_ ?_))
  · rw [← e]; rfl
  · rw [win0_6.rect_emb_val t _ 0 rfl, e0]; rfl
  · rw [win0_6.rect_emb_val t _ 1 rfl, e1]; exact zero_block h.val

/-- Window 7: the spreading matrix. -/
theorem block7 : Spreads (iblk m c 7 t : S128x1024.Idx → EReal) := by
  intro h l
  obtain ⟨e0, e1⟩ := index7 t
  refine Eq.trans (congrArg (V m c main_v8 : S128x1024.Idx → EReal) (emb_whole ((win0_7.rect t).emb (ix2 h l)) h l ?_ ?_)) (v8_spreads m c h l)
  · rw [win0_7.rect_emb_val t _ 0 rfl, e0]; exact zero_block h.val
  · rw [win0_7.rect_emb_val t _ 1 rfl, e1]; exact zero_block l.val

/-- Window 8: the weights; the host's rounding is the identity. -/
theorem block8 (k l : Fin 1024) : (iblk m c 8 t : S1024x1024.Idx → EReal) (ix2 k l) = aw m c (ix2 k l) := by
  obtain ⟨e0, e1⟩ := index8 t
  have e : (V m c main_v9 : S1024x1024.Idx → EReal) = aw m c := by rfl
  refine Eq.trans ?_ (congrArg (aw m c) (emb_whole ((win0_8.rect t).emb (ix2 k l)) k l ?_ ?_))
  · rw [← e]; rfl
  · rw [win0_8.rect_emb_val t _ 0 rfl, e0]; exact zero_block k.val
  · rw [win0_8.rect_emb_val t _ 1 rfl, e1]; exact zero_block l.val

end

/-! ## The result -/

/-- Point `t` writes back its rows of the result. -/
theorem flushed_eq (t : Fin cfg0.N) : (dats m 0 c).flushed 9 t = (win0_9.blk t).view.read (Elt Ideal) (outSpec m c) := by
  rw [Value.flushed9]
  funext y
  obtain ⟨r, l, rfl⟩ : ∃ (r : Fin 512) (l : Fin 1024), y = ix2 r l := ⟨y 0, y 1, eq_ix2 y⟩
  obtain ⟨e0, e1⟩ := index9 t
  have hi : (win0_9.rect t).emb (ix2 r l) = ix2 (rowAt t r) l := by
    refine emb_whole ((win0_9.rect t).emb (ix2 r l)) (rowAt t r) l ?_ ?_
    · rw [win0_9.rect_emb_val t _ 0 rfl, e0]; rfl
    · rw [win0_9.rect_emb_val t _ 1 rfl, e1]; exact zero_block l.val
  refine (out_apply (iblk m c 0 t) (iblk m c 1 t) (iblk m c 2 t) (iblk m c 3 t) (iblk m c 4 t) (iblk m c 5 t) (iblk m c 6 t) (iblk m c 7 t) (iblk m c 8 t)
    (block7 m c t) r l).trans ?_
  show _ = outSpec m c ((win0_9.rect t).emb (ix2 r l))
  rw [hi]
  show _ = ax m c (ix2 (rowAt t r) l) + ∑ k : Fin 1024, mix (al1 m c (ix2 (rowAt t r) (headLane k))) (al2 m c (ix2 (rowAt t r) (headLane k)))
    (al3 m c (ix2 (rowAt t r) (headLane k))) (ao1 m c (ix2 (rowAt t r) k)) (ao2 m c (ix2 (rowAt t r) k)) (ao3 m c (ix2 (rowAt t r) k)) * aw m c (ix2 k l)
  refine congrArg₂ (fun a b : EReal => a + b) (block0 m c t r l) (Finset.sum_congr rfl fun k _ => congrArg₂ (fun a b : EReal => a * b) ?_ (block8 m c t k l))
  rw [block1, block2, block3, block4, block5, block6]

/-- Every entry is in a block. -/
theorem cover (i : S16384x1024.Idx) : ∃ t : Fin cfg0.N, (cfg0.win 9).flush t = true ∧ i ∈ ((cfg0.win 9).blk t).view.set := by
  have h0 : (i 0).val < 16384 := (i 0).isLt
  have h1 : (i 1).val < 1024 := (i 1).isLt
  have hN : cfg0.N = 32 := N_0
  refine ⟨⟨(i 0).val / 512, by omega⟩, flush0_9 _, ?_⟩
  generalize ht : (⟨(i 0).val / 512, _⟩ : Fin cfg0.N) = t
  have hv : (i 0).val / 512 = t.val := congrArg Fin.val ht
  obtain ⟨e0, e1⟩ := index9 t
  show i ∈ ((View.whole main_v10).slice (win0_9.rect t)).set
  rw [View.set_slice_whole]
  refine Rect.mem_set_unit.2 fun a => ?_
  match a with
  | ⟨0, _⟩ => show win0_9.index t 0 * 512 ≤ (i 0).val ∧ (i 0).val < win0_9.index t 0 * 512 + 512; rw [e0]; omega
  | ⟨1, _⟩ => show win0_9.index t 1 * 1024 ≤ (i 1).val ∧ (i 1).val < win0_9.index t 1 * 1024 + 1024; rw [e1]; omega

/-- The result array after the run. -/
theorem final_spec : (dats m 0 c).arrAt 9 cfg0.N = outSpec m c :=
  (dats m 0 c).arrAt_eq_of_cover 9 (outSpec m c) (fun t _ => flushed_eq m c t) cover

end Cert.OutA

end
-- ==== Proof.OutA.Claims.lean ====
/- The merge's reference at an entry, and the claims about the merge. -/
module

public import proofs.«01_k».proof.Defs
public import proofs.«01_k».proof.Proof.Gen.OutA.Frame
public import proofs.«01_k».proof.Proof.Gen.OutAIdeal.Frame
public import proofs.«01_k».proof.Proof.Gen.OutARefIdeal.Run
public import proofs.«01_k».proof.Proof.Gen.OutARefIdeal.Read
public import proofs.«01_k».proof.Proof.OutA.Array
public import Idealize.ShloMosaic.Lib.KernelVsHost

@[expose] public section

noncomputable section

namespace Cert.OutAClaims

open Cert.OutARefIdeal Cert.OutARefIdeal.Gen Cert.OutARefIdeal.Read Idealize.ShloMosaic Idealize.SL.Sem Idealize.ShloMosaic.ValueIdx
open Cert.OutA (mix share total3 top3 headLane merged)

/-! ## Three arrays stacked -/

/-- One of three. -/
def pickOf {α : Type} (j : Fin 3) (a b c : α) : α := match j with | ⟨0, _⟩ => a | ⟨1, _⟩ => b | ⟨2, _⟩ => c

/-- The stacked logs at an entry. -/
theorem stack3_apply (a b c : S1x16384x16.Idx → EReal) (h : Shape.Concatenates [S1x16384x16, S1x16384x16, S1x16384x16] S3x16384x16 0)
    (j : Fin 3) (R : Fin 16384) (n : Fin 16) :
    concatenate S3x16384x16 0 [⟨S1x16384x16, a⟩, ⟨S1x16384x16, b⟩, ⟨S1x16384x16, c⟩] h (ix3 j R n) = pickOf j a b c (ix3 u0 R n) := by
  have key : ∀ (k : Nat) (hk : k < 3) (x : S1x16384x16.Idx → EReal),
      ([⟨S1x16384x16, a⟩, ⟨S1x16384x16, b⟩, ⟨S1x16384x16, c⟩] : List ((s : Shape) × (s.Idx → EReal)))[k] = ⟨S1x16384x16, x⟩ → j.val = k →
      concatenate S3x16384x16 0 [⟨S1x16384x16, a⟩, ⟨S1x16384x16, b⟩, ⟨S1x16384x16, c⟩] h (ix3 j R n) = x (ix3 u0 R n) := by
    intro k hk x hx hj
    refine concatenate_apply_piece (t := S3x16384x16) 0 [⟨S1x16384x16, a⟩, ⟨S1x16384x16, b⟩, ⟨S1x16384x16, c⟩] h (ix3 j R n) k hk S1x16384x16 x hx rfl k ?_ _ (fun d hd => ?_) ?_
    · interval_cases k <;> rfl
    · match d with
      | ⟨0, _⟩ => exact absurd rfl hd
      | ⟨1, _⟩ => rfl
      | ⟨2, _⟩ => rfl
    · show k + 0 = j.val
      omega
  match j with
  | ⟨0, _⟩ => exact key 0 (by decide) a rfl rfl
  | ⟨1, _⟩ => exact key 1 (by decide) b rfl rfl
  | ⟨2, _⟩ => exact key 2 (by decide) c rfl rfl

/-- The stacked outputs at an entry. -/
theorem stack4_apply (a b c : S1x16384x16x64.Idx → EReal) (h : Shape.Concatenates [S1x16384x16x64, S1x16384x16x64, S1x16384x16x64] S3x16384x16x64 0)
    (j : Fin 3) (R : Fin 16384) (n : Fin 16) (d : Fin 64) :
    concatenate S3x16384x16x64 0 [⟨S1x16384x16x64, a⟩, ⟨S1x16384x16x64, b⟩, ⟨S1x16384x16x64, c⟩] h (ix4 j R n d) = pickOf j a b c (ix4 u0 R n d) := by
  have key : ∀ (k : Nat) (hk : k < 3) (x : S1x16384x16x64.Idx → EReal),
      ([⟨S1x16384x16x64, a⟩, ⟨S1x16384x16x64, b⟩, ⟨S1x16384x16x64, c⟩] : List ((s : Shape) × (s.Idx → EReal)))[k] = ⟨S1x16384x16x64, x⟩ → j.val = k →
      concatenate S3x16384x16x64 0 [⟨S1x16384x16x64, a⟩, ⟨S1x16384x16x64, b⟩, ⟨S1x16384x16x64, c⟩] h (ix4 j R n d) = x (ix4 u0 R n d) := by
    intro k hk x hx hj
    refine concatenate_apply_piece (t := S3x16384x16x64) 0 [⟨S1x16384x16x64, a⟩, ⟨S1x16384x16x64, b⟩, ⟨S1x16384x16x64, c⟩] h (ix4 j R n d) k hk S1x16384x16x64 x hx rfl k ?_ _ (fun e he => ?_) ?_
    · interval_cases k <;> rfl
    · match e with
      | ⟨0, _⟩ => exact absurd rfl he
      | ⟨1, _⟩ => rfl
      | ⟨2, _⟩ => rfl
      | ⟨3, _⟩ => rfl
    · show k + 0 = j.val
      omega
  match j with
  | ⟨0, _⟩ => exact key 0 (by decide) a rfl rfl
  | ⟨1, _⟩ => exact key 1 (by decide) b rfl rfl
  | ⟨2, _⟩ => exact key 2 (by decide) c rfl rfl

/-! ## The reference's steps -/

section
variable (x o1 o2 o3 : S16384x1024.Idx → EReal) (l1 l2 l3 : S16384x128.Idx → EReal) (w : S1024x1024.Idx → EReal)

/-- A head's lane among the 128 lanes of the logs. -/
abbrev lane (n : Fin 16) : Fin 128 := ⟨n.val, by have := n.isLt; omega⟩

/-- A head's entry among the 1024 columns. -/
abbrev column (n : Fin 16) (d : Fin 64) : Fin 1024 := ⟨64 * n.val + d.val, by have := n.isLt; have := d.isLt; omega⟩

/-- The log of one of three attentions. -/
def logAt (R : Fin 16384) (n : Fin 16) (j : Fin 3) : EReal := pickOf j (l1 (ix2 R (lane n))) (l2 (ix2 R (lane n))) (l3 (ix2 R (lane n)))

theorem logs_apply (j : Fin 3) (R : Fin 16384) (n : Fin 16) :
    (val_main_v13 (F := Ideal) l1 l2 l3 : S3x16384x16.Idx → EReal) (ix3 j R n) = logAt l1 l2 l3 R n j := by
  have e1 : (val_main_v10 (F := Ideal) l1 : S1x16384x16.Idx → EReal) (ix3 u0 R n) = l1 (ix2 R (lane n)) := by
    rw [val_main_v10_apply, val_main_v7_apply]; exact congrArg l1 (eq_ix2 _)
  have e2 : (val_main_v11 (F := Ideal) l2 : S1x16384x16.Idx → EReal) (ix3 u0 R n) = l2 (ix2 R (lane n)) := by
    rw [val_main_v11_apply, val_main_v8_apply]; exact congrArg l2 (eq_ix2 _)
  have e3 : (val_main_v12 (F := Ideal) l3 : S1x16384x16.Idx → EReal) (ix3 u0 R n) = l3 (ix2 R (lane n)) := by
    rw [val_main_v12_apply, val_main_v9_apply]; exact congrArg l3 (eq_ix2 _)
  unfold val_main_v13
  refine (stack3_apply _ _ _ _ j R n).trans ?_
  match j with
  | ⟨0, _⟩ => exact e1
  | ⟨1, _⟩ => exact e2
  | ⟨2, _⟩ => exact e3

/-- The word of minus infinity. -/
theorem neg_inf_word : Ideal.ofBits .f32 0xFF800000#32 = ⊥ := by simp [Ideal.ofBits, Ideal.ieee]

/-- The word of zero. -/
theorem zero_word : Ideal.ofBits .f32 0x00000000#32 = 0 := by simp [Ideal.ofBits, Ideal.ieee]

theorem reduces_first : S3x16384x16.Reduces [0] S16384x16 := by decide

/-- The greatest of three, of any stacked array. -/
theorem reduce_max3 (Y : FVec Ideal S3x16384x16 .f32) (R : Fin 16384) (n : Fin 16) (s : Fin 3 → EReal) (hs : ∀ j, (Y (ix3 j R n) : EReal) = s j) :
    Host.reduce FloatOps.maximumf Y (val_main_cst (F := Ideal)) reducesTo_S3x16384x16_S16384x16_d0 h_S_ (ix2 R n) = top3 (s 0) (s 1) (s 2) := by
  have e := hostReduce_maximumf_eq_multiReduction Y 0xFF800000#32 reducesTo_S3x16384x16_S16384x16_d0 h_S_ reduces_first (.inl rfl) rfl
  refine (congrFun e (ix2 R n)).trans ?_
  refine (Ideal.multiReduction_maximumf_single Y 0xFF800000#32 reduces_first (.inl rfl) rfl (ix2 R n)).trans ?_
  rw [show FloatOps.ofBits (F := Ideal) FTy.f32 0xFF800000#32 = ⊥ from neg_inf_word]
  have hf : (fun j : Fin 3 => (Y (ix3 j R n) : EReal)) = s := funext hs
  refine Eq.trans (congrArg (fun f : Fin 3 → EReal => Finset.univ.fold max ⊥ f) (?_ : _ = s)) ?_
  · refine Eq.trans ?_ hf
    funext j
    refine congrArg Y ?_
    funext a; match a with | ⟨0, _⟩ => rfl | ⟨1, _⟩ => rfl | ⟨2, _⟩ => rfl
  · have hu : (Finset.univ : Finset (Fin 3)) = {0, 1, 2} := by decide
    rw [hu]
    simp [top3, max_assoc]

/-- The greatest of the three logs. -/
theorem top_apply (R : Fin 16384) (n : Fin 16) : (val_main_v16 (F := Ideal) l1 l2 l3 : S16384x16.Idx → EReal) (ix2 R n)
    = top3 (logAt l1 l2 l3 R n 0) (logAt l1 l2 l3 R n 1) (logAt l1 l2 l3 R n 2) := by
  have e15 : (val_main_v15 (F := Ideal) : S16384x16.Idx → EReal) (ix2 R n) = ⊥ := by rw [val_main_v15_apply]; exact neg_inf_word
  have e14 : (val_main_v14 (F := Ideal) l1 l2 l3 : S16384x16.Idx → EReal) (ix2 R n)
      = top3 (logAt l1 l2 l3 R n 0) (logAt l1 l2 l3 R n 1) (logAt l1 l2 l3 R n 2) := by
    have hs := fun j => logs_apply l1 l2 l3 j R n
    unfold val_main_v14
    generalize val_main_v13 (F := Ideal) l1 l2 l3 = Y at hs ⊢
    exact reduce_max3 Y R n (logAt l1 l2 l3 R n) hs
  refine (congrArg₂ (fun a b : EReal => max a b) e15 e14).trans ?_
  exact max_eq_right bot_le

/-- The shifted exponential of one of the logs. -/
theorem exp_apply (j : Fin 3) (R : Fin 16384) (n : Fin 16) : (val_main_v20 (F := Ideal) l1 l2 l3 : S3x16384x16.Idx → EReal) (ix3 j R n)
    = Ideal.exp (logAt l1 l2 l3 R n j - top3 (logAt l1 l2 l3 R n 0) (logAt l1 l2 l3 R n 1) (logAt l1 l2 l3 R n 2)) := by
  have e18 : (val_main_v18 (F := Ideal) l1 l2 l3 : S3x16384x16.Idx → EReal) (ix3 j R n)
      = top3 (logAt l1 l2 l3 R n 0) (logAt l1 l2 l3 R n 1) (logAt l1 l2 l3 R n 2) := by
    rw [val_main_v18_apply, val_main_v17_apply]
    exact Eq.trans (congrArg (val_main_v16 (F := Ideal) l1 l2 l3) (eq_ix2 _)) (top_apply l1 l2 l3 R n)
  exact congrArg₂ (fun a b : EReal => Ideal.exp (a - b)) (logs_apply l1 l2 l3 j R n) e18

/-- The sum of the three exponentials. -/
theorem total_apply (R : Fin 16384) (n : Fin 16) : (val_main_v21 (F := Ideal) l1 l2 l3 : S16384x16.Idx → EReal) (ix2 R n)
    = total3 (logAt l1 l2 l3 R n 0) (logAt l1 l2 l3 R n 1) (logAt l1 l2 l3 R n 2) := by
  rw [val_main_v21_apply]
  have e0 : (val_main_cst_1 (F := Ideal)) (Shape.Idx.first h_S_) = 0 := zero_word
  rw [e0, zero_add, Fin.sum_univ_three]
  refine congrArg₂ (fun a b : EReal => a + b) (congrArg₂ (fun a b : EReal => a + b) ?_ ?_) ?_
  · exact Eq.trans (congrArg (val_main_v20 (F := Ideal) l1 l2 l3) (eq_ix3 _)) (exp_apply l1 l2 l3 0 R n)
  · exact Eq.trans (congrArg (val_main_v20 (F := Ideal) l1 l2 l3) (eq_ix3 _)) (exp_apply l1 l2 l3 1 R n)
  · exact Eq.trans (congrArg (val_main_v20 (F := Ideal) l1 l2 l3) (eq_ix3 _)) (exp_apply l1 l2 l3 2 R n)

/-- A share, spread over its head. -/
theorem share_apply (j : Fin 3) (R : Fin 16384) (n : Fin 16) (d : Fin 64) : (val_main_v26 (F := Ideal) l1 l2 l3 : S3x16384x16x64.Idx → EReal) (ix4 j R n d)
    = share (logAt l1 l2 l3 R n 0) (logAt l1 l2 l3 R n 1) (logAt l1 l2 l3 R n 2) (logAt l1 l2 l3 R n j) := by
  have e23 : (val_main_v23 (F := Ideal) l1 l2 l3 : S3x16384x16.Idx → EReal) (ix3 j R n)
      = total3 (logAt l1 l2 l3 R n 0) (logAt l1 l2 l3 R n 1) (logAt l1 l2 l3 R n 2) := by
    rw [val_main_v23_apply, val_main_v22_apply]
    exact Eq.trans (congrArg (val_main_v21 (F := Ideal) l1 l2 l3) (eq_ix2 _)) (total_apply l1 l2 l3 R n)
  have e24 : (val_main_v24 (F := Ideal) l1 l2 l3 : S3x16384x16.Idx → EReal) (ix3 j R n)
      = share (logAt l1 l2 l3 R n 0) (logAt l1 l2 l3 R n 1) (logAt l1 l2 l3 R n 2) (logAt l1 l2 l3 R n j) := by
    rw [val_main_v24_apply]
    exact congrArg₂ (FloatOps.hostDivf (F := Ideal) (φ := .f32)) (exp_apply l1 l2 l3 j R n) e23
  rw [val_main_v26_apply, val_main_v25_apply]
  exact Eq.trans (congrArg (val_main_v24 (F := Ideal) l1 l2 l3) (show idx_main_v25 (idx_main_v26 (ix4 j R n d)) = ix3 j R n from eq_ix3 _)) e24

/-- One of the three attentions' outputs, by heads. -/
theorem outs_apply (j : Fin 3) (R : Fin 16384) (n : Fin 16) (d : Fin 64) : (val_main_v6 (F := Ideal) o1 o2 o3 : S3x16384x16x64.Idx → EReal) (ix4 j R n d)
    = pickOf j (o1 (ix2 R (column n d))) (o2 (ix2 R (column n d))) (o3 (ix2 R (column n d))) := by
  have hn := n.isLt
  have hd := d.isLt
  have e1 : (val_main_v3 (F := Ideal) o1 : S1x16384x16x64.Idx → EReal) (ix4 u0 R n d) = o1 (ix2 R (column n d)) := by
    rw [val_main_v3_apply]
    unfold val_main_v0
    refine shapeCast_apply _ _ _ (ix2 R (column n d)) ?_
    rw [Shape.rowMajor_val_two, Shape.rowMajor_val_three]
    show R.val * 1024 + (64 * n.val + d.val) = (R.val * 16 + n.val) * 64 + d.val
    omega
  have e2 : (val_main_v4 (F := Ideal) o2 : S1x16384x16x64.Idx → EReal) (ix4 u0 R n d) = o2 (ix2 R (column n d)) := by
    rw [val_main_v4_apply]
    unfold val_main_v1
    refine shapeCast_apply _ _ _ (ix2 R (column n d)) ?_
    rw [Shape.rowMajor_val_two, Shape.rowMajor_val_three]
    show R.val * 1024 + (64 * n.val + d.val) = (R.val * 16 + n.val) * 64 + d.val
    omega
  have e3 : (val_main_v5 (F := Ideal) o3 : S1x16384x16x64.Idx → EReal) (ix4 u0 R n d) = o3 (ix2 R (column n d)) := by
    rw [val_main_v5_apply]
    unfold val_main_v2
    refine shapeCast_apply _ _ _ (ix2 R (column n d)) ?_
    rw [Shape.rowMajor_val_two, Shape.rowMajor_val_three]
    show R.val * 1024 + (64 * n.val + d.val) = (R.val * 16 + n.val) * 64 + d.val
    omega
  unfold val_main_v6
  refine (stack4_apply _ _ _ _ j R n d).trans ?_
  match j with
  | ⟨0, _⟩ => exact e1
  | ⟨1, _⟩ => exact e2
  | ⟨2, _⟩ => exact e3

/-- The mix of the three attentions, by heads. -/
theorem mix_apply (R : Fin 16384) (n : Fin 16) (d : Fin 64) : (val_main_v28 (F := Ideal) o1 o2 o3 l1 l2 l3 : S16384x16x64.Idx → EReal) (ix3 R n d)
    = mix (l1 (ix2 R (lane n))) (l2 (ix2 R (lane n))) (l3 (ix2 R (lane n))) (o1 (ix2 R (column n d))) (o2 (ix2 R (column n d))) (o3 (ix2 R (column n d))) := by
  rw [val_main_v28_apply]
  have e0 : (val_main_cst_2 (F := Ideal)) (Shape.Idx.first h_S_) = 0 := zero_word
  have key : ∀ j : Fin 3, (val_main_v27 (F := Ideal) o1 o2 o3 l1 l2 l3 : S3x16384x16x64.Idx → EReal) (idx_main_v28 (ix3 R n d) j)
      = share (logAt l1 l2 l3 R n 0) (logAt l1 l2 l3 R n 1) (logAt l1 l2 l3 R n 2) (logAt l1 l2 l3 R n j)
        * pickOf j (o1 (ix2 R (column n d))) (o2 (ix2 R (column n d))) (o3 (ix2 R (column n d))) := fun j => by
    refine (congrArg (val_main_v27 (F := Ideal) o1 o2 o3 l1 l2 l3) (show idx_main_v28 (ix3 R n d) j = ix4 j R n d from eq_ix4 _)).trans ?_
    exact congrArg₂ (fun a b : EReal => a * b) (share_apply l1 l2 l3 j R n d) (outs_apply o1 o2 o3 j R n d)
  rw [e0, zero_add, Fin.sum_univ_three, key, key, key]
  rfl

/-- The reference's result: the merge and its product with the residual. -/
theorem result_eq : (val_main_v31 (F := Ideal) x o1 o2 o3 l1 l2 l3 w : S16384x1024.Idx → EReal) = merged x o1 o2 o3 l1 l2 l3 w := by
  funext i
  show x i + (val_main_v30 (F := Ideal) o1 o2 o3 l1 l2 l3 w : S16384x1024.Idx → EReal) i = _
  refine congrArg (fun s : EReal => x i + s) ?_
  rw [val_main_v30_apply]
  refine Finset.sum_congr rfl fun k _ => congrArg₂ (fun a b : EReal => a * b) ?_ (congrArg w (eq_ix2 _))
  have hk := k.isLt
  have e : (val_main_v29 (F := Ideal) o1 o2 o3 l1 l2 l3 : S16384x1024.Idx → EReal) (lidx_main_v30 i k)
      = (val_main_v28 (F := Ideal) o1 o2 o3 l1 l2 l3 : S16384x16x64.Idx → EReal) (ix3 (i 0) ⟨k.val / 64, by omega⟩ ⟨k.val % 64, Nat.mod_lt _ (by decide)⟩) := by
    unfold val_main_v29
    refine shapeCast_apply _ _ _ _ ?_
    rw [Shape.rowMajor_val_two, Shape.rowMajor_val_three]
    show ((i 0).val * 16 + k.val / 64) * 64 + k.val % 64 = (i 0).val * 1024 + k.val
    omega
  refine e.trans ((mix_apply o1 o2 o3 l1 l2 l3 _ _ _).trans ?_)
  have hc : column ⟨k.val / 64, by omega⟩ ⟨k.val % 64, Nat.mod_lt _ (by decide)⟩ = k := Fin.ext (Nat.div_add_mod _ _)
  rw [hc]

end

/-! ## The claims -/

/-- The reference's frame: its run read at the arguments; it declares no semaphore. -/
theorem frame_ref : Cert.quiescent_OutARefIdeal (hOutARefIdeal := Cert.OutARefIdeal.Gen.facts) := fun m ρ _ =>
  (θ_run Cert.OutARefIdeal.defs _ _).mono (fun r h => ⟨fun c => (h c).2, sem_eq_zero_of_no_sems (by decide) r.2⟩)
    (Cert.OutARefIdeal.Value.run (F := Ideal) m ρ)

/-- The value claim: kernel and reference end with the same result. -/
theorem algebraic : Cert.algebraic_OutAIdeal_OutARefIdeal (hOutAIdeal := Cert.OutAIdeal.Gen.facts) (hOutARefIdeal := Cert.OutARefIdeal.Gen.facts) := by
  intro m ρ m' ρ' _ hagree
  refine ⟨fun c => Cert.OutA.outSpec m c, ?_, ?_⟩
  · refine (θ_run Cert.OutAIdeal.defs _ _).mono (fun r h c => ⟨(h c).1.trans ?_, (h c).2⟩) (Cert.OutAIdeal.Value.run_blocks m ρ)
    exact Cert.OutA.final_spec m c
  · refine (θ_run Cert.OutARefIdeal.defs _ _).mono (fun r h c => ⟨(h c).1.trans ?_, (h c).2⟩) (Cert.OutARefIdeal.Value.run (F := Ideal) m' ρ')
    refine (Cert.OutARefIdeal.Read.val_main_v31_eq m' c).trans ?_
    rw [(hagree c).1, (hagree c).2.1, (hagree c).2.2.1, (hagree c).2.2.2.1, (hagree c).2.2.2.2.1, (hagree c).2.2.2.2.2.1, (hagree c).2.2.2.2.2.2.1,
      (hagree c).2.2.2.2.2.2.2]
    exact result_eq _ _ _ _ _ _ _ _

end Cert.OutAClaims

end
-- ==== Proof.ProjB.Out.lean ====
/- The projection to queries alone: what one grid point's body leaves in its output block. -/
module

public import proofs.«01_k».proof.Proof.Rope.BodyAt
public import proofs.«01_k».proof.Proof.Gen.ProjBIdeal.Value

@[expose] public section

noncomputable section

namespace Cert.ProjBIdeal.Out

open Cert.ProjBIdeal Cert.ProjBIdeal.Gen Idealize.ShloMosaic Idealize.ShloMosaic.ValueIdx

theorem corner : (![0, 0] : Fin 2 → Nat) = fun _ => 0 := by
  funext a; match a with | ⟨0, _⟩ => rfl | ⟨1, _⟩ => rfl

section
variable (c : Dev nD) (i : grid0.Coords)
variable (a2 : Memref sig .tc .vmem S512x1024 .f32) (h2 : a2.IsWhole) (a3 : Memref sig .tc .vmem S1x1024 .f32) (h3 : a3.IsWhole)
variable (a4 : Memref sig .tc .vmem S1024x1024 .bf16) (h4 : a4.IsWhole) (a5 : Memref sig .tc .vmem S1x128 .f32) (h5 : a5.IsWhole)
variable (a6 : Memref sig .tc .vmem S1x128 .f32) (h6 : a6.IsWhole) (a7 : Memref sig .tc .vmem S512x128 .f32) (h7 : a7.IsWhole)
variable (a8 : Memref sig .tc .vmem S512x128 .f32) (h8 : a8.IsWhole) (a9 : Memref sig .tc .vmem S128x128 .bf16) (h9 : a9.IsWhole)
variable (a10 : Memref sig .tc .vmem S512x1024 .f32) (h10 : a10.IsWhole) (a11 : Memref sig .tc .vmem S512x1024 .bf16) (h11 : a11.IsWhole)
variable (x0 : Vec Ideal S512x1024 .f32) (x1 : Vec Ideal S1x1024 .f32) (x2 : Vec Ideal S1024x1024 .bf16) (x3 : Vec Ideal S1x128 .f32)
variable (x4 : Vec Ideal S1x128 .f32) (x5 : Vec Ideal S512x128 .f32) (x6 : Vec Ideal S512x128 .f32) (x7 : Vec Ideal S128x128 .bf16)

/-- The block of one point: its rows normalised, projected, normed by heads and rotated. -/
theorem out_eq (hc0 : cond0_0 i) (hc1 : cond0_1 i) (hc2 : ¬cond0_2 i) :
    out0_A_8 c i a2 h2 a3 h3 a4 h4 a5 h5 a6 h6 a7 h7 a8 h8 a9 h9 a10 h10 a11 h11 hc0 hc1 hc2 x0 x1 x2 x3 x4 x5 x6 x7
      = View.canon (Rope.pieces (Rope.prod (Rope.rows x0 x1) x2) (Rope.gainOf (Scalar.cmpi .slt (BitVec.ofNat 32 (i 1).val) 1#32) x3 x4) x5 x6 x7) := by
  unfold out0_A_8
  rw [View.read_writes_eq_canon _ _ _ (cover0_A_8 c i a2 h2 a3 h3 a4 h4 a5 h5 a6 h6 a7 h7 a8 h8 a9 h9 a10 h10 a11 h11 hc0 hc1 hc2 x0 x1 x2 x3 x4 x5 x6 x7)]
  unfold kernelRun0_A
  dsimp only
  sl_unfold_words
  simp only [View.readCov_unit_zero (S := S512x1024) _ corner]
  simp only [View.readAt_eq_ld, h2.read_unread, h3.read_unread, h4.read_unread, h5.read_unread, h6.read_unread, h7.read_unread, h8.read_unread,
    h9.read_unread, View.ld_unit_zero (S := S512x1024) corner, View.ld_unit_zero (S := S1x1024) corner, View.ld_unit_zero (S := S1024x1024) corner,
    View.ld_unit_zero (S := S1x128) corner, View.ld_unit_zero (S := S512x128) corner, View.ld_unit_zero (S := S128x128) corner]
  rfl

end

end Cert.ProjBIdeal.Out

end
-- ==== Proof.ProjB.Array.lean ====
/- The projection to queries alone: the result array, entry by entry. The host code is that of the projection to queries, keys
   and values, and its tables are read there. -/
module

public import proofs.«01_k».proof.Proof.Proj.Array
public import proofs.«01_k».proof.Proof.ProjB.Out

@[expose] public section

noncomputable section

namespace Cert.ProjBIdeal.Out

open Cert.ProjBIdeal Cert.ProjBIdeal.Gen Idealize.ShloMosaic Idealize.ShloMosaic.ValueIdx Idealize.ShloMosaic.TcCoe
open Idealize.ShloMosaic.Pipeline (Dat)
open Cert.Rope (cell1 cell1_eq cell1_real cell2_real hidden linear turnedAt cosOf sinOf w8)
open Cert.Band (cell2 cell2_eq)
open Cert.ProjIdeal.Out (emb_whole gainRow gainRow_apply cosTable cosTable_apply sinTable sinTable_apply headMatrix headMatrix_apply
  asRow_apply eighth_eq gainOf_first)

variable (m : (ℓ : Loc nD τ sig) → Buf (Elt Ideal) ℓ) (c : Dev nD)

/-- The arguments as launched: rows, their gain, weights, the heads' gain. -/
abbrev ax : S16384x1024.Idx → EReal := m ((c : Thread nD τ).loc main_arg0)
abbrev ag : S1024.Idx → EReal := m ((c : Thread nD τ).loc main_arg1)
abbrev aw : S1024x1024.Idx → EReal := m ((c : Thread nD τ).loc main_arg2)
abbrev aq : S64.Idx → EReal := m ((c : Thread nD τ).loc main_arg3)

/-- A row of the product. -/
def rowAt (R : Nat) : Nat → EReal := linear (cell2 (ax m c)) (cell1 (ag m c)) (cell2 (aw m c)) R

/-- Every entry of the result: the row projected, normed by heads, rotated by its position and divided by 8. -/
def outSpec : S16384x1024.Idx → EReal := fun i =>
  Ideal.div (turnedAt (rowAt m c (i 0).val) (cell1 (aq m c)) ((i 0).val % 4096) (i 1).val) w8

/-! ## The index maps: point `t` is row block `t` -/

theorem coord1 : ∀ t : Fin cfg0.N, (grid0.coords t 1).val = 0 :=
  (by decide +kernel : ∀ t : Fin grid0.N, (grid0.coords t 1).val = 0)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index5 : ∀ t : Fin cfg0.N, win0_5.index t 0 = t.val % 8 ∧ win0_5.index t 1 = 0 :=
  (by decide +kernel : ∀ t : Fin grid0.N, win0_5.index t 0 = t.val % 8 ∧ win0_5.index t 1 = 0)
theorem index6 : ∀ t : Fin cfg0.N, win0_6.index t 0 = t.val % 8 ∧ win0_6.index t 1 = 0 :=
  (by decide +kernel : ∀ t : Fin grid0.N, win0_6.index t 0 = t.val % 8 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = t.val ∧ win0_8.index t 1 = 0 :=
  (by decide +kernel : ∀ t : Fin grid0.N, win0_8.index t 0 = t.val ∧ win0_8.index t 1 = 0)

/-- A coordinate in a block that starts the axis. -/
theorem from_zero {i s l : Nat} (h : i = 0) : i * s + l = l := by rw [h, Nat.zero_mul, Nat.zero_add]

/-! ## The input blocks -/

section
variable (t : Fin cfg0.N)

/-- Window 0: the block's rows. -/
theorem block0 (r : Fin 512) (k : Fin 1024) : (iblk m c 0 t : S512x1024.Idx → EReal) (ix2 r k) = cell2 (ax m c) (t.val * 512 + r.val) k.val := by
  have e : (V m c main_arg0 : S16384x1024.Idx → EReal) = ax m c := by rfl
  refine Eq.trans ?_ (cell2_eq (ax m c) ((win0_0.rect t).emb (ix2 r k)) ?_ ?_).symm
  · rw [← e]; rfl
  · rw [win0_0.rect_emb_val t _ 0 rfl, (index0 t).1]; rfl
  · rw [win0_0.rect_emb_val t _ 1 rfl]; exact from_zero (index0 t).2

/-- Window 1: the rows' gain. -/
theorem block1 (k : Fin 1024) : (iblk m c 1 t : S1x1024.Idx → EReal) (ix2 u0 k) = cell1 (ag m c) k.val := by
  have e : (V m c main_v44 : S1x1024.Idx → EReal) = shapeCast S1x1024 (ag m c) shapeCasts_S1024_S1x1024 := by rfl
  refine Eq.trans (congrArg (V m c main_v44 : S1x1024.Idx → EReal) (emb_whole ((win0_1.rect t).emb (ix2 u0 k)) u0 k ?_ ?_)) ?_
  · rw [win0_1.rect_emb_val t _ 0 rfl]; exact from_zero (index1 t).1
  · rw [win0_1.rect_emb_val t _ 1 rfl]; exact from_zero (index1 t).2
  · rw [e, cell1_eq]; exact asRow_apply (ag m c) k

/-- Window 2: the weights, whole; the host's rounding is the identity. -/
theorem block2 (k l : Fin 1024) : (iblk m c 2 t : S1024x1024.Idx → EReal) (ix2 k l) = cell2 (aw m c) k.val l.val := by
  have e : (V m c main_v43 : S1024x1024.Idx → EReal) = aw m c := by rfl
  refine Eq.trans (congrFun e ((win0_2.rect t).emb (ix2 k l))) (cell2_eq (aw m c) ((win0_2.rect t).emb (ix2 k l)) ?_ ?_).symm
  · rw [win0_2.rect_emb_val t _ 0 rfl]; exact from_zero (index2 t).1
  · rw [win0_2.rect_emb_val t _ 1 rfl]; exact from_zero (index2 t).2

/-- Window 3: the heads' gain, scaled by 1/8. -/
theorem block3 (l : Fin 128) : (iblk m c 3 t : S1x128.Idx → EReal) (ix2 u0 l) = cell1 (aq m c) (l.val % 64) * ((8⁻¹ : ℝ) : EReal) := by
  have e : (V m c main_v38 : S1x128.Idx → EReal) = gainRow (aq m c) 0x3E000000#32 := by rfl
  refine Eq.trans (congrArg (V m c main_v38 : S1x128.Idx → EReal) (emb_whole ((win0_3.rect t).emb (ix2 u0 l)) u0 l ?_ ?_)) ?_
  · rw [win0_3.rect_emb_val t _ 0 rfl]; exact from_zero (index3 t).1
  · rw [win0_3.rect_emb_val t _ 1 rfl]; exact from_zero (index3 t).2
  · rw [e, gainRow_apply, eighth_eq]
    exact congrArg (fun a : EReal => a * ((8⁻¹ : ℝ) : EReal)) (cell1_eq (aq m c) ⟨l.val % 64, Nat.mod_lt _ (by decide)⟩).symm

/-- The position of a row of the block. -/
theorem pos_eq (r : Fin 512) : (t.val * 512 + r.val) % 4096 = t.val % 8 * 512 + r.val := by
  have := r.isLt; omega

theorem pos_lt (r : Fin 512) : (t.val * 512 + r.val) % 4096 < 4096 := Nat.mod_lt _ (by decide)

/-- Window 5: the cosines of the block's positions. -/
theorem block5 (r : Fin 512) (l : Fin 128) : (iblk m c 5 t : S512x128.Idx → EReal) (ix2 r l) = cosOf ((t.val * 512 + r.val) % 4096) (l.val % 32) := by
  have e : (V m c main_v31 : S4096x128.Idx → EReal) = cosTable := by rfl
  refine Eq.trans (congrArg (V m c main_v31 : S4096x128.Idx → EReal) (emb_whole ((win0_5.rect t).emb (ix2 r l)) ⟨_, pos_lt t r⟩ l ?_ ?_)) ?_
  · rw [win0_5.rect_emb_val t _ 0 rfl, (index5 t).1]; exact (pos_eq t r).symm
  · rw [win0_5.rect_emb_val t _ 1 rfl]; exact from_zero (index5 t).2
  · rw [e]; exact cosTable_apply ⟨_, pos_lt t r⟩ l

/-- Window 6: the signed sines of the block's positions. -/
theorem block6 (r : Fin 512) (l : Fin 128) : (iblk m c 6 t : S512x128.Idx → EReal) (ix2 r l)
    = if l.val % 64 < 32 then -sinOf ((t.val * 512 + r.val) % 4096) (l.val % 32) else sinOf ((t.val * 512 + r.val) % 4096) (l.val % 32) := by
  have e : (V m c main_v34 : S4096x128.Idx → EReal) = sinTable := by rfl
  refine Eq.trans (congrArg (V m c main_v34 : S4096x128.Idx → EReal) (emb_whole ((win0_6.rect t).emb (ix2 r l)) ⟨_, pos_lt t r⟩ l ?_ ?_)) ?_
  · rw [win0_6.rect_emb_val t _ 0 rfl, (index6 t).1]; exact (pos_eq t r).symm
  · rw [win0_6.rect_emb_val t _ 1 rfl]; exact from_zero (index6 t).2
  · rw [e]; exact sinTable_apply ⟨_, pos_lt t r⟩ l

/-- The matrix that averages over a head, as the kernel is handed it. -/
theorem v9_apply (l' l : Fin 128) : (V m c main_v9 : S128x128.Idx → EReal) (ix2 l' l) = if l'.val / 64 = l.val / 64 then ((64⁻¹ : ℝ) : EReal) else 0 := by
  have e : (V m c main_v9 : S128x128.Idx → EReal) = headMatrix := by rfl
  rw [e, headMatrix_apply]

/-- Window 7: that matrix. -/
theorem block7 (l' l : Fin 128) : (iblk m c 7 t : S128x128.Idx → EReal) (ix2 l' l) = if l'.val / 64 = l.val / 64 then ((64⁻¹ : ℝ) : EReal) else 0 := by
  refine Eq.trans (congrArg (V m c main_v9 : S128x128.Idx → EReal) (emb_whole ((win0_7.rect t).emb (ix2 l' l)) l' l ?_ ?_)) (v9_apply m c l' l)
  · rw [win0_7.rect_emb_val t _ 0 rfl]; exact from_zero (index7 t).1
  · rw [win0_7.rect_emb_val t _ 1 rfl]; exact from_zero (index7 t).2

/-! ## The body on the blocks -/

/-- The normalised rows of a block. -/
theorem rows_at (r : Fin 512) (k : Fin 1024) :
    Rope.rows (iblk m c 0 t) (iblk m c 1 t) (ix2 r k) = hidden (cell2 (ax m c)) (cell1 (ag m c)) (t.val * 512 + r.val) k.val := by
  refine (Rope.rows_apply (iblk m c 0 t) (iblk m c 1 t) r k).trans ?_
  have h0 := fun k => block0 m c t r k
  have h1 := fun k => block1 m c t k
  generalize iblk m c 0 t = x0 at h0 ⊢
  generalize iblk m c 1 t = x1 at h1 ⊢
  unfold Rope.hidden
  simp only [h0, h1]

/-- Their product with the weights. -/
theorem prod_at (r : Fin 512) (l : Fin 1024) :
    Rope.prod (Rope.rows (iblk m c 0 t) (iblk m c 1 t)) (iblk m c 2 t) (ix2 r l) = rowAt m c (t.val * 512 + r.val) l.val := by
  refine (Rope.prod_apply _ (iblk m c 2 t) r l).trans ?_
  unfold rowAt Rope.linear
  refine Finset.sum_congr rfl fun k _ => ?_
  rw [rows_at]
  exact congrArg (fun a : EReal => hidden (cell2 (ax m c)) (cell1 (ag m c)) (t.val * 512 + r.val) k.val * a) (block2 m c t k l)

variable (hx : ∀ i, ax m c i ≠ ⊤ ∧ ax m c i ≠ ⊥) (hg : ∀ i, ag m c i ≠ ⊤ ∧ ag m c i ≠ ⊥) (hw : ∀ i, aw m c i ≠ ⊤ ∧ aw m c i ≠ ⊥)
include hx hg hw

/-- What point `t` leaves in its output block. -/
theorem out_at (r : Fin 512) (k : Fin 1024) : (outsAt0 m c t : S512x1024.Idx → EReal) (ix2 r k)
    = Ideal.div (turnedAt (rowAt m c (t.val * 512 + r.val)) (cell1 (aq m c)) ((t.val * 512 + r.val) % 4096) k.val) w8 := by
  unfold outsAt0
  rw [out_eq, coord1, show Scalar.cmpi .slt (BitVec.ofNat 32 0) 1#32 = 1#1 by decide, gainOf_first]
  have ht : Rope.TileOf (Rope.prod (Rope.rows (iblk m c 0 t) (iblk m c 1 t)) (iblk m c 2 t)) (iblk m c 3 t) (iblk m c 5 t) (iblk m c 6 t) (iblk m c 7 t)
      (fun r => rowAt m c (t.val * 512 + r)) (fun d => cell1 (aq m c) d * ((8⁻¹ : ℝ) : EReal))
      (fun r => cosOf ((t.val * 512 + r) % 4096)) (fun r => sinOf ((t.val * 512 + r) % 4096)) :=
    { tile := fun r l => prod_at m c t r l
      real := fun r k => Rope.linear_real _ _ _ _ _ (fun k => cell2_real (ax m c) hx _ k) (fun k => cell1_real (ag m c) hg k)
        (fun k => cell2_real (aw m c) hw k _)
      gain := fun l => block3 m c t l
      cosf := fun r l => block5 m c t r l
      sins := fun r l => block6 m c t r l
      mix := fun l' l => block7 m c t l' l }
  refine (Rope.TileOf.stores ht r k).trans ?_
  rw [Rope.rotated_scaled]
  rfl

/-- Point `t` writes back its rows of the result. -/
theorem flushed8_spec : (dats m 0 c).flushed 8 t = (win0_8.blk t).view.read (Elt Ideal) (outSpec m c) := by
  rw [Value.flushed8]
  funext y
  have h0 : ((win0_8.rect t).emb y 0).val = t.val * 512 + (y 0).val := by
    rw [win0_8.rect_emb_val t _ 0 rfl, (index8 t).1]; rfl
  have h1 : ((win0_8.rect t).emb y 1).val = (y 1).val := by
    rw [win0_8.rect_emb_val t _ 1 rfl]; exact from_zero (index8 t).2
  have hy : y = ix2 (y 0) (y 1) := eq_ix2 y
  refine Eq.trans (congrArg (outsAt0 m c t) hy) ((out_at m c t hx hg hw (y 0) (y 1)).trans ?_)
  show _ = outSpec m c ((win0_8.rect t).emb y)
  unfold outSpec
  rw [h0, h1]

end

/-! ## The result -/

/-- Every entry is in a block. -/
theorem cover (i : S16384x1024.Idx) : ∃ t : Fin cfg0.N, (cfg0.win 8).flush t = true ∧ i ∈ ((cfg0.win 8).blk t).view.set := by
  have h0 : (i 0).val < 16384 := (i 0).isLt
  have h1 : (i 1).val < 1024 := (i 1).isLt
  have hN : cfg0.N = 32 := N_0
  refine ⟨⟨(i 0).val / 512, by omega⟩, flush0_8 _, ?_⟩
  generalize ht : (⟨(i 0).val / 512, _⟩ : Fin cfg0.N) = t
  have hv : (i 0).val / 512 = t.val := congrArg Fin.val ht
  obtain ⟨e0, e1⟩ := index8 t
  show i ∈ ((View.whole main_v45).slice (win0_8.rect t)).set
  rw [View.set_slice_whole]
  refine Rect.mem_set_unit.2 fun a => ?_
  match a with
  | ⟨0, _⟩ => show win0_8.index t 0 * 512 ≤ (i 0).val ∧ (i 0).val < win0_8.index t 0 * 512 + 512; rw [e0]; omega
  | ⟨1, _⟩ => show win0_8.index t 1 * 1024 ≤ (i 1).val ∧ (i 1).val < win0_8.index t 1 * 1024 + 1024; rw [e1]; omega

/-- The result array after the run. -/
theorem final_spec (hx : ∀ i, ax m c i ≠ ⊤ ∧ ax m c i ≠ ⊥) (hg : ∀ i, ag m c i ≠ ⊤ ∧ ag m c i ≠ ⊥) (hw : ∀ i, aw m c i ≠ ⊤ ∧ aw m c i ≠ ⊥) :
    (dats m 0 c).arrAt 8 cfg0.N = outSpec m c :=
  (dats m 0 c).arrAt_eq_of_cover 8 (outSpec m c) (fun t _ => flushed8_spec m c t hx hg hw) cover

end Cert.ProjBIdeal.Out

end
-- ==== Proof.ProjB.Reference.lean ====
/- The value of the reference of the projection to queries alone, read stage by stage at an entry. -/
module

public import proofs.«01_k».proof.Proof.Proj.Reference
public import proofs.«01_k».proof.Proof.Gen.ProjBRefIdeal.Read

@[expose] public section

noncomputable section

namespace Cert.ProjBRefIdeal.Out

open Cert.ProjBRefIdeal Cert.ProjBRefIdeal.Gen Cert.ProjBRefIdeal.Read Idealize.ShloMosaic Idealize.ShloMosaic.ValueIdx
open Cert.Band (cell2 cell2_eq)
open Cert.Rope (cell1 cell1_eq invRoot w64 w8 eps cosOf sinOf headNorm rotated linear turnedAt)

variable (x : FVec Ideal S16384x1024 .f32) (g : FVec Ideal S1024 .f32) (w : FVec Ideal S1024x1024 .f32) (γ : FVec Ideal S64 .f32)

/-- The rows are normalised as in the projection to queries, keys and values. -/
theorem hidden_apply (R : Fin 16384) (k : Fin 1024) : val_main_v13 (F := Ideal) x g (ix2 R k) = Rope.hidden (cell2 x) (cell1 g) R.val k.val := by
  have e : val_main_v13 (F := Ideal) x g = Cert.ProjRefIdeal.Read.val_main_v13 (F := Ideal) x g := by rfl
  rw [e]
  exact Cert.ProjRefIdeal.Out.normed_apply x g R k

/-- The projected rows. -/
theorem product_apply (R : Fin 16384) (col : Fin 1024) :
    val_main_v14 (F := Ideal) x g w (ix2 R col) = linear (cell2 x) (cell1 g) (cell2 w) R.val col.val := by
  rw [val_main_v14_apply]
  unfold Rope.linear
  refine Finset.sum_congr rfl fun k _ => ?_
  rw [show lidx_main_v14 (ix2 R col) k = ix2 R k from eq_ix2 _, show ridx_main_v14 (ix2 R col) k = ix2 k col from eq_ix2 _, hidden_apply]
  exact congrArg (fun z : EReal => Rope.hidden (cell2 x) (cell1 g) R.val k.val * z) (cell2_eq w (ix2 k col) rfl rfl).symm

variable (b : Fin 4) (p : Fin 4096) (n : Fin 16)

/-- The row of a position of a batch entry, projected. -/
abbrev rowOfPos (b : Fin 4) (p : Fin 4096) : Nat → EReal := linear (cell2 x) (cell1 g) (cell2 w) (b.val * 4096 + p.val)

/-- The same, as heads. -/
theorem heads_apply (d : Fin 64) : val_main_v15 (F := Ideal) x g w (ix4 b p n d) = rowOfPos x g w b p (64 * n.val + d.val) := by
  refine Eq.trans ?_ (product_apply x g w ⟨b.val * 4096 + p.val, by omega⟩ ⟨64 * n.val + d.val, by omega⟩)
  refine shapeCast_apply (val_main_v14 (F := Ideal) x g w) _ (ix4 b p n d) _ ?_
  rw [Shape.rowMajor_val_two, Shape.rowMajor_val_four]
  show (b.val * 4096 + p.val) * 1024 + (64 * n.val + d.val) = ((b.val * 4096 + p.val) * 16 + n.val) * 64 + d.val
  omega

/-- The sum of a head's squares. -/
theorem squares_apply : val_main_v17 (F := Ideal) x g w (ix3 b p n)
    = ∑ d : Fin 64, rowOfPos x g w b p (64 * n.val + d.val) * rowOfPos x g w b p (64 * n.val + d.val) := by
  rw [val_main_v17_apply, val_main_cst_2_apply]
  refine Eq.trans (congrArg₂ (fun a s : EReal => a + s) (show Ideal.ofBits .f32 0x00000000#32 = 0 by simp [Ideal.ofBits, Ideal.ieee])
    (Finset.sum_congr rfl fun d _ => ?_)) (zero_add _)
  rw [val_main_v16_apply, show idx_main_v17 (ix3 b p n) d = ix4 b p n d from eq_ix4 _, heads_apply]
  rfl

/-- A head divided by the root of its mean square, times the gain. -/
theorem normed_apply (d : Fin 64) : val_main_v28 (F := Ideal) x g w γ (ix4 b p n d) = headNorm (rowOfPos x g w b p) (cell1 γ) (64 * n.val + d.val) := by
  have hd := d.isLt
  have e24 : val_main_v24 (F := Ideal) x g w (ix4 b p n d) = invRoot w64 (fun d : Fin 64 => rowOfPos x g w b p (64 * n.val + d.val)) := by
    rw [val_main_v24_apply, val_main_v23_apply, val_main_v22_apply, val_main_v21_apply, val_main_v20_apply, val_main_v19_apply, val_main_v18_apply,
      val_main_cst_3_apply, val_main_cst_4_apply]
    have e := (congrArg (val_main_v17 (F := Ideal) x g w) (show idx_main_v18 (idx_main_v24 (ix4 b p n d)) = ix3 b p n from eq_ix3 _)).trans
      (squares_apply x g w b p n)
    exact congrArg (fun s : EReal => Ideal.rsqrt (Ideal.div s w64 + eps)) e
  have e27 : val_main_v27 (F := Ideal) γ (ix4 b p n d) = cell1 γ d.val := by
    rw [val_main_v27_apply, val_main_v26_apply, cell1_eq]
    exact congrArg γ (eq_ix1 _)
  rw [val_main_v28_apply, val_main_v25_apply, heads_apply, e24, e27]
  unfold headNorm
  rw [show (64 * n.val + d.val) / 64 = n.val by omega, show (64 * n.val + d.val) % 64 = d.val by omega]
  rfl

/-- The angles are those of the projection to queries, keys and values. -/
theorem angles_eq : val_main_v40 (F := Ideal) = Cert.ProjRefIdeal.Read.val_main_v43 (F := Ideal) := by rfl

/-- The cosine of a position and a pair of lanes, along batch entries and heads. -/
theorem cosine_apply (d : Fin 32) : val_main_v42 (F := Ideal) (ix3 p u0 d) = cosOf p.val d.val := by
  rw [val_main_v42_apply, val_main_v41_apply, angles_eq]
  exact congrArg (FloatOps.hostUnary (F := Ideal) (φ := .f32) .cos) (Eq.trans (congrArg _ (eq_ix2 _)) (Cert.ProjRefIdeal.Out.angle_apply p d))

/-- The sine. -/
theorem sine_apply (d : Fin 32) : val_main_v44 (F := Ideal) (ix3 p u0 d) = sinOf p.val d.val := by
  rw [val_main_v44_apply, val_main_v43_apply, angles_eq]
  exact congrArg (FloatOps.hostUnary (F := Ideal) (φ := .f32) .sin) (Eq.trans (congrArg _ (eq_ix2 _)) (Cert.ProjRefIdeal.Out.angle_apply p d))

/-- The first half of a rotated head. -/
theorem low_apply (d : Fin 32) : val_main_v53 (F := Ideal) x g w γ (ix4 b p n d)
    = headNorm (rowOfPos x g w b p) (cell1 γ) (64 * n.val + d.val) * cosOf p.val d.val
      - headNorm (rowOfPos x g w b p) (cell1 γ) (64 * n.val + (32 + d.val)) * sinOf p.val d.val := by
  rw [val_main_v53_apply, val_main_v49_apply, val_main_v52_apply, val_main_v45_apply, val_main_v46_apply, val_main_v48_apply, val_main_v47_apply,
    val_main_v51_apply, val_main_v50_apply,
    show idx_main_v45 (ix4 b p n d) = ix4 b p n ⟨d.val, by omega⟩ from eq_ix4 _,
    show idx_main_v46 (ix4 b p n d) = ix4 b p n ⟨32 + d.val, by omega⟩ from eq_ix4 _,
    show idx_main_v47 (idx_main_v48 (ix4 b p n d)) = ix3 p u0 d from eq_ix3 _,
    show idx_main_v50 (idx_main_v51 (ix4 b p n d)) = ix3 p u0 d from eq_ix3 _,
    normed_apply, normed_apply, cosine_apply, sine_apply]
  rfl

/-- The second half. -/
theorem high_apply (d : Fin 32) : val_main_v60 (F := Ideal) x g w γ (ix4 b p n d)
    = headNorm (rowOfPos x g w b p) (cell1 γ) (64 * n.val + (32 + d.val)) * cosOf p.val d.val
      + headNorm (rowOfPos x g w b p) (cell1 γ) (64 * n.val + d.val) * sinOf p.val d.val := by
  rw [val_main_v60_apply, val_main_v56_apply, val_main_v59_apply, val_main_v45_apply, val_main_v46_apply, val_main_v55_apply, val_main_v54_apply,
    val_main_v58_apply, val_main_v57_apply,
    show idx_main_v45 (ix4 b p n d) = ix4 b p n ⟨d.val, by omega⟩ from eq_ix4 _,
    show idx_main_v46 (ix4 b p n d) = ix4 b p n ⟨32 + d.val, by omega⟩ from eq_ix4 _,
    show idx_main_v54 (idx_main_v55 (ix4 b p n d)) = ix3 p u0 d from eq_ix3 _,
    show idx_main_v57 (idx_main_v58 (ix4 b p n d)) = ix3 p u0 d from eq_ix3 _,
    normed_apply, normed_apply, cosine_apply, sine_apply]
  rfl

/-- A rotated head. -/
theorem rotated_apply (d : Fin 64) : val_main_v61 (F := Ideal) x g w γ (ix4 b p n d) = turnedAt (rowOfPos x g w b p) (cell1 γ) p.val (64 * n.val + d.val) := by
  have hd := d.isLt
  unfold turnedAt rotated
  rw [show (64 * n.val + d.val) % 64 = d.val by omega]
  by_cases h : d.val < 32
  · refine (concatenate_pair_apply_left (t := S4x4096x16x64) 3 _ _ concatenates_S4x4096x16x32_S4x4096x16x32_S4x4096x16x64_d3 (ix4 b p n d) rfl
      (ix4 b p n ⟨d.val, h⟩) (fun a => by match a with | ⟨0, _⟩ => rfl | ⟨1, _⟩ => rfl | ⟨2, _⟩ => rfl | ⟨3, _⟩ => rfl)).trans ?_
    rw [if_pos h, low_apply]
    dsimp only
    rw [show (64 * n.val + d.val) % 32 = d.val by omega, show 64 * n.val + (32 + d.val) = 64 * n.val + d.val + 32 by omega]
  · refine (concatenate_pair_apply_right (t := S4x4096x16x64) 3 _ _ concatenates_S4x4096x16x32_S4x4096x16x32_S4x4096x16x64_d3 (ix4 b p n d) rfl rfl
      (ix4 b p n ⟨d.val - 32, by omega⟩) (fun a ha => by
        match a with
        | ⟨0, _⟩ => rfl
        | ⟨1, _⟩ => rfl
        | ⟨2, _⟩ => rfl
        | ⟨3, _⟩ => exact absurd rfl ha) (by show d.val - 32 + 32 = d.val; omega)).trans ?_
    rw [if_neg h, high_apply]
    dsimp only
    rw [show (64 * n.val + d.val) % 32 = d.val - 32 by omega, show 64 * n.val + (32 + (d.val - 32)) = 64 * n.val + d.val by omega,
      show 64 * n.val + (d.val - 32) = 64 * n.val + d.val - 32 by omega]

/-- The reference's result: every row projected, its heads normed, rotated and divided by 8. -/
theorem result_eq : val_main_v64 (F := Ideal) x g w γ = fun i : S16384x1024.Idx =>
    Ideal.div (turnedAt (linear (cell2 x) (cell1 g) (cell2 w) (i 0).val) (cell1 γ) ((i 0).val % 4096) (i 1).val) w8 := by
  funext i
  obtain ⟨R, col, rfl⟩ : ∃ (R : Fin 16384) (col : Fin 1024), i = ix2 R col := ⟨_, _, eq_ix2 i⟩
  have h := shapeCast_apply (val_main_v63 (F := Ideal) x g w γ) shapeCasts_S4x4096x16x64_S16384x1024 (ix2 R col)
    (ix4 ⟨R.val / 4096, by omega⟩ ⟨R.val % 4096, by omega⟩ ⟨col.val / 64, by omega⟩ ⟨col.val % 64, by omega⟩) (by
      rw [Shape.rowMajor_val_two, Shape.rowMajor_val_four]
      show ((R.val / 4096 * 4096 + R.val % 4096) * 16 + col.val / 64) * 64 + col.val % 64 = R.val * 1024 + col.val
      omega)
  refine Eq.trans h ?_
  rw [val_main_v63_apply, rotated_apply, val_main_v62_apply, val_main_cst_7_apply]
  dsimp only
  have eR : rowOfPos x g w ⟨R.val / 4096, by omega⟩ ⟨R.val % 4096, by omega⟩ = linear (cell2 x) (cell1 g) (cell2 w) R.val :=
    congrArg (linear (cell2 x) (cell1 g) (cell2 w)) (show R.val / 4096 * 4096 + R.val % 4096 = R.val by omega)
  rw [eR, show 64 * (col.val / 64) + col.val % 64 = col.val by omega]
  rfl

end Cert.ProjBRefIdeal.Out

end
-- ==== Proof.ProjB.Claims.lean ====
/- The claims about the projection to queries alone. -/
module

public import proofs.«01_k».proof.Defs
public import proofs.«01_k».proof.Proof.Gen.ProjB.Frame
public import proofs.«01_k».proof.Proof.Gen.ProjBIdeal.Frame
public import proofs.«01_k».proof.Proof.Gen.ProjBRefIdeal.Run
public import proofs.«01_k».proof.Proof.Attn1.Claims
public import proofs.«01_k».proof.Proof.ProjB.Array
public import proofs.«01_k».proof.Proof.ProjB.Reference

@[expose] public section

noncomputable section

namespace Cert.ProjBClaims

open Idealize.ShloMosaic Idealize.SL.Sem Idealize.ShloMosaic.ValueIdx
open Cert.Attn1Claims (finite_of_abs_lt)

/-- The precondition's side conditions. -/
theorem facts_pre : Cert.Pre_proj_b_finite.Facts := ⟨by decide, by decide, by decide⟩

/-- The reference's frame: its run read at the arguments; it declares no semaphore. -/
theorem frame_ref : Cert.quiescent_ProjBRefIdeal (hProjBRefIdeal := Cert.ProjBRefIdeal.Gen.facts) := fun m ρ _ =>
  (θ_run Cert.ProjBRefIdeal.defs _ _).mono (fun r h => ⟨fun c => (h c).2, sem_eq_zero_of_no_sems (by decide) r.2⟩)
    (Cert.ProjBRefIdeal.Value.run (F := Ideal) m ρ)

/-- Kernel and reference agree: both results are the queries of every row, normalised, rotated and divided by 8. -/
theorem algebraic : Cert.algebraic_ProjBIdeal_ProjBRefIdeal_pre_proj_b_finite (hProjBIdeal := Cert.ProjBIdeal.Gen.facts)
    (hProjBRefIdeal := Cert.ProjBRefIdeal.Gen.facts) (hPre_proj_b_finite := facts_pre) := by
  intro m ρ m' ρ' hpre hagree
  refine ⟨fun c => Cert.ProjBIdeal.Out.outSpec m c, ?_, ?_⟩
  · refine (θ_run Cert.ProjBIdeal.defs _ _).mono (fun r h c => ⟨(h c).1.trans ?_, (h c).2⟩) (Cert.ProjBIdeal.Value.run_blocks m ρ)
    exact Cert.ProjBIdeal.Out.final_spec m c (fun i => finite_of_abs_lt _ (congrFun (hpre c).1 i))
      (fun i => finite_of_abs_lt _ (congrFun (hpre c).2.1 i)) (fun i => finite_of_abs_lt _ (congrFun (hpre c).2.2 i))
  · refine (θ_run Cert.ProjBRefIdeal.defs _ _).mono (fun r h c => ⟨(h c).1.trans ?_, (h c).2⟩) (Cert.ProjBRefIdeal.Value.run (F := Ideal) m' ρ')
    refine (Cert.ProjBRefIdeal.Read.val_main_v64_eq m' c).trans ?_
    rw [(hagree c).1, (hagree c).2.1, (hagree c).2.2.1, (hagree c).2.2.2]
    exact Cert.ProjBRefIdeal.Out.result_eq _ _ _ _

end Cert.ProjBClaims

end
-- ==== Proof.Rope.Narrow.lean ====
/- The projection's body on a tile of 128 columns: the product with a narrow tile of weights, and the head norm and rotation
   of a tile that is one chunk. -/
module

public import proofs.«01_k».proof.Proof.Rope.BodyAt

@[expose] public section

noncomputable section

namespace Cert.Rope

open Idealize.ShloMosaic Idealize.ShloMosaic.ValueIdx
open scoped BigOperators

abbrev TNarrow : Shape := ⟨2, ![1024, 128]⟩

theorem casts_narrow : TNarrow.ShapeCasts TNarrow := by decide
theorem dotNarrow_wf : DotDims.WF TTile TNarrow TLanes [1] [0] [0] [1] [] [] := by decide

/-- Rows times a narrow tile of weights. -/
def dotNarrow : DotDims TTile TNarrow TLanes := ⟨[1], [0], [0], [1], [], [], dotNarrow_wf⟩

/-- The rows' product with a narrow tile of weights. -/
def prodNarrow (h : Vec Ideal TTile .bf16) (w : Vec Ideal TNarrow .bf16) : FVec Ideal TLanes .f32 :=
  matmul (φ₁ := .bf16) (φ₂ := .bf16) dotNarrow none h (shapeCast TNarrow w casts_narrow) (constant TLanes .f32 0x00000000#32)

theorem prodNarrow_apply (h : Vec Ideal TTile .bf16) (w : Vec Ideal TNarrow .bf16) (r : Fin 512) (c : Fin 128) :
    prodNarrow h w (ix2 r c) = ∑ k : Fin 1024, h (ix2 r k) * w (ix2 k c) := by
  unfold prodNarrow
  rw [shapeCast_self]
  refine (Ideal.matmul_constant_zero_apply (φ₁ := .bf16) (φ₂ := .bf16) dotNarrow none h w _).trans ?_
  refine (Equiv.sum_comp (contrEquiv1 dotNarrow 1024 rfl rfl).symm _).symm.trans (Finset.sum_congr rfl fun k _ => ?_)
  refine congrArg₂ (fun a b => a * b) (congrArg h ?_) (congrArg w ?_)
  · funext a; match a with | ⟨0, _⟩ => rfl | ⟨1, _⟩ => rfl
  · funext a; match a with | ⟨0, _⟩ => rfl | ⟨1, _⟩ => rfl

/-- A tile that is one chunk, normed by heads and rotated. -/
def single (t : FVec Ideal TLanes .f32) (gain : FVec Ideal TGain .f32) (cosf sins : Vec Ideal TLanes .f32) (bd : Vec Ideal TMix .bf16) :
    FVec Ideal TLanes .f32 :=
  turned (normed t gain (shapeCast TMix bd casts_mix)) (shapeCast TLanes cosf casts_lanes) (shapeCast TLanes sins casts_lanes)

/-- Such a tile is the first chunk of a wider one, so its entries are that chunk's. -/
theorem TileOf.single {y : FVec Ideal TTile .f32} {gain : FVec Ideal TGain .f32} {cosf sins : Vec Ideal TLanes .f32} {bd : Vec Ideal TMix .bf16}
    {f : Nat → Nat → EReal} {γ : Nat → EReal} {c s : Nat → Nat → EReal} (T : TileOf y gain cosf sins bd f γ c s) (t : FVec Ideal TLanes .f32)
    (ht : ∀ (r : Fin 512) (l : Fin 128), t (ix2 r l) = f r.val l.val) (r : Fin 512) (l : Fin 128) :
    Rope.single t gain cosf sins bd (ix2 r l) = rotated (headNorm (f r.val) γ) (c r.val) (s r.val) l.val := by
  have e : t = extractStridedSlice TLanes ![0, 128 * 0] y (slices_chunk 0 (by decide)) := by
    funext i
    obtain ⟨r, l, rfl⟩ : ∃ (r : Fin 512) (l : Fin 128), i = ix2 r l := ⟨i 0, i 1, eq_ix2 i⟩
    rw [ht, slice_apply y 0 (by decide) r l, T.tile]
    dsimp only
    rw [Nat.mul_zero, Nat.zero_add]
  rw [e]
  refine (T.chunk 0 (by decide) r l).trans ?_
  rw [Nat.mul_zero, Nat.zero_add]

end Cert.Rope

end
-- ==== Proof.ProjKv.Out.lean ====
/- The projection to shared keys and values: what one grid point's body leaves in its output block and in the scratch. -/
module

public import proofs.«01_k».proof.Proof.Rope.Narrow
public import proofs.«01_k».proof.Proof.Gen.ProjKvIdeal.Value

@[expose] public section

noncomputable section

namespace Cert.ProjKvIdeal.Out

open Cert.ProjKvIdeal Cert.ProjKvIdeal.Gen Idealize.ShloMosaic Idealize.ShloMosaic.ValueIdx

theorem corner : (![0, 0] : Fin 2 → Nat) = fun _ => 0 := by
  funext a; match a with | ⟨0, _⟩ => rfl | ⟨1, _⟩ => rfl

section
variable (c : Dev nD) (i : grid0.Coords)
variable (a2 : Memref sig .tc .vmem S512x1024 .f32) (h2 : a2.IsWhole) (a3 : Memref sig .tc .vmem S1x1024 .f32) (h3 : a3.IsWhole)
variable (a4 : Memref sig .tc .vmem S1024x128 .bf16) (h4 : a4.IsWhole) (a5 : Memref sig .tc .vmem S1x128 .f32) (h5 : a5.IsWhole)
variable (a6 : Memref sig .tc .vmem S1x128 .f32) (h6 : a6.IsWhole) (a7 : Memref sig .tc .vmem S512x128 .f32) (h7 : a7.IsWhole)
variable (a8 : Memref sig .tc .vmem S512x128 .f32) (h8 : a8.IsWhole) (a9 : Memref sig .tc .vmem S128x128 .bf16) (h9 : a9.IsWhole)
variable (a10 : Memref sig .tc .vmem S512x128 .f32) (h10 : a10.IsWhole) (a11 : Memref sig .tc .vmem S512x1024 .bf16) (h11 : a11.IsWhole)
variable (x0 : Vec Ideal S512x1024 .f32) (x1 : Vec Ideal S1x1024 .f32) (x2 : Vec Ideal S1024x128 .bf16) (x3 : Vec Ideal S1x128 .f32)
variable (x4 : Vec Ideal S1x128 .f32) (x5 : Vec Ideal S512x128 .f32) (x6 : Vec Ideal S512x128 .f32) (x7 : Vec Ideal S128x128 .bf16)
variable (xs : Vec Ideal S512x1024 .bf16)

/-- The keys' tile leaves the normalised rows in the scratch. -/
theorem scratch_A (hc0 : cond0_0 i) (hc1 : cond0_1 i) (hc2 : ¬cond0_2 i) :
    sout0_A_0 c i a2 h2 a3 h3 a4 h4 a5 h5 a6 h6 a7 h7 a8 h8 a9 h9 a10 h10 a11 h11 hc0 hc1 hc2 x0 x1 x2 x3 x4 x5 x6 x7 = Rope.rows x0 x1 := by
  unfold sout0_A_0
  rw [View.read_writes_eq_canon _ _ _ (scover0_A_0 c i a2 h2 a3 h3 a4 h4 a5 h5 a6 h6 a7 h7 a8 h8 a9 h9 a10 h10 a11 h11 hc0 hc1 hc2 x0 x1 x2 x3 x4 x5 x6 x7)]
  unfold kernelRun0_A
  dsimp only
  sl_unfold_words
  rw [View.canon_unit_zero (S := S512x1024) corner]
  simp only [View.readAt_eq_ld, h2.read_unread, h3.read_unread, View.ld_unit_zero (S := S512x1024) corner, View.ld_unit_zero (S := S1x1024) corner]
  rfl

/-- The keys' tile: the rows normalised, projected, normed by heads and rotated. -/
theorem out_A (hc0 : cond0_0 i) (hc1 : cond0_1 i) (hc2 : ¬cond0_2 i) :
    out0_A_8 c i a2 h2 a3 h3 a4 h4 a5 h5 a6 h6 a7 h7 a8 h8 a9 h9 a10 h10 a11 h11 hc0 hc1 hc2 x0 x1 x2 x3 x4 x5 x6 x7
      = Rope.single (Rope.prodNarrow (Rope.rows x0 x1) x2) (Rope.gainOf (Scalar.cmpi .slt (BitVec.ofNat 32 (i 1).val) 0#32) x3 x4) x5 x6 x7 := by
  unfold out0_A_8
  rw [View.read_writes_eq_canon _ _ _ (cover0_A_8 c i a2 h2 a3 h3 a4 h4 a5 h5 a6 h6 a7 h7 a8 h8 a9 h9 a10 h10 a11 h11 hc0 hc1 hc2 x0 x1 x2 x3 x4 x5 x6 x7)]
  unfold kernelRun0_A
  dsimp only
  sl_unfold_words
  rw [View.canon_unit_zero (S := S512x128) corner]
  simp only [View.readCov_unit_zero (S := S512x1024) _ corner]
  simp only [View.readAt_eq_ld, h2.read_unread, h3.read_unread, h4.read_unread, h5.read_unread, h6.read_unread, h7.read_unread, h8.read_unread,
    h9.read_unread, View.ld_unit_zero (S := S512x1024) corner, View.ld_unit_zero (S := S1x1024) corner, View.ld_unit_zero (S := S1024x128) corner,
    View.ld_unit_zero (S := S1x128) corner, View.ld_unit_zero (S := S512x128) corner, View.ld_unit_zero (S := S128x128) corner]
  rfl

/-- The values' tile is the product of the rows in the scratch. -/
theorem out_B (hc0 : ¬cond0_0 i) (hc1 : ¬cond0_1 i) (hc2 : cond0_2 i) :
    out0_B_8 c i a2 h2 a3 h3 a4 h4 a5 h5 a6 h6 a7 h7 a8 h8 a9 h9 a10 h10 a11 h11 hc0 hc1 hc2 x0 x1 x2 x3 x4 x5 x6 x7 xs = Rope.prodNarrow xs x2 := by
  unfold out0_B_8
  rw [View.read_writes_eq_canon _ _ _ (cover0_B_8 c i a2 h2 a3 h3 a4 h4 a5 h5 a6 h6 a7 h7 a8 h8 a9 h9 a10 h10 a11 h11 hc0 hc1 hc2 x0 x1 x2 x3 x4 x5 x6 x7 xs)]
  unfold kernelRun0_B
  dsimp only
  rw [View.canon_unit_zero (S := S512x128) corner]
  simp only [View.readAt_eq_ld, h4.read_unread, h11.read_unread, View.ld_unit_zero (S := S512x1024) corner, View.ld_unit_zero (S := S1024x128) corner]
  rfl

end

end Cert.ProjKvIdeal.Out

end
-- ==== Proof.ProjKv.Array.lean ====
/- The projection to shared keys and values: the result array, entry by entry. The host code is that of the projection to queries, keys
   and values, and its tables are read there. -/
module

public import proofs.«01_k».proof.Proof.Proj.Array
public import proofs.«01_k».proof.Proof.ProjKv.Out

@[expose] public section

noncomputable section

namespace Cert.ProjKvIdeal.Out

open Cert.ProjKvIdeal Cert.ProjKvIdeal.Gen Idealize.ShloMosaic Idealize.ShloMosaic.ValueIdx Idealize.ShloMosaic.TcCoe
open Idealize.ShloMosaic.Pipeline (Dat)
open Cert.Rope (cell1 cell1_eq cell1_real cell2_real hidden linear turnedAt cosOf sinOf)
open Cert.Band (cell2 cell2_eq)
open Cert.ProjIdeal.Out (emb_whole gainRow gainRow_apply cosTable cosTable_apply sinTable sinTable_apply headMatrix headMatrix_apply
  asRow_apply one_eq gainOf_later)

variable (m : (ℓ : Loc nD τ sig) → Buf (Elt Ideal) ℓ) (c : Dev nD)

/-- The arguments as launched: rows, their gain, weights, the heads' gain. -/
abbrev ax : S16384x1024.Idx → EReal := m ((c : Thread nD τ).loc main_arg0)
abbrev ag : S1024.Idx → EReal := m ((c : Thread nD τ).loc main_arg1)
abbrev aw : S1024x256.Idx → EReal := m ((c : Thread nD τ).loc main_arg2)
abbrev ak : S64.Idx → EReal := m ((c : Thread nD τ).loc main_arg3)

/-- A row of the product. -/
def rowAt (R : Nat) : Nat → EReal := linear (cell2 (ax m c)) (cell1 (ag m c)) (cell2 (aw m c)) R

/-- An entry of the result: a key normed by heads and rotated by its position, or a value. -/
def entry (R col : Nat) : EReal := if col < 128 then turnedAt (rowAt m c R) (cell1 (ak m c)) (R % 4096) col else rowAt m c R col

/-- Every entry of the result. -/
def outSpec : S16384x256.Idx → EReal := fun i => entry m c (i 0).val (i 1).val

/-! ## The index maps: point `t` is column tile `t % 2` of row block `t / 2` -/

theorem coord1 : ∀ t : Fin cfg0.N, (grid0.coords t 1).val = t.val % 2 :=
  (by decide +kernel : ∀ t : Fin grid0.N, (grid0.coords t 1).val = t.val % 2)

theorem index0 : ∀ t : Fin cfg0.N, win0_0.index t 0 = t.val / 2 ∧ win0_0.index t 1 = 0 :=
  (by decide +kernel : ∀ t : Fin grid0.N, win0_0.index t 0 = t.val / 2 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = t.val % 2 :=
  (by decide +kernel : ∀ t : Fin grid0.N, win0_2.index t 0 = 0 ∧ win0_2.index t 1 = t.val % 2)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = t.val / 2 % 8 ∧ win0_5.index t 1 = 0 :=
  (by decide +kernel : ∀ t : Fin grid0.N, win0_5.index t 0 = t.val / 2 % 8 ∧ win0_5.index t 1 = 0)
theorem index6 : ∀ t : Fin cfg0.N, win0_6.index t 0 = t.val / 2 % 8 ∧ win0_6.index t 1 = 0 :=
  (by decide +kernel : ∀ t : Fin grid0.N, win0_6.index t 0 = t.val / 2 % 8 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = t.val / 2 ∧ win0_8.index t 1 = t.val % 2 :=
  (by decide +kernel : ∀ t : Fin grid0.N, win0_8.index t 0 = t.val / 2 ∧ win0_8.index t 1 = t.val % 2)

/-- A coordinate in a block that starts the axis. -/
theorem from_zero {i s l : Nat} (h : i = 0) : i * s + l = l := by rw [h, Nat.zero_mul, Nat.zero_add]

/-! ## The input blocks -/

section
variable (t : Fin cfg0.N)

/-- Window 0: the block's rows. -/
theorem block0 (r : Fin 512) (k : Fin 1024) : (iblk m c 0 t : S512x1024.Idx → EReal) (ix2 r k) = cell2 (ax m c) (t.val / 2 * 512 + r.val) k.val := by
  have e : (V m c main_arg0 : S16384x1024.Idx → EReal) = ax m c := by rfl
  refine Eq.trans ?_ (cell2_eq (ax m c) ((win0_0.rect t).emb (ix2 r k)) ?_ ?_).symm
  · rw [← e]; rfl
  · rw [win0_0.rect_emb_val t _ 0 rfl, (index0 t).1]; rfl
  · rw [win0_0.rect_emb_val t _ 1 rfl]; exact from_zero (index0 t).2

/-- Window 1: the rows' gain. -/
theorem block1 (k : Fin 1024) : (iblk m c 1 t : S1x1024.Idx → EReal) (ix2 u0 k) = cell1 (ag m c) k.val := by
  have e : (V m c main_v44 : S1x1024.Idx → EReal) = shapeCast S1x1024 (ag m c) shapeCasts_S1024_S1x1024 := by rfl
  refine Eq.trans (congrArg (V m c main_v44 : S1x1024.Idx → EReal) (emb_whole ((win0_1.rect t).emb (ix2 u0 k)) u0 k ?_ ?_)) ?_
  · rw [win0_1.rect_emb_val t _ 0 rfl]; exact from_zero (index1 t).1
  · rw [win0_1.rect_emb_val t _ 1 rfl]; exact from_zero (index1 t).2
  · rw [e, cell1_eq]; exact asRow_apply (ag m c) k

/-- Window 2: the tile's columns of the weights; the host's rounding is the identity. -/
theorem block2 (k : Fin 1024) (l : Fin 128) :
    (iblk m c 2 t : S1024x128.Idx → EReal) (ix2 k l) = cell2 (aw m c) k.val (t.val % 2 * 128 + l.val) := by
  have e : (V m c main_v43 : S1024x256.Idx → EReal) = aw m c := by rfl
  refine Eq.trans (congrFun e ((win0_2.rect t).emb (ix2 k l))) (cell2_eq (aw m c) ((win0_2.rect t).emb (ix2 k l)) ?_ ?_).symm
  · rw [win0_2.rect_emb_val t _ 0 rfl]; exact from_zero (index2 t).1
  · rw [win0_2.rect_emb_val t _ 1 rfl, (index2 t).2]; rfl

/-- Window 4: the heads' gain. -/
theorem block4 (l : Fin 128) : (iblk m c 4 t : S1x128.Idx → EReal) (ix2 u0 l) = cell1 (ak m c) (l.val % 64) := by
  have e : (V m c main_v42 : S1x128.Idx → EReal) = gainRow (ak m c) 0x3F800000#32 := by rfl
  refine Eq.trans (congrArg (V m c main_v42 : S1x128.Idx → EReal) (emb_whole ((win0_4.rect t).emb (ix2 u0 l)) u0 l ?_ ?_)) ?_
  · rw [win0_4.rect_emb_val t _ 0 rfl]; exact from_zero (index4 t).1
  · rw [win0_4.rect_emb_val t _ 1 rfl]; exact from_zero (index4 t).2
  · rw [e, gainRow_apply, one_eq, mul_one]
    exact (cell1_eq (ak m c) ⟨l.val % 64, Nat.mod_lt _ (by decide)⟩).symm

/-- The position of a row of the block. -/
theorem pos_eq (r : Fin 512) : (t.val / 2 * 512 + r.val) % 4096 = t.val / 2 % 8 * 512 + r.val := by
  have := r.isLt; omega

theorem pos_lt (r : Fin 512) : (t.val / 2 * 512 + r.val) % 4096 < 4096 := Nat.mod_lt _ (by decide)

/-- Window 5: the cosines of the block's positions. -/
theorem block5 (r : Fin 512) (l : Fin 128) : (iblk m c 5 t : S512x128.Idx → EReal) (ix2 r l) = cosOf ((t.val / 2 * 512 + r.val) % 4096) (l.val % 32) := by
  have e : (V m c main_v31 : S4096x128.Idx → EReal) = cosTable := by rfl
  refine Eq.trans (congrArg (V m c main_v31 : S4096x128.Idx → EReal) (emb_whole ((win0_5.rect t).emb (ix2 r l)) ⟨_, pos_lt t r⟩ l ?_ ?_)) ?_
  · rw [win0_5.rect_emb_val t _ 0 rfl, (index5 t).1]; exact (pos_eq t r).symm
  · rw [win0_5.rect_emb_val t _ 1 rfl]; exact from_zero (index5 t).2
  · rw [e]; exact cosTable_apply ⟨_, pos_lt t r⟩ l

/-- Window 6: the signed sines of the block's positions. -/
theorem block6 (r : Fin 512) (l : Fin 128) : (iblk m c 6 t : S512x128.Idx → EReal) (ix2 r l)
    = if l.val % 64 < 32 then -sinOf ((t.val / 2 * 512 + r.val) % 4096) (l.val % 32) else sinOf ((t.val / 2 * 512 + r.val) % 4096) (l.val % 32) := by
  have e : (V m c main_v34 : S4096x128.Idx → EReal) = sinTable := by rfl
  refine Eq.trans (congrArg (V m c main_v34 : S4096x128.Idx → EReal) (emb_whole ((win0_6.rect t).emb (ix2 r l)) ⟨_, pos_lt t r⟩ l ?_ ?_)) ?_
  · rw [win0_6.rect_emb_val t _ 0 rfl, (index6 t).1]; exact (pos_eq t r).symm
  · rw [win0_6.rect_emb_val t _ 1 rfl]; exact from_zero (index6 t).2
  · rw [e]; exact sinTable_apply ⟨_, pos_lt t r⟩ l

/-- The matrix that averages over a head, as the kernel is handed it. -/
theorem v9_apply (l' l : Fin 128) : (V m c main_v9 : S128x128.Idx → EReal) (ix2 l' l) = if l'.val / 64 = l.val / 64 then ((64⁻¹ : ℝ) : EReal) else 0 := by
  have e : (V m c main_v9 : S128x128.Idx → EReal) = headMatrix := by rfl
  rw [e, headMatrix_apply]

/-- Window 7: that matrix. -/
theorem block7 (l' l : Fin 128) : (iblk m c 7 t : S128x128.Idx → EReal) (ix2 l' l) = if l'.val / 64 = l.val / 64 then ((64⁻¹ : ℝ) : EReal) else 0 := by
  refine Eq.trans (congrArg (V m c main_v9 : S128x128.Idx → EReal) (emb_whole ((win0_7.rect t).emb (ix2 l' l)) l' l ?_ ?_)) (v9_apply m c l' l)
  · rw [win0_7.rect_emb_val t _ 0 rfl]; exact from_zero (index7 t).1
  · rw [win0_7.rect_emb_val t _ 1 rfl]; exact from_zero (index7 t).2

/-! ## The body on the blocks -/

/-- The normalised rows of a block. -/
theorem rows_at (r : Fin 512) (k : Fin 1024) :
    Rope.rows (iblk m c 0 t) (iblk m c 1 t) (ix2 r k) = hidden (cell2 (ax m c)) (cell1 (ag m c)) (t.val / 2 * 512 + r.val) k.val := by
  refine (Rope.rows_apply (iblk m c 0 t) (iblk m c 1 t) r k).trans ?_
  have h0 := fun k => block0 m c t r k
  have h1 := fun k => block1 m c t k
  generalize iblk m c 0 t = x0 at h0 ⊢
  generalize iblk m c 1 t = x1 at h1 ⊢
  unfold Rope.hidden
  simp only [h0, h1]

/-- After every point the scratch holds its row block's normalised rows. -/
theorem scratch_at (r : Fin 512) (k : Fin 1024) :
    (outsAt0 m c t.val t.isLt).2 (ix2 r k) = hidden (cell2 (ax m c)) (cell1 (ag m c)) (t.val / 2 * 512 + r.val) k.val := by
  by_cases h : t.val % 2 = 0
  · refine (congrArg (fun p => p.2 (ix2 r k)) (outsAt0_A m c t h h (by omega))).trans ?_
    dsimp only
    rw [scratch_A]
    exact rows_at m c t r k
  · have hp : t.val - 1 < cfg0.N := Nat.lt_of_le_of_lt (Nat.sub_le _ _) t.isLt
    have h' : (t.val - 1) % 2 = 0 := by omega
    have e := congrArg (fun p => p.2 (ix2 r k)) (outsAt0_B m c t h h (by omega))
    refine e.trans ((congrArg (fun p => p.2 (ix2 r k)) (outsAt0_A m c ⟨t.val - 1, hp⟩ h' h' (by show ¬(t.val - 1) % 2 = 1; omega))).trans ?_)
    dsimp only
    rw [scratch_A]
    refine (rows_at m c ⟨t.val - 1, hp⟩ r k).trans ?_
    show hidden _ _ ((t.val - 1) / 2 * 512 + r.val) k.val = _
    rw [show (t.val - 1) / 2 = t.val / 2 by omega]

/-- The product of the normalised rows with a tile of weights. -/
theorem prod_at (s : Vec Ideal S512x1024 .bf16)
    (hs : ∀ (r : Fin 512) (k : Fin 1024), s (ix2 r k) = hidden (cell2 (ax m c)) (cell1 (ag m c)) (t.val / 2 * 512 + r.val) k.val)
    (r : Fin 512) (l : Fin 128) :
    Rope.prodNarrow s (iblk m c 2 t) (ix2 r l) = rowAt m c (t.val / 2 * 512 + r.val) (t.val % 2 * 128 + l.val) := by
  refine (Rope.prodNarrow_apply s (iblk m c 2 t) r l).trans ?_
  unfold rowAt Rope.linear
  refine Finset.sum_congr rfl fun k _ => ?_
  rw [hs]
  exact congrArg (fun a : EReal => hidden (cell2 (ax m c)) (cell1 (ag m c)) (t.val / 2 * 512 + r.val) k.val * a) (block2 m c t k l)

variable (hx : ∀ i, ax m c i ≠ ⊤ ∧ ax m c i ≠ ⊥) (hg : ∀ i, ag m c i ≠ ⊤ ∧ ag m c i ≠ ⊥) (hw : ∀ i, aw m c i ≠ ⊤ ∧ aw m c i ≠ ⊥)
include hx hg hw

/-- What point `t` leaves in its output block: keys in the first tile, values in the second. -/
theorem out_at (r : Fin 512) (l : Fin 128) :
    (outsAt0 m c t.val t.isLt).1 (ix2 r l) = entry m c (t.val / 2 * 512 + r.val) (t.val % 2 * 128 + l.val) := by
  have hl := l.isLt
  unfold entry
  by_cases h : t.val % 2 = 0
  · refine (congrArg (fun p => p.1 (ix2 r l)) (outsAt0_A m c t h h (by omega))).trans ?_
    dsimp only
    rw [out_A, coord1, h, show Scalar.cmpi .slt (BitVec.ofNat 32 0) 0#32 = 0#1 by decide, gainOf_later, Nat.zero_mul, Nat.zero_add, if_pos hl]
    have ht : Rope.TileOf (fun i => rowAt m c (t.val / 2 * 512 + (i 0).val) (i 1).val) (iblk m c 4 t) (iblk m c 5 t) (iblk m c 6 t) (iblk m c 7 t)
        (fun r => rowAt m c (t.val / 2 * 512 + r)) (cell1 (ak m c))
        (fun r => cosOf ((t.val / 2 * 512 + r) % 4096)) (fun r => sinOf ((t.val / 2 * 512 + r) % 4096)) :=
      { tile := fun r l => rfl
        real := fun r k => Rope.linear_real _ _ _ _ _ (fun k => cell2_real (ax m c) hx _ k) (fun k => cell1_real (ag m c) hg k)
          (fun k => cell2_real (aw m c) hw k _)
        gain := fun l => block4 m c t l
        cosf := fun r l => block5 m c t r l
        sins := fun r l => block6 m c t r l
        mix := fun l' l => block7 m c t l' l }
    refine ht.single _ (fun r l => (prod_at m c t _ (rows_at m c t) r l).trans ?_) r l
    rw [h, Nat.zero_mul, Nat.zero_add]
  · have h1 : t.val % 2 = 1 := by omega
    have hp : t.val - 1 < cfg0.N := Nat.lt_of_le_of_lt (Nat.sub_le _ _) t.isLt
    refine (congrArg (fun p => p.1 (ix2 r l)) (outsAt0_B m c t h h h1)).trans ?_
    dsimp only
    rw [out_B, if_neg (by omega)]
    refine prod_at m c t _ (fun r k => (scratch_at m c ⟨t.val - 1, hp⟩ r k).trans ?_) r l
    show hidden _ _ ((t.val - 1) / 2 * 512 + r.val) k.val = _
    rw [show (t.val - 1) / 2 = t.val / 2 by omega]

/-- Point `t` writes back its block of the result. -/
theorem flushed8_spec : (dats m 0 c).flushed 8 t = (win0_8.blk t).view.read (Elt Ideal) (outSpec m c) := by
  rw [Value.flushed8]
  funext y
  have h0 : ((win0_8.rect t).emb y 0).val = t.val / 2 * 512 + (y 0).val := by
    rw [win0_8.rect_emb_val t _ 0 rfl, (index8 t).1]; rfl
  have h1 : ((win0_8.rect t).emb y 1).val = t.val % 2 * 128 + (y 1).val := by
    rw [win0_8.rect_emb_val t _ 1 rfl, (index8 t).2]; rfl
  have hy : y = ix2 (y 0) (y 1) := eq_ix2 y
  refine Eq.trans (congrArg (outsAt0 m c t.val t.isLt).1 hy) ((out_at m c t hx hg hw (y 0) (y 1)).trans ?_)
  show _ = outSpec m c ((win0_8.rect t).emb y)
  unfold outSpec
  rw [h0, h1]

end

/-- The result array after the run. -/
theorem final_spec (hx : ∀ i, ax m c i ≠ ⊤ ∧ ax m c i ≠ ⊥) (hg : ∀ i, ag m c i ≠ ⊤ ∧ ag m c i ≠ ⊥) (hw : ∀ i, aw m c i ≠ ⊤ ∧ aw m c i ≠ ⊥) :
    (dats m 0 c).arrAt 8 cfg0.N = outSpec m c :=
  (dats m 0 c).arrAt_eq_of_cover 8 (outSpec m c) (fun t _ => flushed8_spec m c t hx hg hw) (fun i => (Value.covered_iff8 i).2 (by
    have h0 : (i 0).val < 16384 := (i 0).isLt
    have h1 : (i 1).val < 256 := (i 1).isLt
    omega))

end Cert.ProjKvIdeal.Out

end
-- ==== Proof.ProjKv.Reference.lean ====
/- The value of the reference of the projection to shared keys and values, read stage by stage at an entry. -/
module

public import proofs.«01_k».proof.Proof.Proj.Reference
public import proofs.«01_k».proof.Proof.Gen.ProjKvRefIdeal.Read

@[expose] public section

noncomputable section

namespace Cert.ProjKvRefIdeal.Out

open Cert.ProjKvRefIdeal Cert.ProjKvRefIdeal.Gen Cert.ProjKvRefIdeal.Read Idealize.ShloMosaic Idealize.ShloMosaic.ValueIdx
open Cert.Band (cell2 cell2_eq)
open Cert.Rope (cell1 cell1_eq invRoot w64 eps cosOf sinOf headNorm rotated linear turnedAt)

variable (x : FVec Ideal S16384x1024 .f32) (g : FVec Ideal S1024 .f32) (w : FVec Ideal S1024x256 .f32) (γ : FVec Ideal S64 .f32)

/-- The rows are normalised as in the projection to queries, keys and values. -/
theorem hidden_apply (R : Fin 16384) (k : Fin 1024) : val_main_v13 (F := Ideal) x g (ix2 R k) = Rope.hidden (cell2 x) (cell1 g) R.val k.val := by
  have e : val_main_v13 (F := Ideal) x g = Cert.ProjRefIdeal.Read.val_main_v13 (F := Ideal) x g := by rfl
  rw [e]
  exact Cert.ProjRefIdeal.Out.normed_apply x g R k

/-- The projected rows. -/
theorem product_apply (R : Fin 16384) (col : Fin 256) :
    val_main_v14 (F := Ideal) x g w (ix2 R col) = linear (cell2 x) (cell1 g) (cell2 w) R.val col.val := by
  rw [val_main_v14_apply]
  unfold Rope.linear
  refine Finset.sum_congr rfl fun k _ => ?_
  rw [show lidx_main_v14 (ix2 R col) k = ix2 R k from eq_ix2 _, show ridx_main_v14 (ix2 R col) k = ix2 k col from eq_ix2 _, hidden_apply]
  exact congrArg (fun z : EReal => Rope.hidden (cell2 x) (cell1 g) R.val k.val * z) (cell2_eq w (ix2 k col) rfl rfl).symm

/-- The keys: the first 128 columns. -/
theorem keys_apply (R : Fin 16384) (col : Fin 128) :
    val_main_v15 (F := Ideal) x g w (ix2 R col) = linear (cell2 x) (cell1 g) (cell2 w) R.val col.val := by
  rw [val_main_v15_apply, show idx_main_v15 (ix2 R col) = ix2 R ⟨col.val, by omega⟩ from eq_ix2 _]
  exact product_apply x g w R _

/-- The values: the others. -/
theorem values_apply (R : Fin 16384) (col : Fin 128) :
    val_main_v16 (F := Ideal) x g w (ix2 R col) = linear (cell2 x) (cell1 g) (cell2 w) R.val (128 + col.val) := by
  rw [val_main_v16_apply, show idx_main_v16 (ix2 R col) = ix2 R ⟨128 + col.val, by omega⟩ from eq_ix2 _]
  exact product_apply x g w R _

variable (b : Fin 4) (p : Fin 4096) (n : Fin 2)

/-- The row of a position of a batch entry, projected. -/
abbrev rowOfPos (b : Fin 4) (p : Fin 4096) : Nat → EReal := linear (cell2 x) (cell1 g) (cell2 w) (b.val * 4096 + p.val)

/-- The keys, as heads. -/
theorem heads_apply (d : Fin 64) : val_main_v17 (F := Ideal) x g w (ix4 b p n d) = rowOfPos x g w b p (64 * n.val + d.val) := by
  refine Eq.trans ?_ (keys_apply x g w ⟨b.val * 4096 + p.val, by omega⟩ ⟨64 * n.val + d.val, by omega⟩)
  refine shapeCast_apply (val_main_v15 (F := Ideal) x g w) _ (ix4 b p n d) _ ?_
  rw [Shape.rowMajor_val_two, Shape.rowMajor_val_four]
  show (b.val * 4096 + p.val) * 128 + (64 * n.val + d.val) = ((b.val * 4096 + p.val) * 2 + n.val) * 64 + d.val
  omega

/-- The sum of a head's squares. -/
theorem squares_apply : val_main_v19 (F := Ideal) x g w (ix3 b p n)
    = ∑ d : Fin 64, rowOfPos x g w b p (64 * n.val + d.val) * rowOfPos x g w b p (64 * n.val + d.val) := by
  rw [val_main_v19_apply, val_main_cst_2_apply]
  refine Eq.trans (congrArg₂ (fun a s : EReal => a + s) (show Ideal.ofBits .f32 0x00000000#32 = 0 by simp [Ideal.ofBits, Ideal.ieee])
    (Finset.sum_congr rfl fun d _ => ?_)) (zero_add _)
  rw [val_main_v18_apply, show idx_main_v19 (ix3 b p n) d = ix4 b p n d from eq_ix4 _, heads_apply]
  rfl

/-- A head divided by the root of its mean square, times the gain. -/
theorem normed_apply (d : Fin 64) : val_main_v30 (F := Ideal) x g w γ (ix4 b p n d) = headNorm (rowOfPos x g w b p) (cell1 γ) (64 * n.val + d.val) := by
  have hd := d.isLt
  have e24 : val_main_v26 (F := Ideal) x g w (ix4 b p n d) = invRoot w64 (fun d : Fin 64 => rowOfPos x g w b p (64 * n.val + d.val)) := by
    rw [val_main_v26_apply, val_main_v25_apply, val_main_v24_apply, val_main_v23_apply, val_main_v22_apply, val_main_v21_apply, val_main_v20_apply,
      val_main_cst_3_apply, val_main_cst_4_apply]
    have e := (congrArg (val_main_v19 (F := Ideal) x g w) (show idx_main_v20 (idx_main_v26 (ix4 b p n d)) = ix3 b p n from eq_ix3 _)).trans
      (squares_apply x g w b p n)
    exact congrArg (fun s : EReal => Ideal.rsqrt (Ideal.div s w64 + eps)) e
  have e27 : val_main_v29 (F := Ideal) γ (ix4 b p n d) = cell1 γ d.val := by
    rw [val_main_v29_apply, val_main_v28_apply, cell1_eq]
    exact congrArg γ (eq_ix1 _)
  rw [val_main_v30_apply, val_main_v27_apply, heads_apply, e24, e27]
  unfold headNorm
  rw [show (64 * n.val + d.val) / 64 = n.val by omega, show (64 * n.val + d.val) % 64 = d.val by omega]
  rfl

/-- The angles are those of the projection to queries, keys and values. -/
theorem angles_eq : val_main_v42 (F := Ideal) = Cert.ProjRefIdeal.Read.val_main_v43 (F := Ideal) := by rfl

/-- The cosine of a position and a pair of lanes, along batch entries and heads. -/
theorem cosine_apply (d : Fin 32) : val_main_v44 (F := Ideal) (ix3 p u0 d) = cosOf p.val d.val := by
  rw [val_main_v44_apply, val_main_v43_apply, angles_eq]
  exact congrArg (FloatOps.hostUnary (F := Ideal) (φ := .f32) .cos) (Eq.trans (congrArg _ (eq_ix2 _)) (Cert.ProjRefIdeal.Out.angle_apply p d))

/-- The sine. -/
theorem sine_apply (d : Fin 32) : val_main_v46 (F := Ideal) (ix3 p u0 d) = sinOf p.val d.val := by
  rw [val_main_v46_apply, val_main_v45_apply, angles_eq]
  exact congrArg (FloatOps.hostUnary (F := Ideal) (φ := .f32) .sin) (Eq.trans (congrArg _ (eq_ix2 _)) (Cert.ProjRefIdeal.Out.angle_apply p d))

/-- The first half of a rotated head. -/
theorem low_apply (d : Fin 32) : val_main_v55 (F := Ideal) x g w γ (ix4 b p n d)
    = headNorm (rowOfPos x g w b p) (cell1 γ) (64 * n.val + d.val) * cosOf p.val d.val
      - headNorm (rowOfPos x g w b p) (cell1 γ) (64 * n.val + (32 + d.val)) * sinOf p.val d.val := by
  rw [val_main_v55_apply, val_main_v51_apply, val_main_v54_apply, val_main_v47_apply, val_main_v48_apply, val_main_v50_apply, val_main_v49_apply,
    val_main_v53_apply, val_main_v52_apply,
    show idx_main_v47 (ix4 b p n d) = ix4 b p n ⟨d.val, by omega⟩ from eq_ix4 _,
    show idx_main_v48 (ix4 b p n d) = ix4 b p n ⟨32 + d.val, by omega⟩ from eq_ix4 _,
    show idx_main_v49 (idx_main_v50 (ix4 b p n d)) = ix3 p u0 d from eq_ix3 _,
    show idx_main_v52 (idx_main_v53 (ix4 b p n d)) = ix3 p u0 d from eq_ix3 _,
    normed_apply, normed_apply, cosine_apply, sine_apply]
  rfl

/-- The second half. -/
theorem high_apply (d : Fin 32) : val_main_v62 (F := Ideal) x g w γ (ix4 b p n d)
    = headNorm (rowOfPos x g w b p) (cell1 γ) (64 * n.val + (32 + d.val)) * cosOf p.val d.val
      + headNorm (rowOfPos x g w b p) (cell1 γ) (64 * n.val + d.val) * sinOf p.val d.val := by
  rw [val_main_v62_apply, val_main_v58_apply, val_main_v61_apply, val_main_v47_apply, val_main_v48_apply, val_main_v57_apply, val_main_v56_apply,
    val_main_v60_apply, val_main_v59_apply,
    show idx_main_v47 (ix4 b p n d) = ix4 b p n ⟨d.val, by omega⟩ from eq_ix4 _,
    show idx_main_v48 (ix4 b p n d) = ix4 b p n ⟨32 + d.val, by omega⟩ from eq_ix4 _,
    show idx_main_v56 (idx_main_v57 (ix4 b p n d)) = ix3 p u0 d from eq_ix3 _,
    show idx_main_v59 (idx_main_v60 (ix4 b p n d)) = ix3 p u0 d from eq_ix3 _,
    normed_apply, normed_apply, cosine_apply, sine_apply]
  rfl

/-- A rotated head. -/
theorem rotated_apply (d : Fin 64) : val_main_v63 (F := Ideal) x g w γ (ix4 b p n d) = turnedAt (rowOfPos x g w b p) (cell1 γ) p.val (64 * n.val + d.val) := by
  have hd := d.isLt
  unfold turnedAt rotated
  rw [show (64 * n.val + d.val) % 64 = d.val by omega]
  by_cases h : d.val < 32
  · refine (concatenate_pair_apply_left (t := S4x4096x2x64) 3 _ _ concatenates_S4x4096x2x32_S4x4096x2x32_S4x4096x2x64_d3 (ix4 b p n d) rfl
      (ix4 b p n ⟨d.val, h⟩) (fun a => by match a with | ⟨0, _⟩ => rfl | ⟨1, _⟩ => rfl | ⟨2, _⟩ => rfl | ⟨3, _⟩ => rfl)).trans ?_
    rw [if_pos h, low_apply]
    dsimp only
    rw [show (64 * n.val + d.val) % 32 = d.val by omega, show 64 * n.val + (32 + d.val) = 64 * n.val + d.val + 32 by omega]
  · refine (concatenate_pair_apply_right (t := S4x4096x2x64) 3 _ _ concatenates_S4x4096x2x32_S4x4096x2x32_S4x4096x2x64_d3 (ix4 b p n d) rfl rfl
      (ix4 b p n ⟨d.val - 32, by omega⟩) (fun a ha => by
        match a with
        | ⟨0, _⟩ => rfl
        | ⟨1, _⟩ => rfl
        | ⟨2, _⟩ => rfl
        | ⟨3, _⟩ => exact absurd rfl ha) (by show d.val - 32 + 32 = d.val; omega)).trans ?_
    rw [if_neg h, high_apply]
    dsimp only
    rw [show (64 * n.val + d.val) % 32 = d.val - 32 by omega, show 64 * n.val + (32 + (d.val - 32)) = 64 * n.val + d.val by omega,
      show 64 * n.val + (d.val - 32) = 64 * n.val + d.val - 32 by omega]

/-- The rotated keys of a row. -/
theorem turned_apply (R : Fin 16384) (col : Fin 128) : val_main_v64 (F := Ideal) x g w γ (ix2 R col)
    = turnedAt (linear (cell2 x) (cell1 g) (cell2 w) R.val) (cell1 γ) (R.val % 4096) col.val := by
  have h := shapeCast_apply (val_main_v63 (F := Ideal) x g w γ) shapeCasts_S4x4096x2x64_S16384x128 (ix2 R col)
    (ix4 ⟨R.val / 4096, by omega⟩ ⟨R.val % 4096, by omega⟩ ⟨col.val / 64, by omega⟩ ⟨col.val % 64, by omega⟩) (by
      rw [Shape.rowMajor_val_two, Shape.rowMajor_val_four]
      show ((R.val / 4096 * 4096 + R.val % 4096) * 2 + col.val / 64) * 64 + col.val % 64 = R.val * 128 + col.val
      omega)
  refine Eq.trans h ?_
  rw [rotated_apply]
  dsimp only
  have eR : rowOfPos x g w ⟨R.val / 4096, by omega⟩ ⟨R.val % 4096, by omega⟩ = linear (cell2 x) (cell1 g) (cell2 w) R.val :=
    congrArg (linear (cell2 x) (cell1 g) (cell2 w)) (show R.val / 4096 * 4096 + R.val % 4096 = R.val by omega)
  rw [eR, show 64 * (col.val / 64) + col.val % 64 = col.val by omega]

/-- The reference's result: every row projected; the heads of the keys normed and rotated, the values as they are. -/
theorem result_eq : val_main_v65 (F := Ideal) x g w γ = fun i : S16384x256.Idx =>
    if (i 1).val < 128 then turnedAt (linear (cell2 x) (cell1 g) (cell2 w) (i 0).val) (cell1 γ) ((i 0).val % 4096) (i 1).val
    else linear (cell2 x) (cell1 g) (cell2 w) (i 0).val (i 1).val := by
  funext i
  obtain ⟨R, col, rfl⟩ : ∃ (R : Fin 16384) (col : Fin 256), i = ix2 R col := ⟨_, _, eq_ix2 i⟩
  show _ = if col.val < 128 then turnedAt (linear (cell2 x) (cell1 g) (cell2 w) R.val) (cell1 γ) (R.val % 4096) col.val
    else linear (cell2 x) (cell1 g) (cell2 w) R.val col.val
  have hc := col.isLt
  by_cases h : col.val < 128
  · rw [if_pos h]
    refine (concatenate_pair_apply_left (t := S16384x256) 1 _ _ concatenates_S16384x128_S16384x128_S16384x256_d1 (ix2 R col) rfl
      (ix2 R ⟨col.val, h⟩) (fun a => by match a with | ⟨0, _⟩ => rfl | ⟨1, _⟩ => rfl)).trans ?_
    exact turned_apply x g w γ R ⟨col.val, h⟩
  · rw [if_neg h]
    refine (concatenate_pair_apply_right (t := S16384x256) 1 _ _ concatenates_S16384x128_S16384x128_S16384x256_d1 (ix2 R col) rfl rfl
      (ix2 R ⟨col.val - 128, by omega⟩) (fun a ha => by
        match a with
        | ⟨0, _⟩ => rfl
        | ⟨1, _⟩ => exact absurd rfl ha) (by show col.val - 128 + 128 = col.val; omega)).trans ?_
    refine (values_apply x g w R ⟨col.val - 128, by omega⟩).trans ?_
    exact congrArg (linear (cell2 x) (cell1 g) (cell2 w) R.val) (show 128 + (col.val - 128) = col.val by omega)

end Cert.ProjKvRefIdeal.Out

end
-- ==== Proof.ProjKv.Claims.lean ====
/- The claims about the projection to shared keys and values. -/
module

public import proofs.«01_k».proof.Defs
public import proofs.«01_k».proof.Proof.Gen.ProjKv.Frame
public import proofs.«01_k».proof.Proof.Gen.ProjKvIdeal.Frame
public import proofs.«01_k».proof.Proof.Gen.ProjKvRefIdeal.Run
public import proofs.«01_k».proof.Proof.Attn1.Claims
public import proofs.«01_k».proof.Proof.ProjKv.Array
public import proofs.«01_k».proof.Proof.ProjKv.Reference

@[expose] public section

noncomputable section

namespace Cert.ProjKvClaims

open Idealize.ShloMosaic Idealize.SL.Sem Idealize.ShloMosaic.ValueIdx
open Cert.Attn1Claims (finite_of_abs_lt)

/-- The precondition's side conditions. -/
theorem facts_pre : Cert.Pre_proj_kv_finite.Facts := ⟨by decide, by decide, by decide⟩

/-- The reference's frame: its run read at the arguments; it declares no semaphore. -/
theorem frame_ref : Cert.quiescent_ProjKvRefIdeal (hProjKvRefIdeal := Cert.ProjKvRefIdeal.Gen.facts) := fun m ρ _ =>
  (θ_run Cert.ProjKvRefIdeal.defs _ _).mono (fun r h => ⟨fun c => (h c).2, sem_eq_zero_of_no_sems (by decide) r.2⟩)
    (Cert.ProjKvRefIdeal.Value.run (F := Ideal) m ρ)

/-- Kernel and reference agree: both results are the keys of every row, normalised and rotated, and its values. -/
theorem algebraic : Cert.algebraic_ProjKvIdeal_ProjKvRefIdeal_pre_proj_kv_finite (hProjKvIdeal := Cert.ProjKvIdeal.Gen.facts)
    (hProjKvRefIdeal := Cert.ProjKvRefIdeal.Gen.facts) (hPre_proj_kv_finite := facts_pre) := by
  intro m ρ m' ρ' hpre hagree
  refine ⟨fun c => Cert.ProjKvIdeal.Out.outSpec m c, ?_, ?_⟩
  · refine (θ_run Cert.ProjKvIdeal.defs _ _).mono (fun r h c => ⟨(h c).1.trans ?_, (h c).2⟩) (Cert.ProjKvIdeal.Value.run_blocks m ρ)
    exact Cert.ProjKvIdeal.Out.final_spec m c (fun i => finite_of_abs_lt _ (congrFun (hpre c).1 i))
      (fun i => finite_of_abs_lt _ (congrFun (hpre c).2.1 i)) (fun i => finite_of_abs_lt _ (congrFun (hpre c).2.2 i))
  · refine (θ_run Cert.ProjKvRefIdeal.defs _ _).mono (fun r h c => ⟨(h c).1.trans ?_, (h c).2⟩) (Cert.ProjKvRefIdeal.Value.run (F := Ideal) m' ρ')
    refine (Cert.ProjKvRefIdeal.Read.val_main_v65_eq m' c).trans ?_
    rw [(hagree c).1, (hagree c).2.1, (hagree c).2.2.1, (hagree c).2.2.2]
    exact Cert.ProjKvRefIdeal.Out.result_eq _ _ _ _

end Cert.ProjKvClaims

end
-- ==== Proof.lean ====
/- The certificate: every claim of `Cert.Claim`, assembled from the modules of the single programs. -/
module

public import proofs.«01_k».proof.Defs
public import proofs.«01_k».proof.Proof.Attn1.Claims
public import proofs.«01_k».proof.Proof.Proj.Claims
public import proofs.«01_k».proof.Proof.OutB.Claims
public import proofs.«01_k».proof.Proof.OutA.Claims
public import proofs.«01_k».proof.Proof.ProjB.Claims
public import proofs.«01_k».proof.Proof.ProjKv.Claims
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.OutB
public import proofs.«01_k».proof.Proof.Gen.OutB.Skeleton
public import proofs.«01_k».proof.Proof.Gen.OutB.Launch
public import proofs.«01_k».proof.Proof.Gen.OutB.Points
public import proofs.«01_k».proof.Proof.Gen.OutB.Frame
public import proofs.«01_k».proof.Proof.Gen.OutBIdeal
public import proofs.«01_k».proof.Proof.Gen.OutBIdeal.Skeleton
public import proofs.«01_k».proof.Proof.Gen.OutBIdeal.Launch
public import proofs.«01_k».proof.Proof.Gen.OutBIdeal.Points
public import proofs.«01_k».proof.Proof.Gen.OutBIdeal.Frame
public import proofs.«01_k».proof.Proof.Gen.OutBIdeal.Value
public import proofs.«01_k».proof.Proof.Gen.OutBRefIdeal
public import proofs.«01_k».proof.Proof.Gen.OutBRefIdeal.Run
public import proofs.«01_k».proof.Proof.Gen.OutBRefIdeal.Read
public import proofs.«01_k».proof.Proof.Gen.OutA
public import proofs.«01_k».proof.Proof.Gen.OutA.Skeleton
public import proofs.«01_k».proof.Proof.Gen.OutA.Launch
public import proofs.«01_k».proof.Proof.Gen.OutA.Points
public import proofs.«01_k».proof.Proof.Gen.OutA.Frame
public import proofs.«01_k».proof.Proof.Gen.OutAIdeal
public import proofs.«01_k».proof.Proof.Gen.OutAIdeal.Skeleton
public import proofs.«01_k».proof.Proof.Gen.OutAIdeal.Launch
public import proofs.«01_k».proof.Proof.Gen.OutAIdeal.Points
public import proofs.«01_k».proof.Proof.Gen.OutAIdeal.Frame
public import proofs.«01_k».proof.Proof.Gen.OutAIdeal.Value
public import proofs.«01_k».proof.Proof.Gen.OutARefIdeal
public import proofs.«01_k».proof.Proof.Gen.OutARefIdeal.Run
public import proofs.«01_k».proof.Proof.Gen.OutARefIdeal.Read
public import proofs.«01_k».proof.Proof.Gen.ProjB
public import proofs.«01_k».proof.Proof.Gen.ProjB.Skeleton
public import proofs.«01_k».proof.Proof.Gen.ProjB.Launch
public import proofs.«01_k».proof.Proof.Gen.ProjB.Points
public import proofs.«01_k».proof.Proof.Gen.ProjB.Frame
public import proofs.«01_k».proof.Proof.Gen.ProjBIdeal
public import proofs.«01_k».proof.Proof.Gen.ProjBIdeal.Skeleton
public import proofs.«01_k».proof.Proof.Gen.ProjBIdeal.Launch
public import proofs.«01_k».proof.Proof.Gen.ProjBIdeal.Points
public import proofs.«01_k».proof.Proof.Gen.ProjBIdeal.Frame
public import proofs.«01_k».proof.Proof.Gen.ProjBIdeal.Value
public import proofs.«01_k».proof.Proof.Gen.ProjBRefIdeal
public import proofs.«01_k».proof.Proof.Gen.ProjBRefIdeal.Run
public import proofs.«01_k».proof.Proof.Gen.ProjBRefIdeal.Read
public import proofs.«01_k».proof.Proof.Gen.ProjKv
public import proofs.«01_k».proof.Proof.Gen.ProjKv.Skeleton
public import proofs.«01_k».proof.Proof.Gen.ProjKv.Launch
public import proofs.«01_k».proof.Proof.Gen.ProjKv.Points
public import proofs.«01_k».proof.Proof.Gen.ProjKv.Frame
public import proofs.«01_k».proof.Proof.Gen.ProjKvIdeal
public import proofs.«01_k».proof.Proof.Gen.ProjKvIdeal.Skeleton
public import proofs.«01_k».proof.Proof.Gen.ProjKvIdeal.Launch
public import proofs.«01_k».proof.Proof.Gen.ProjKvIdeal.Points
public import proofs.«01_k».proof.Proof.Gen.ProjKvIdeal.Frame
public import proofs.«01_k».proof.Proof.Gen.ProjKvIdeal.Value
public import proofs.«01_k».proof.Proof.Gen.ProjKvRefIdeal
public import proofs.«01_k».proof.Proof.Gen.ProjKvRefIdeal.Run
public import proofs.«01_k».proof.Proof.Gen.ProjKvRefIdeal.Read

@[expose] public section

noncomputable section

namespace Cert.Proof

open Idealize.ShloMosaic Idealize.SL.Sem

/-- Every claim of the certificate. -/
theorem claim : Cert.Claim :=
  ⟨Cert.Attn1.Gen.facts, Cert.Attn1Ideal.Gen.facts, Cert.AttnRef1Ideal.Gen.facts,
    Cert.Proj.Gen.facts, Cert.ProjIdeal.Gen.facts, Cert.ProjRefIdeal.Gen.facts,
    Cert.OutB.Gen.facts, Cert.OutBIdeal.Gen.facts, Cert.OutBRefIdeal.Gen.facts,
    Cert.OutA.Gen.facts, Cert.OutAIdeal.Gen.facts, Cert.OutARefIdeal.Gen.facts,
    Cert.ProjB.Gen.facts, Cert.ProjBIdeal.Gen.facts, Cert.ProjBRefIdeal.Gen.facts,
    Cert.ProjKv.Gen.facts, Cert.ProjKvIdeal.Gen.facts, Cert.ProjKvRefIdeal.Gen.facts,
    Cert.Attn1Claims.facts_pre, Cert.ProjClaims.facts_pre, Cert.ProjBClaims.facts_pre, Cert.ProjKvClaims.facts_pre,
    fun m ρ _ => Cert.Attn1.Gen.frame m ρ,
    fun m ρ _ => Cert.Attn1Ideal.Gen.frame m ρ,
    fun m ρ _ => Cert.Attn1Ideal.Gen.frame m ρ,
    Cert.Attn1Claims.frame_ref,
    fun m ρ _ => Cert.Attn1Claims.frame_ref m ρ trivial,
    fun m ρ _ => Cert.Proj.Gen.frame m ρ,
    fun m ρ _ => Cert.ProjIdeal.Gen.frame m ρ,
    fun m ρ _ => Cert.ProjIdeal.Gen.frame m ρ,
    Cert.ProjClaims.frame_ref,
    fun m ρ _ => Cert.ProjClaims.frame_ref m ρ trivial,
    fun m ρ _ => Cert.OutB.Gen.frame m ρ,
    fun m ρ _ => Cert.OutBIdeal.Gen.frame m ρ,
    Cert.OutBClaims.frame_ref,
    fun m ρ _ => Cert.OutA.Gen.frame m ρ,
    fun m ρ _ => Cert.OutAIdeal.Gen.frame m ρ,
    Cert.OutAClaims.frame_ref,
    fun m ρ _ => Cert.ProjB.Gen.frame m ρ,
    fun m ρ _ => Cert.ProjBIdeal.Gen.frame m ρ,
    fun m ρ _ => Cert.ProjBIdeal.Gen.frame m ρ,
    Cert.ProjBClaims.frame_ref,
    fun m ρ _ => Cert.ProjBClaims.frame_ref m ρ trivial,
    fun m ρ _ => Cert.ProjKv.Gen.frame m ρ,
    fun m ρ _ => Cert.ProjKvIdeal.Gen.frame m ρ,
    fun m ρ _ => Cert.ProjKvIdeal.Gen.frame m ρ,
    Cert.ProjKvClaims.frame_ref,
    fun m ρ _ => Cert.ProjKvClaims.frame_ref m ρ trivial,
    IdealRules.named_const.statement Cert.Attn1Ideal.κ "mask" .f32 0xF149F2CA#32 ⊥ rfl,
    Cert.Attn1Claims.algebraic,
    trivial,
    Cert.ProjClaims.algebraic,
    trivial,
    Cert.OutBClaims.algebraic,
    trivial,
    Cert.OutAClaims.algebraic,
    trivial,
    Cert.ProjBClaims.algebraic,
    trivial,
    Cert.ProjKvClaims.algebraic⟩

end Cert.Proof

end
